-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_proper_scores_apart [hPre_boxes_proper_scores_apart : Cert.Pre_boxes_proper_scores_apart.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_proper_scores_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_boxes_end_inside [hPre_boxes_end_inside : Cert.Pre_boxes_end_inside.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_end_inside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_proper_scores_apart [hPre_boxes_proper_scores_apart : Cert.Pre_boxes_proper_scores_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_proper_scores_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_boxes_end_inside [hPre_boxes_end_inside : Cert.Pre_boxes_end_inside.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_end_inside.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_boxes_proper_scores_apart [hKernelIdeal : Cert.KernelIdeal.Facts] [hPre_boxes_proper_scores_apart : Cert.Pre_boxes_proper_scores_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_proper_scores_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_boxes_end_inside [hKernelIdeal : Cert.KernelIdeal.Facts] [hPre_boxes_end_inside : Cert.Pre_boxes_end_inside.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_end_inside m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_boxes_proper_scores_apart [hReferenceIdeal : Cert.ReferenceIdeal.Facts] [hPre_boxes_proper_scores_apart : Cert.Pre_boxes_proper_scores_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_proper_scores_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_boxes_end_inside [hReferenceIdeal : Cert.ReferenceIdeal.Facts] [hPre_boxes_end_inside : Cert.Pre_boxes_end_inside.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_end_inside m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_rows_only_pre_boxes_proper_scores_apart [hKernelIdeal : Cert.KernelIdeal.Facts] [hReferenceIdeal : Cert.ReferenceIdeal.Facts] [hPre_boxes_proper_scores_apart : Cert.Pre_boxes_proper_scores_apart.Facts] [hOn_rows_only : Cert.On_rows_only.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_proper_scores_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨5, ![4, 100, 24, 24, 3]⟩ : Shape).Idx, (Cert.On_rows_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v10) i = v0 c i)
          ∧ (∀ i : (⟨3, ![4, 100, 5]⟩ : Shape).Idx, (Cert.On_rows_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v9_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨5, ![4, 100, 24, 24, 3]⟩ : Shape).Idx, (Cert.On_rows_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v101) i = v0 c i)
          ∧ (∀ i : (⟨3, ![4, 100, 5]⟩ : Shape).Idx, (Cert.On_rows_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ReferenceIdeal.nD Cert.ReferenceIdeal.τ).loc Cert.ReferenceIdeal.main_v19) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ReferenceIdeal_pre_boxes_end_inside [hKernelIdeal : Cert.KernelIdeal.Facts] [hReferenceIdeal : Cert.ReferenceIdeal.Facts] [hPre_boxes_end_inside : Cert.Pre_boxes_end_inside.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_end_inside m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_boxes_proper_scores_apart : Cert.Pre_boxes_proper_scores_apart.Facts) (hPre_boxes_end_inside : Cert.Pre_boxes_end_inside.Facts) (hOn_rows_only : Cert.On_rows_only.Facts),
    quiescent_Kernel (hKernel := hKernel)
    ∧ quiescent_KernelIdeal (hKernelIdeal := hKernelIdeal)
    ∧ quiescent_KernelIdeal_pre_boxes_proper_scores_apart (hKernelIdeal := hKernelIdeal) (hPre_boxes_proper_scores_apart := hPre_boxes_proper_scores_apart)
    ∧ quiescent_KernelIdeal_pre_boxes_end_inside (hKernelIdeal := hKernelIdeal) (hPre_boxes_end_inside := hPre_boxes_end_inside)
    ∧ quiescent_ReferenceIdeal (hReferenceIdeal := hReferenceIdeal)
    ∧ quiescent_ReferenceIdeal_pre_boxes_proper_scores_apart (hReferenceIdeal := hReferenceIdeal) (hPre_boxes_proper_scores_apart := hPre_boxes_proper_scores_apart)
    ∧ quiescent_ReferenceIdeal_pre_boxes_end_inside (hReferenceIdeal := hReferenceIdeal) (hPre_boxes_end_inside := hPre_boxes_end_inside)
    ∧ preserves_Kernel_KernelIdeal
    ∧ algebraic_KernelIdeal_ReferenceIdeal_on_rows_only_pre_boxes_proper_scores_apart (hKernelIdeal := hKernelIdeal) (hReferenceIdeal := hReferenceIdeal) (hPre_boxes_proper_scores_apart := hPre_boxes_proper_scores_apart) (hOn_rows_only := hOn_rows_only)
    ∧ algebraic_KernelIdeal_ReferenceIdeal_pre_boxes_end_inside (hKernelIdeal := hKernelIdeal) (hReferenceIdeal := hReferenceIdeal) (hPre_boxes_end_inside := hPre_boxes_end_inside)
-- ==== On_rows_only.lean ====
abbrev S4x20000x5 : Shape := ⟨3, ![4, 20000, 5]⟩
abbrev S4x512x512x3 : Shape := ⟨4, ![4, 512, 512, 3]⟩
abbrev S_ : Shape := ⟨0, ![]⟩
abbrev S4x100x24x24x3 : Shape := ⟨5, ![4, 100, 24, 24, 3]⟩
abbrev S4x100x5 : Shape := ⟨3, ![4, 100, 5]⟩

class Facts : Prop where
  bcast_S_S4x100x24x24x3 : S_.BroadcastsInDim S4x100x24x24x3 (![] : Fin 0 → Fin S4x100x24x24x3.rank)
  bcast_S_S4x100x5 : S_.BroadcastsInDim S4x100x5 (![] : Fin 0 → Fin S4x100x5.rank)

variable [Facts]

def fn {F : FTy → Type} [FloatOps F] (main_arg0 : FVec F S4x20000x5 .f32) (main_arg1 : FVec F S4x512x512x3 .f32) : IVec S4x100x24x24x3 1 × IVec S4x100x5 1 :=
  let main_c : IVec S_ 1 := constantI S_ 1 0#1
  let main_v0 : IVec S4x100x24x24x3 1 := broadcastInDim S4x100x24x24x3 ![] bcast_S_S4x100x24x24x3 main_c
  let main_c_0 : IVec S_ 1 := constantI S_ 1 1#1
  let main_v1 : IVec S4x100x5 1 := broadcastInDim S4x100x5 ![] bcast_S_S4x100x5 main_c_0
  (main_v0, main_v1)
-- ==== Pre_boxes_end_inside.lean ====
abbrev S4x20000x5 : Shape := ⟨3, ![4, 20000, 5]⟩
abbrev S4x512x512x3 : Shape := ⟨4, ![4, 512, 512, 3]⟩
abbrev S4x20000x1 : Shape := ⟨3, ![4, 20000, 1]⟩
abbrev S4x20000 : Shape := ⟨2, ![4, 20000]⟩
abbrev S_ : Shape := ⟨0, ![]⟩
abbrev S4x1x20000 : Shape := ⟨3, ![4, 1, 20000]⟩
abbrev S20000 : Shape := ⟨1, ![20000]⟩
abbrev S20000x1 : Shape := ⟨2, ![20000, 1]⟩
abbrev S1x20000 : Shape := ⟨2, ![1, 20000]⟩
abbrev S20000x20000 : Shape := ⟨2, ![20000, 20000]⟩
abbrev S1x20000x20000 : Shape := ⟨3, ![1, 20000, 20000]⟩
abbrev S4x20000x20000 : Shape := ⟨3, ![4, 20000, 20000]⟩

class Facts : Prop where
  slices_S4x20000x5_S4x20000x1_0_0_0 : S4x20000x5.Slices ![0, 0, 0] S4x20000x1
  shapeCasts_S4x20000x1_S4x20000 : S4x20000x1.ShapeCasts S4x20000
  slices_S4x20000x5_S4x20000x1_0_0_1 : S4x20000x5.Slices ![0, 0, 1] S4x20000x1
  slices_S4x20000x5_S4x20000x1_0_0_2 : S4x20000x5.Slices ![0, 0, 2] S4x20000x1
  slices_S4x20000x5_S4x20000x1_0_0_3 : S4x20000x5.Slices ![0, 0, 3] S4x20000x1
  bcast_S_S4x20000 : S_.BroadcastsInDim S4x20000 (![] : Fin 0 → Fin S4x20000.rank)
  slices_S4x20000x5_S4x20000x1_0_0_4 : S4x20000x5.Slices ![0, 0, 4] S4x20000x1
  bcast_S4x20000_S4x20000x1_0_1 : S4x20000.BroadcastsInDim S4x20000x1 (![0, 1] : Fin 2 → Fin S4x20000x1.rank)
  bcast_S4x20000_S4x1x20000_0_2 : S4x20000.BroadcastsInDim S4x1x20000 (![0, 2] : Fin 2 → Fin S4x1x20000.rank)
  bcast_S20000_S20000x1_0 : S20000.BroadcastsInDim S20000x1 (![0] : Fin 1 → Fin S20000x1.rank)
  bcast_S20000_S1x20000_1 : S20000.BroadcastsInDim S1x20000 (![1] : Fin 1 → Fin S1x20000.rank)
  bcast_S20000x1_S20000x20000_0_1 : S20000x1.BroadcastsInDim S20000x20000 (![0, 1] : Fin 2 → Fin S20000x20000.rank)
  bcast_S1x20000_S20000x20000_0_1 : S1x20000.BroadcastsInDim S20000x20000 (![0, 1] : Fin 2 → Fin S20000x20000.rank)
  bcast_S20000x20000_S1x20000x20000_1_2 : S20000x20000.BroadcastsInDim S1x20000x20000 (![1, 2] : Fin 2 → Fin S1x20000x20000.rank)
  bcast_S4x20000x1_S4x20000x20000_0_1_2 : S4x20000x1.BroadcastsInDim S4x20000x20000 (![0, 1, 2] : Fin 3 → Fin S4x20000x20000.rank)
  bcast_S4x1x20000_S4x20000x20000_0_1_2 : S4x1x20000.BroadcastsInDim S4x20000x20000 (![0, 1, 2] : Fin 3 → Fin S4x20000x20000.rank)
  bcast_S_S4x20000x1 : S_.BroadcastsInDim S4x20000x1 (![] : Fin 0 → Fin S4x20000x1.rank)
  bcast_S1x20000x20000_S4x20000x20000_0_1_2 : S1x20000x20000.BroadcastsInDim S4x20000x20000 (![0, 1, 2] : Fin 3 → Fin S4x20000x20000.rank)
  reducesTo_S4x20000_S_d0_1 : S4x20000.ReducesTo [0, 1] S_
  h_S_ : 0 < S_.numel
  reducesTo_S4x20000x20000_S_d0_1_2 : S4x20000x20000.ReducesTo [0, 1, 2] S_

variable [Facts]

def fn_part3 {F : FTy → Type} [FloatOps F] (main_v18 : IVec S4x20000 1) (main_v60 : IVec S4x20000x20000 1) (main_v61 : IVec S4x20000 1) (main_c : IVec S_ 1) : IVec S_ 1 :=
  let main_v62 : IVec S_ 1 := (fun x v => Host.reduce IntOp.andi x v reducesTo_S4x20000_S_d0_1 h_S_) main_v61 main_c
  let main_c_8 : IVec S_ 1 := constantI S_ 1 1#1
  let main_v63 : IVec S_ 1 := (fun x v => Host.reduce IntOp.andi x v reducesTo_S4x20000x20000_S_d0_1_2 h_S_) main_v60 main_c_8
  let main_v64 : IVec S_ 1 := andi main_v62 main_v63
  let main_c_9 : IVec S_ 1 := constantI S_ 1 1#1
  let main_v65 : IVec S_ 1 := (fun x v => Host.reduce IntOp.andi x v reducesTo_S4x20000_S_d0_1 h_S_) main_v18 main_c_9
  let main_v66 : IVec S_ 1 := andi main_v64 main_v65
  main_v66

def fn_part2 {F : FTy → Type} [FloatOps F] (main_v18 : IVec S4x20000 1) (main_v26 : FVec F S4x20000 .f32) (main_v28 : FVec F S4x20000 .f32) (main_v35 : IVec S4x20000 1) (main_v39 : IVec S4x20000 1) (main_cst_6 : FVec F S_ .f32) : IVec S_ 1 :=
  let main_v40 : FVec F S4x20000 .f32 := broadcastInDim S4x20000 ![] bcast_S_S4x20000 main_cst_6
  let main_v41 : IVec S4x20000 1 := cmpf .olt main_v26 main_v40
  let main_v42 : IVec S4x20000 1 := andi main_v39 main_v41
  let main_v43 : FVec F S4x20000x1 .f32 := broadcastInDim S4x20000x1 ![0, 1] bcast_S4x20000_S4x20000x1_0_1 main_v28
  let main_v44 : FVec F S4x1x20000 .f32 := broadcastInDim S4x1x20000 ![0, 2] bcast_S4x20000_S4x1x20000_0_2 main_v28
  let main_v45 : IVec S20000 32 := iotaInDim S20000 32 0
  let main_v46 : IVec S20000x1 32 := broadcastInDim S20000x1 ![0] bcast_S20000_S20000x1_0 main_v45
  let main_v47 : IVec S1x20000 32 := broadcastInDim S1x20000 ![1] bcast_S20000_S1x20000_1 main_v45
  let main_v48 : IVec S20000x20000 32 := broadcastInDim S20000x20000 ![0, 1] bcast_S20000x1_S20000x20000_0_1 main_v46
  let main_v49 : IVec S20000x20000 32 := broadcastInDim S20000x20000 ![0, 1] bcast_S1x20000_S20000x20000_0_1 main_v47
  let main_v50 : IVec S20000x20000 1 := cmpi .eq main_v48 main_v49
  let main_v51 : IVec S1x20000x20000 1 := broadcastInDim S1x20000x20000 ![1, 2] bcast_S20000x20000_S1x20000x20000_1_2 main_v50
  let main_v52 : FVec F S4x20000x20000 .f32 := broadcastInDim S4x20000x20000 ![0, 1, 2] bcast_S4x20000x1_S4x20000x20000_0_1_2 main_v43
  let main_v53 : FVec F S4x20000x20000 .f32 := broadcastInDim S4x20000x20000 ![0, 1, 2] bcast_S4x1x20000_S4x20000x20000_0_1_2 main_v44
  let main_v54 : IVec S4x20000x20000 1 := cmpf .une main_v52 main_v53
  let main_cst_7 : FVec F S_ .f32 := constant S_ .f32 0xFF800000#32
  let main_v55 : FVec F S4x20000x1 .f32 := broadcastInDim S4x20000x1 ![] bcast_S_S4x20000x1 main_cst_7
  let main_v56 : IVec S4x20000x1 1 := cmpf .oeq main_v43 main_v55
  let main_v57 : IVec S4x20000x20000 1 := broadcastInDim S4x20000x20000 ![0, 1, 2] bcast_S4x20000x1_S4x20000x20000_0_1_2 main_v56
  let main_v58 : IVec S4x20000x20000 1 := ori main_v54 main_v57
  let main_v59 : IVec S4x20000x20000 1 := broadcastInDim S4x20000x20000 ![0, 1, 2] bcast_S1x20000x20000_S4x20000x20000_0_1_2 main_v51
  let main_v60 : IVec S4x20000x20000 1 := ori main_v58 main_v59
  let main_v61 : IVec S4x20000 1 := andi main_v35 main_v42
  let main_c : IVec S_ 1 := constantI S_ 1 1#1
  fn_part3 (F := F) main_v18 main_v60 main_v61 main_c

def fn_part1 {F : FTy → Type} [FloatOps F] (main_arg0 : FVec F S4x20000x5 .f32) (main_v18 : IVec S4x20000 1) (main_v19 : FVec F S4x20000x1 .f32) : IVec S_ 1 :=
  let main_v20 : FVec F S4x20000 .f32 := shapeCast S4x20000 main_v19 shapeCasts_S4x20000x1_S4x20000
  let main_v21 : FVec F S4x20000x1 .f32 := (extractStridedSlice S4x20000x1 ![0, 0, 1] · slices_S4x20000x5_S4x20000x1_0_0_1) main_arg0
  let main_v22 : FVec F S4x20000 .f32 := shapeCast S4x20000 main_v21 shapeCasts_S4x20000x1_S4x20000
  let main_v23 : FVec F S4x20000x1 .f32 := (extractStridedSlice S4x20000x1 ![0, 0, 2] · slices_S4x20000x5_S4x20000x1_0_0_2) main_arg0
  let main_v24 : FVec F S4x20000 .f32 := shapeCast S4x20000 main_v23 shapeCasts_S4x20000x1_S4x20000
  let main_v25 : FVec F S4x20000x1 .f32 := (extractStridedSlice S4x20000x1 ![0, 0, 3] · slices_S4x20000x5_S4x20000x1_0_0_3) main_arg0
  let main_v26 : FVec F S4x20000 .f32 := shapeCast S4x20000 main_v25 shapeCasts_S4x20000x1_S4x20000
  let main_v27 : FVec F S4x20000x1 .f32 := (extractStridedSlice S4x20000x1 ![0, 0, 4] · slices_S4x20000x5_S4x20000x1_0_0_4) main_arg0
  let main_v28 : FVec F S4x20000 .f32 := shapeCast S4x20000 main_v27 shapeCasts_S4x20000x1_S4x20000
  let main_cst_3 : FVec F S_ .f32 := constant S_ .f32 0xFF800000#32
  let main_v29 : FVec F S4x20000 .f32 := broadcastInDim S4x20000 ![] bcast_S_S4x20000 main_cst_3
  let main_v30 : IVec S4x20000 1 := cmpf .ogt main_v20 main_v29
  let main_v31 : IVec S4x20000 1 := cmpf .olt main_v20 main_v24
  let main_v32 : IVec S4x20000 1 := andi main_v30 main_v31
  let main_cst_4 : FVec F S_ .f32 := constant S_ .f32 0x7F800000#32
  let main_v33 : FVec F S4x20000 .f32 := broadcastInDim S4x20000 ![] bcast_S_S4x20000 main_cst_4
  let main_v34 : IVec S4x20000 1 := cmpf .olt main_v24 main_v33
  let main_v35 : IVec S4x20000 1 := andi main_v32 main_v34
  let main_cst_5 : FVec F S_ .f32 := constant S_ .f32 0xFF800000#32
  let main_v36 : FVec F S4x20000 .f32 := broadcastInDim S4x20000 ![] bcast_S_S4x20000 main_cst_5
  let main_v37 : IVec S4x20000 1 := cmpf .ogt main_v22 main_v36
  let main_v38 : IVec S4x20000 1 := cmpf .olt main_v22 main_v26
  let main_v39 : IVec S4x20000 1 := andi main_v37 main_v38
  let main_cst_6 : FVec F S_ .f32 := constant S_ .f32 0x7F800000#32
  fn_part2 (F := F) main_v18 main_v26 main_v28 main_v35 main_v39 main_cst_6

def fn {F : FTy → Type} [FloatOps F] (main_arg0 : FVec F S4x20000x5 .f32) (main_arg1 : FVec F S4x512x512x3 .f32) : IVec S_ 1 :=
  let main_v0 : FVec F S4x20000x1 .f32 := (extractStridedSlice S4x20000x1 ![0, 0, 0] · slices_S4x20000x5_S4x20000x1_0_0_0) main_arg0
  let main_v1 : FVec F S4x20000 .f32 := shapeCast S4x20000 main_v0 shapeCasts_S4x20000x1_S4x20000
  let main_v2 : FVec F S4x20000x1 .f32 := (extractStridedSlice S4x20000x1 ![0, 0, 1] · slices_S4x20000x5_S4x20000x1_0_0_1) main_arg0
  let main_v3 : FVec F S4x20000 .f32 := shapeCast S4x20000 main_v2 shapeCasts_S4x20000x1_S4x20000
  let main_v4 : FVec F S4x20000x1 .f32 := (extractStridedSlice S4x20000x1 ![0, 0, 2] · slices_S4x20000x5_S4x20000x1_0_0_2) main_arg0
  let main_v5 : FVec F S4x20000 .f32 := shapeCast S4x20000 main_v4 shapeCasts_S4x20000x1_S4x20000
  let main_v6 : FVec F S4x20000x1 .f32 := (extractStridedSlice S4x20000x1 ![0, 0, 3] · slices_S4x20000x5_S4x20000x1_0_0_3) main_arg0
  let main_v7 : FVec F S4x20000 .f32 := shapeCast S4x20000 main_v6 shapeCasts_S4x20000x1_S4x20000
  let main_cst : FVec F S_ .f32 := constant S_ .f32 0xCE800000#32
  let main_v8 : FVec F S4x20000 .f32 := broadcastInDim S4x20000 ![] bcast_S_S4x20000 main_cst
  let main_v9 : IVec S4x20000 1 := cmpf .oge main_v1 main_v8
  let main_cst_0 : FVec F S_ .f32 := constant S_ .f32 0xCE800000#32
  let main_v10 : FVec F S4x20000 .f32 := broadcastInDim S4x20000 ![] bcast_S_S4x20000 main_cst_0
  let main_v11 : IVec S4x20000 1 := cmpf .oge main_v3 main_v10
  let main_v12 : IVec S4x20000 1 := andi main_v9 main_v11
  let main_cst_1 : FVec F S_ .f32 := constant S_ .f32 0x44000000#32
  let main_v13 : FVec F S4x20000 .f32 := broadcastInDim S4x20000 ![] bcast_S_S4x20000 main_cst_1
  let main_v14 : IVec S4x20000 1 := cmpf .ole main_v5 main_v13
  let main_v15 : IVec S4x20000 1 := andi main_v12 main_v14
  let main_cst_2 : FVec F S_ .f32 := constant S_ .f32 0x44000000#32
  let main_v16 : FVec F S4x20000 .f32 := broadcastInDim S4x20000 ![] bcast_S_S4x20000 main_cst_2
  let main_v17 : IVec S4x20000 1 := cmpf .ole main_v7 main_v16
  let main_v18 : IVec S4x20000 1 := andi main_v15 main_v17
  let main_v19 : FVec F S4x20000x1 .f32 := (extractStridedSlice S4x20000x1 ![0, 0, 0] · slices_S4x20000x5_S4x20000x1_0_0_0) main_arg0
  fn_part1 (F := F) main_arg0 main_v18 main_v19
-- ==== Pre_boxes_proper_scores_apart.lean ====
abbrev S4x20000x5 : Shape := ⟨3, ![4, 20000, 5]⟩
abbrev S4x512x512x3 : Shape := ⟨4, ![4, 512, 512, 3]⟩
abbrev S4x20000x1 : Shape := ⟨3, ![4, 20000, 1]⟩
abbrev S4x20000 : Shape := ⟨2, ![4, 20000]⟩
abbrev S_ : Shape := ⟨0, ![]⟩
abbrev S4x1x20000 : Shape := ⟨3, ![4, 1, 20000]⟩
abbrev S20000 : Shape := ⟨1, ![20000]⟩
abbrev S20000x1 : Shape := ⟨2, ![20000, 1]⟩
abbrev S1x20000 : Shape := ⟨2, ![1, 20000]⟩
abbrev S20000x20000 : Shape := ⟨2, ![20000, 20000]⟩
abbrev S1x20000x20000 : Shape := ⟨3, ![1, 20000, 20000]⟩
abbrev S4x20000x20000 : Shape := ⟨3, ![4, 20000, 20000]⟩

class Facts : Prop where
  slices_S4x20000x5_S4x20000x1_0_0_0 : S4x20000x5.Slices ![0, 0, 0] S4x20000x1
  shapeCasts_S4x20000x1_S4x20000 : S4x20000x1.ShapeCasts S4x20000
  slices_S4x20000x5_S4x20000x1_0_0_1 : S4x20000x5.Slices ![0, 0, 1] S4x20000x1
  slices_S4x20000x5_S4x20000x1_0_0_2 : S4x20000x5.Slices ![0, 0, 2] S4x20000x1
  slices_S4x20000x5_S4x20000x1_0_0_3 : S4x20000x5.Slices ![0, 0, 3] S4x20000x1
  slices_S4x20000x5_S4x20000x1_0_0_4 : S4x20000x5.Slices ![0, 0, 4] S4x20000x1
  bcast_S_S4x20000 : S_.BroadcastsInDim S4x20000 (![] : Fin 0 → Fin S4x20000.rank)
  bcast_S4x20000_S4x20000x1_0_1 : S4x20000.BroadcastsInDim S4x20000x1 (![0, 1] : Fin 2 → Fin S4x20000x1.rank)
  bcast_S4x20000_S4x1x20000_0_2 : S4x20000.BroadcastsInDim S4x1x20000 (![0, 2] : Fin 2 → Fin S4x1x20000.rank)
  bcast_S20000_S20000x1_0 : S20000.BroadcastsInDim S20000x1 (![0] : Fin 1 → Fin S20000x1.rank)
  bcast_S20000_S1x20000_1 : S20000.BroadcastsInDim S1x20000 (![1] : Fin 1 → Fin S1x20000.rank)
  bcast_S20000x1_S20000x20000_0_1 : S20000x1.BroadcastsInDim S20000x20000 (![0, 1] : Fin 2 → Fin S20000x20000.rank)
  bcast_S1x20000_S20000x20000_0_1 : S1x20000.BroadcastsInDim S20000x20000 (![0, 1] : Fin 2 → Fin S20000x20000.rank)
  bcast_S20000x20000_S1x20000x20000_1_2 : S20000x20000.BroadcastsInDim S1x20000x20000 (![1, 2] : Fin 2 → Fin S1x20000x20000.rank)
  bcast_S4x20000x1_S4x20000x20000_0_1_2 : S4x20000x1.BroadcastsInDim S4x20000x20000 (![0, 1, 2] : Fin 3 → Fin S4x20000x20000.rank)
  bcast_S4x1x20000_S4x20000x20000_0_1_2 : S4x1x20000.BroadcastsInDim S4x20000x20000 (![0, 1, 2] : Fin 3 → Fin S4x20000x20000.rank)
  bcast_S_S4x20000x1 : S_.BroadcastsInDim S4x20000x1 (![] : Fin 0 → Fin S4x20000x1.rank)
  bcast_S1x20000x20000_S4x20000x20000_0_1_2 : S1x20000x20000.BroadcastsInDim S4x20000x20000 (![0, 1, 2] : Fin 3 → Fin S4x20000x20000.rank)
  reducesTo_S4x20000_S_d0_1 : S4x20000.ReducesTo [0, 1] S_
  h_S_ : 0 < S_.numel
  reducesTo_S4x20000x20000_S_d0_1_2 : S4x20000x20000.ReducesTo [0, 1, 2] S_

variable [Facts]

def fn_part2 {F : FTy → Type} [FloatOps F] (main_v41 : IVec S4x20000x20000 1) (main_v42 : IVec S4x20000 1) : IVec S_ 1 :=
  let main_c : IVec S_ 1 := constantI S_ 1 1#1
  let main_v43 : IVec S_ 1 := (fun x v => Host.reduce IntOp.andi x v reducesTo_S4x20000_S_d0_1 h_S_) main_v42 main_c
  let main_c_4 : IVec S_ 1 := constantI S_ 1 1#1
  let main_v44 : IVec S_ 1 := (fun x v => Host.reduce IntOp.andi x v reducesTo_S4x20000x20000_S_d0_1_2 h_S_) main_v41 main_c_4
  let main_v45 : IVec S_ 1 := andi main_v43 main_v44
  main_v45

def fn_part1 {F : FTy → Type} [FloatOps F] (main_v7 : FVec F S4x20000 .f32) (main_v9 : FVec F S4x20000 .f32) (main_v16 : IVec S4x20000 1) (main_v20 : IVec S4x20000 1) : IVec S_ 1 :=
  let main_cst_2 : FVec F S_ .f32 := constant S_ .f32 0x7F800000#32
  let main_v21 : FVec F S4x20000 .f32 := broadcastInDim S4x20000 ![] bcast_S_S4x20000 main_cst_2
  let main_v22 : IVec S4x20000 1 := cmpf .olt main_v7 main_v21
  let main_v23 : IVec S4x20000 1 := andi main_v20 main_v22
  let main_v24 : FVec F S4x20000x1 .f32 := broadcastInDim S4x20000x1 ![0, 1] bcast_S4x20000_S4x20000x1_0_1 main_v9
  let main_v25 : FVec F S4x1x20000 .f32 := broadcastInDim S4x1x20000 ![0, 2] bcast_S4x20000_S4x1x20000_0_2 main_v9
  let main_v26 : IVec S20000 32 := iotaInDim S20000 32 0
  let main_v27 : IVec S20000x1 32 := broadcastInDim S20000x1 ![0] bcast_S20000_S20000x1_0 main_v26
  let main_v28 : IVec S1x20000 32 := broadcastInDim S1x20000 ![1] bcast_S20000_S1x20000_1 main_v26
  let main_v29 : IVec S20000x20000 32 := broadcastInDim S20000x20000 ![0, 1] bcast_S20000x1_S20000x20000_0_1 main_v27
  let main_v30 : IVec S20000x20000 32 := broadcastInDim S20000x20000 ![0, 1] bcast_S1x20000_S20000x20000_0_1 main_v28
  let main_v31 : IVec S20000x20000 1 := cmpi .eq main_v29 main_v30
  let main_v32 : IVec S1x20000x20000 1 := broadcastInDim S1x20000x20000 ![1, 2] bcast_S20000x20000_S1x20000x20000_1_2 main_v31
  let main_v33 : FVec F S4x20000x20000 .f32 := broadcastInDim S4x20000x20000 ![0, 1, 2] bcast_S4x20000x1_S4x20000x20000_0_1_2 main_v24
  let main_v34 : FVec F S4x20000x20000 .f32 := broadcastInDim S4x20000x20000 ![0, 1, 2] bcast_S4x1x20000_S4x20000x20000_0_1_2 main_v25
  let main_v35 : IVec S4x20000x20000 1 := cmpf .une main_v33 main_v34
  let main_cst_3 : FVec F S_ .f32 := constant S_ .f32 0xFF800000#32
  let main_v36 : FVec F S4x20000x1 .f32 := broadcastInDim S4x20000x1 ![] bcast_S_S4x20000x1 main_cst_3
  let main_v37 : IVec S4x20000x1 1 := cmpf .oeq main_v24 main_v36
  let main_v38 : IVec S4x20000x20000 1 := broadcastInDim S4x20000x20000 ![0, 1, 2] bcast_S4x20000x1_S4x20000x20000_0_1_2 main_v37
  let main_v39 : IVec S4x20000x20000 1 := ori main_v35 main_v38
  let main_v40 : IVec S4x20000x20000 1 := broadcastInDim S4x20000x20000 ![0, 1, 2] bcast_S1x20000x20000_S4x20000x20000_0_1_2 main_v32
  let main_v41 : IVec S4x20000x20000 1 := ori main_v39 main_v40
  let main_v42 : IVec S4x20000 1 := andi main_v16 main_v23
  fn_part2 (F := F) main_v41 main_v42

def fn {F : FTy → Type} [FloatOps F] (main_arg0 : FVec F S4x20000x5 .f32) (main_arg1 : FVec F S4x512x512x3 .f32) : IVec S_ 1 :=
  let main_v0 : FVec F S4x20000x1 .f32 := (extractStridedSlice S4x20000x1 ![0, 0, 0] · slices_S4x20000x5_S4x20000x1_0_0_0) main_arg0
  let main_v1 : FVec F S4x20000 .f32 := shapeCast S4x20000 main_v0 shapeCasts_S4x20000x1_S4x20000
  let main_v2 : FVec F S4x20000x1 .f32 := (extractStridedSlice S4x20000x1 ![0, 0, 1] · slices_S4x20000x5_S4x20000x1_0_0_1) main_arg0
  let main_v3 : FVec F S4x20000 .f32 := shapeCast S4x20000 main_v2 shapeCasts_S4x20000x1_S4x20000
  let main_v4 : FVec F S4x20000x1 .f32 := (extractStridedSlice S4x20000x1 ![0, 0, 2] · slices_S4x20000x5_S4x20000x1_0_0_2) main_arg0
  let main_v5 : FVec F S4x20000 .f32 := shapeCast S4x20000 main_v4 shapeCasts_S4x20000x1_S4x20000
  let main_v6 : FVec F S4x20000x1 .f32 := (extractStridedSlice S4x20000x1 ![0, 0, 3] · slices_S4x20000x5_S4x20000x1_0_0_3) main_arg0
  let main_v7 : FVec F S4x20000 .f32 := shapeCast S4x20000 main_v6 shapeCasts_S4x20000x1_S4x20000
  let main_v8 : FVec F S4x20000x1 .f32 := (extractStridedSlice S4x20000x1 ![0, 0, 4] · slices_S4x20000x5_S4x20000x1_0_0_4) main_arg0
  let main_v9 : FVec F S4x20000 .f32 := shapeCast S4x20000 main_v8 shapeCasts_S4x20000x1_S4x20000
  let main_cst : FVec F S_ .f32 := constant S_ .f32 0xFF800000#32
  let main_v10 : FVec F S4x20000 .f32 := broadcastInDim S4x20000 ![] bcast_S_S4x20000 main_cst
  let main_v11 : IVec S4x20000 1 := cmpf .ogt main_v1 main_v10
  let main_v12 : IVec S4x20000 1 := cmpf .olt main_v1 main_v5
  let main_v13 : IVec S4x20000 1 := andi main_v11 main_v12
  let main_cst_0 : FVec F S_ .f32 := constant S_ .f32 0x7F800000#32
  let main_v14 : FVec F S4x20000 .f32 := broadcastInDim S4x20000 ![] bcast_S_S4x20000 main_cst_0
  let main_v15 : IVec S4x20000 1 := cmpf .olt main_v5 main_v14
  let main_v16 : IVec S4x20000 1 := andi main_v13 main_v15
  let main_cst_1 : FVec F S_ .f32 := constant S_ .f32 0xFF800000#32
  let main_v17 : FVec F S4x20000 .f32 := broadcastInDim S4x20000 ![] bcast_S_S4x20000 main_cst_1
  let main_v18 : IVec S4x20000 1 := cmpf .ogt main_v3 main_v17
  let main_v19 : IVec S4x20000 1 := cmpf .olt main_v3 main_v7
  let main_v20 : IVec S4x20000 1 := andi main_v18 main_v19
  fn_part1 (F := F) main_v7 main_v9 main_v16 main_v20
-- ==== Kernel.lean ====
abbrev S4x20000x5 : Shape := ⟨3, ![4, 20000, 5]⟩
abbrev S4x512x512x3 : Shape := ⟨4, ![4, 512, 512, 3]⟩
abbrev S4x5x20000 : Shape := ⟨3, ![4, 5, 20000]⟩
abbrev S_ : Shape := ⟨0, ![]⟩
abbrev S4x5x20480 : Shape := ⟨3, ![4, 5, 20480]⟩
abbrev S4x5x160x128 : Shape := ⟨4, ![4, 5, 160, 128]⟩
abbrev S4x20000x4 : Shape := ⟨3, ![4, 20000, 4]⟩
abbrev S4x4x20000 : Shape := ⟨3, ![4, 4, 20000]⟩
abbrev S4x4x20480 : Shape := ⟨3, ![4, 4, 20480]⟩
abbrev S4x4x2560x8 : Shape := ⟨4, ![4, 4, 2560, 8]⟩
abbrev S4x3x512x512 : Shape := ⟨4, ![4, 3, 512, 512]⟩
abbrev S4x3x100x24x24 : Shape := ⟨5, ![4, 3, 100, 24, 24]⟩
abbrev S4x100x5 : Shape := ⟨3, ![4, 100, 5]⟩
abbrev S4x100x8 : Shape := ⟨3, ![4, 100, 8]⟩
abbrev S4x160x128 : Shape := ⟨3, ![4, 160, 128]⟩
abbrev S8x128 : Shape := ⟨2, ![8, 128]⟩
abbrev S8x8 : Shape := ⟨2, ![8, 8]⟩
abbrev S1x8 : Shape := ⟨2, ![1, 8]⟩
abbrev S1x1x160x128 : Shape := ⟨4, ![1, 1, 160, 128]⟩
abbrev S160x128 : Shape := ⟨2, ![160, 128]⟩
abbrev S1x160x128 : Shape := ⟨3, ![1, 160, 128]⟩
abbrev S4x128 : Shape := ⟨2, ![4, 128]⟩
abbrev S2x128 : Shape := ⟨2, ![2, 128]⟩
abbrev S1x128 : Shape := ⟨2, ![1, 128]⟩
abbrev S1x64 : Shape := ⟨2, ![1, 64]⟩
abbrev S1x32 : Shape := ⟨2, ![1, 32]⟩
abbrev S1x16 : Shape := ⟨2, ![1, 16]⟩
abbrev S1x4 : Shape := ⟨2, ![1, 4]⟩
abbrev S1x2 : Shape := ⟨2, ![1, 2]⟩
abbrev S1x1 : Shape := ⟨2, ![1, 1]⟩
abbrev S1x1x8x8 : Shape := ⟨4, ![1, 1, 8, 8]⟩
abbrev S1x8x8 : Shape := ⟨3, ![1, 8, 8]⟩
abbrev S1 : Shape := ⟨1, ![1]⟩
abbrev S1x1x1 : Shape := ⟨3, ![1, 1, 1]⟩
abbrev S1x5 : Shape := ⟨2, ![1, 5]⟩
abbrev S1x1x5 : Shape := ⟨3, ![1, 1, 5]⟩
abbrev S24x1 : Shape := ⟨2, ![24, 1]⟩
abbrev S240x512 : Shape := ⟨2, ![240, 512]⟩
abbrev S240x1 : Shape := ⟨2, ![240, 1]⟩
abbrev S1x1x512x512 : Shape := ⟨4, ![1, 1, 512, 512]⟩
abbrev S512x512 : Shape := ⟨2, ![512, 512]⟩
abbrev S512x240 : Shape := ⟨2, ![512, 240]⟩
abbrev S240x240 : Shape := ⟨2, ![240, 240]⟩
abbrev S24x24 : Shape := ⟨2, ![24, 24]⟩
abbrev S1x24x24 : Shape := ⟨3, ![1, 24, 24]⟩
abbrev S1x1x1x24x24 : Shape := ⟨5, ![1, 1, 1, 24, 24]⟩
abbrev S4x100x24x24x3 : Shape := ⟨5, ![4, 100, 24, 24, 3]⟩

abbrev nBuf : Space → Nat
  | .hbm => 18
  | .vmem => 6
  | .smem => 1
  | _ => 0

abbrev bufTy : (tb : Table) → Fin (tcTables nBuf tb) → BufTy
  | .hbm, ⟨0, _⟩ => ⟨S4x20000x5, .f32⟩
  | .hbm, ⟨1, _⟩ => ⟨S4x512x512x3, .f32⟩
  | .hbm, ⟨2, _⟩ => ⟨S4x5x20000, .f32⟩
  | .hbm, ⟨3, _⟩ => ⟨S_, .f32⟩
  | .hbm, ⟨4, _⟩ => ⟨S_, .f32⟩
  | .hbm, ⟨5, _⟩ => ⟨S4x5x20480, .f32⟩
  | .hbm, ⟨6, _⟩ => ⟨S4x5x160x128, .f32⟩
  | .hbm, ⟨7, _⟩ => ⟨S4x20000x4, .f32⟩
  | .hbm, ⟨8, _⟩ => ⟨S4x4x20000, .f32⟩
  | .hbm, ⟨9, _⟩ => ⟨S_, .i32⟩
  | .hbm, ⟨10, _⟩ => ⟨S_, .f32⟩
  | .hbm, ⟨11, _⟩ => ⟨S4x4x20480, .f32⟩
  | .hbm, ⟨12, _⟩ => ⟨S4x4x2560x8, .f32⟩
  | .hbm, ⟨13, _⟩ => ⟨S4x3x512x512, .f32⟩
  | .hbm, ⟨14, _⟩ => ⟨S4x3x512x512, .bf16⟩
  | .hbm, ⟨15, _⟩ => ⟨S4x3x100x24x24, .f32⟩
  | .hbm, ⟨16, _⟩ => ⟨S4x100x5, .f32⟩
  | .hbm, ⟨17, _⟩ => ⟨S4x100x24x24x3, .f32⟩
  | .local _ .vmem, ⟨0, _⟩ => ⟨S4x5x160x128, .f32⟩
  | .local _ .vmem, ⟨1, _⟩ => ⟨S4x4x2560x8, .f32⟩
  | .local _ .vmem, ⟨2, _⟩ => ⟨S4x3x512x512, .bf16⟩
  | .local _ .vmem, ⟨3, _⟩ => ⟨S4x3x100x24x24, .f32⟩
  | .local _ .vmem, ⟨4, _⟩ => ⟨S4x100x5, .f32⟩
  | .local _ .vmem, ⟨5, _⟩ => ⟨S4x160x128, .f32⟩
  | .local _ .smem, ⟨0, _⟩ => ⟨S4x100x8, .f32⟩
  | _, _ => ⟨S4x20000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch1 : Ref sig .tc := ⟨.vmem, 5, rfl⟩
abbrev cc0_scratch0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c100_i32 : BitVec 32 := 100#32
  let v72 : BitVec 32 := Scalar.addi c0_i32 c100_i32
  let c1_i32 : BitVec 32 := 1#32
  ⟨c0_i32, v72, c1_i32⟩
def k0_mult1 (v272 : BitVec 32) : BitVec 32 :=
  let c0_i32_158 : BitVec 32 := 0#32
  let v851 : BitVec 1 := Scalar.cmpi .sgt v272 c0_i32_158
  let v852 : BitVec 32 := Scalar.extui v851
  let c0_i32_159 : BitVec 32 := 0#32
  let v853 : BitVec 1 := Scalar.cmpi .slt v272 c0_i32_159
  let v854 : BitVec 32 := Scalar.extui v853
  let v855 : BitVec 32 := Scalar.subi v852 v854
  let c8_i32_157 : BitVec 32 := 8#32
  let c0_i32_160 : BitVec 32 := 0#32
  let v856 : BitVec 1 := Scalar.cmpi .sgt c8_i32_157 c0_i32_160
  let v857 : BitVec 32 := Scalar.extui v856
  let c0_i32_161 : BitVec 32 := 0#32
  let v858 : BitVec 1 := Scalar.cmpi .slt c8_i32_157 c0_i32_161
  let v859 : BitVec 32 := Scalar.extui v858
  let v860 : BitVec 32 := Scalar.subi v857 v859
  let v861 : BitVec 1 := Scalar.cmpi .ne v855 v860
  let v862 : BitVec 32 := Scalar.remsi v272 c8_i32_157
  let c0_i32_162 : BitVec 32 := 0#32
  let v863 : BitVec 1 := Scalar.cmpi .ne v862 c0_i32_162
  let v864 : BitVec 1 := Scalar.andi v861 v863
  let v850 : BitVec 32 := Scalar.divsi v272 c8_i32_157
  let c1_i32_163 : BitVec 32 := 1#32
  let v865 : BitVec 32 := Scalar.subi v850 c1_i32_163
  let v866 : BitVec 32 := Scalar.select v864 v865 v850
  let c0_i32_166 : BitVec 32 := 0#32
  let v870 : BitVec 1 := Scalar.cmpi .sgt v866 c0_i32_166
  let v871 : BitVec 32 := Scalar.extui v870
  let c0_i32_167 : BitVec 32 := 0#32
  let v872 : BitVec 1 := Scalar.cmpi .slt v866 c0_i32_167
  let v873 : BitVec 32 := Scalar.extui v872
  let v874 : BitVec 32 := Scalar.subi v871 v873
  let c8_i32_165 : BitVec 32 := 8#32
  let c0_i32_168 : BitVec 32 := 0#32
  let v875 : BitVec 1 := Scalar.cmpi .sgt c8_i32_165 c0_i32_168
  let v876 : BitVec 32 := Scalar.extui v875
  let c0_i32_169 : BitVec 32 := 0#32
  let v877 : BitVec 1 := Scalar.cmpi .slt c8_i32_165 c0_i32_169
  let v878 : BitVec 32 := Scalar.extui v877
  let v879 : BitVec 32 := Scalar.subi v876 v878
  let v880 : BitVec 1 := Scalar.cmpi .ne v874 v879
  let v881 : BitVec 32 := Scalar.remsi v866 c8_i32_165
  let c0_i32_170 : BitVec 32 := 0#32
  let v882 : BitVec 1 := Scalar.cmpi .ne v881 c0_i32_170
  let v883 : BitVec 1 := Scalar.andi v880 v882
  let v869 : BitVec 32 := Scalar.divsi v866 c8_i32_165
  let c1_i32_171 : BitVec 32 := 1#32
  let v884 : BitVec 32 := Scalar.subi v869 c1_i32_171
  let v885 : BitVec 32 := Scalar.select v883 v884 v869
  let c8_i32_172 : BitVec 32 := 8#32
  let v886 : BitVec 32 := Scalar.muli v885 c8_i32_172
  v886

def k0_off1 (v272 : BitVec 32) : Fin 4 → Nat :=
  let c0_173 : Index := 0#32
  let c0_174 : Index := 0#32
  let c0_i32_158 : BitVec 32 := 0#32
  let v851 : BitVec 1 := Scalar.cmpi .sgt v272 c0_i32_158
  let v852 : BitVec 32 := Scalar.extui v851
  let c0_i32_159 : BitVec 32 := 0#32
  let v853 : BitVec 1 := Scalar.cmpi .slt v272 c0_i32_159
  let v854 : BitVec 32 := Scalar.extui v853
  let v855 : BitVec 32 := Scalar.subi v852 v854
  let c8_i32_157 : BitVec 32 := 8#32
  let c0_i32_160 : BitVec 32 := 0#32
  let v856 : BitVec 1 := Scalar.cmpi .sgt c8_i32_157 c0_i32_160
  let v857 : BitVec 32 := Scalar.extui v856
  let c0_i32_161 : BitVec 32 := 0#32
  let v858 : BitVec 1 := Scalar.cmpi .slt c8_i32_157 c0_i32_161
  let v859 : BitVec 32 := Scalar.extui v858
  let v860 : BitVec 32 := Scalar.subi v857 v859
  let v861 : BitVec 1 := Scalar.cmpi .ne v855 v860
  let v862 : BitVec 32 := Scalar.remsi v272 c8_i32_157
  let c0_i32_162 : BitVec 32 := 0#32
  let v863 : BitVec 1 := Scalar.cmpi .ne v862 c0_i32_162
  let v864 : BitVec 1 := Scalar.andi v861 v863
  let v850 : BitVec 32 := Scalar.divsi v272 c8_i32_157
  let c1_i32_163 : BitVec 32 := 1#32
  let v865 : BitVec 32 := Scalar.subi v850 c1_i32_163
  let v866 : BitVec 32 := Scalar.select v864 v865 v850
  let c0_i32_166 : BitVec 32 := 0#32
  let v870 : BitVec 1 := Scalar.cmpi .sgt v866 c0_i32_166
  let v871 : BitVec 32 := Scalar.extui v870
  let c0_i32_167 : BitVec 32 := 0#32
  let v872 : BitVec 1 := Scalar.cmpi .slt v866 c0_i32_167
  let v873 : BitVec 32 := Scalar.extui v872
  let v874 : BitVec 32 := Scalar.subi v871 v873
  let c8_i32_165 : BitVec 32 := 8#32
  let c0_i32_168 : BitVec 32 := 0#32
  let v875 : BitVec 1 := Scalar.cmpi .sgt c8_i32_165 c0_i32_168
  let v876 : BitVec 32 := Scalar.extui v875
  let c0_i32_169 : BitVec 32 := 0#32
  let v877 : BitVec 1 := Scalar.cmpi .slt c8_i32_165 c0_i32_169
  let v878 : BitVec 32 := Scalar.extui v877
  let v879 : BitVec 32 := Scalar.subi v876 v878
  let v880 : BitVec 1 := Scalar.cmpi .ne v874 v879
  let v881 : BitVec 32 := Scalar.remsi v866 c8_i32_165
  let c0_i32_170 : BitVec 32 := 0#32
  let v882 : BitVec 1 := Scalar.cmpi .ne v881 c0_i32_170
  let v883 : BitVec 1 := Scalar.andi v880 v882
  let v869 : BitVec 32 := Scalar.divsi v866 c8_i32_165
  let c1_i32_171 : BitVec 32 := 1#32
  let v884 : BitVec 32 := Scalar.subi v869 c1_i32_171
  let v885 : BitVec 32 := Scalar.select v883 v884 v869
  let c8_i32_172 : BitVec 32 := 8#32
  let v886 : BitVec 32 := Scalar.muli v885 c8_i32_172
  let v887 : BitVec 32 := v886
  let v894 : Index := Scalar.indexCast v887
  let c0_175 : Index := 0#32
  ![0, 0, v894.toNat, 0]
def k0_off2 (v272 : BitVec 32) : Fin 4 → Nat :=
  let c0_178 : Index := 0#32
  let c1_179 : Index := 1#32
  let c0_i32_158 : BitVec 32 := 0#32
  let v851 : BitVec 1 := Scalar.cmpi .sgt v272 c0_i32_158
  let v852 : BitVec 32 := Scalar.extui v851
  let c0_i32_159 : BitVec 32 := 0#32
  let v853 : BitVec 1 := Scalar.cmpi .slt v272 c0_i32_159
  let v854 : BitVec 32 := Scalar.extui v853
  let v855 : BitVec 32 := Scalar.subi v852 v854
  let c8_i32_157 : BitVec 32 := 8#32
  let c0_i32_160 : BitVec 32 := 0#32
  let v856 : BitVec 1 := Scalar.cmpi .sgt c8_i32_157 c0_i32_160
  let v857 : BitVec 32 := Scalar.extui v856
  let c0_i32_161 : BitVec 32 := 0#32
  let v858 : BitVec 1 := Scalar.cmpi .slt c8_i32_157 c0_i32_161
  let v859 : BitVec 32 := Scalar.extui v858
  let v860 : BitVec 32 := Scalar.subi v857 v859
  let v861 : BitVec 1 := Scalar.cmpi .ne v855 v860
  let v862 : BitVec 32 := Scalar.remsi v272 c8_i32_157
  let c0_i32_162 : BitVec 32 := 0#32
  let v863 : BitVec 1 := Scalar.cmpi .ne v862 c0_i32_162
  let v864 : BitVec 1 := Scalar.andi v861 v863
  let v850 : BitVec 32 := Scalar.divsi v272 c8_i32_157
  let c1_i32_163 : BitVec 32 := 1#32
  let v865 : BitVec 32 := Scalar.subi v850 c1_i32_163
  let v866 : BitVec 32 := Scalar.select v864 v865 v850
  let c0_i32_166 : BitVec 32 := 0#32
  let v870 : BitVec 1 := Scalar.cmpi .sgt v866 c0_i32_166
  let v871 : BitVec 32 := Scalar.extui v870
  let c0_i32_167 : BitVec 32 := 0#32
  let v872 : BitVec 1 := Scalar.cmpi .slt v866 c0_i32_167
  let v873 : BitVec 32 := Scalar.extui v872
  let v874 : BitVec 32 := Scalar.subi v871 v873
  let c8_i32_165 : BitVec 32 := 8#32
  let c0_i32_168 : BitVec 32 := 0#32
  let v875 : BitVec 1 := Scalar.cmpi .sgt c8_i32_165 c0_i32_168
  let v876 : BitVec 32 := Scalar.extui v875
  let c0_i32_169 : BitVec 32 := 0#32
  let v877 : BitVec 1 := Scalar.cmpi .slt c8_i32_165 c0_i32_169
  let v878 : BitVec 32 := Scalar.extui v877
  let v879 : BitVec 32 := Scalar.subi v876 v878
  let v880 : BitVec 1 := Scalar.cmpi .ne v874 v879
  let v881 : BitVec 32 := Scalar.remsi v866 c8_i32_165
  let c0_i32_170 : BitVec 32 := 0#32
  let v882 : BitVec 1 := Scalar.cmpi .ne v881 c0_i32_170
  let v883 : BitVec 1 := Scalar.andi v880 v882
  let v869 : BitVec 32 := Scalar.divsi v866 c8_i32_165
  let c1_i32_171 : BitVec 32 := 1#32
  let v884 : BitVec 32 := Scalar.subi v869 c1_i32_171
  let v885 : BitVec 32 := Scalar.select v883 v884 v869
  let c8_i32_172 : BitVec 32 := 8#32
  let v886 : BitVec 32 := Scalar.muli v885 c8_i32_172
  let v887 : BitVec 32 := v886
  let v903 : Index := Scalar.indexCast v887
  let c0_180 : Index := 0#32
  ![0, 1, v903.toNat, 0]
def k0_off3 (v272 : BitVec 32) : Fin 4 → Nat :=
  let c0_183 : Index := 0#32
  let c2_184 : Index := 2#32
  let c0_i32_158 : BitVec 32 := 0#32
  let v851 : BitVec 1 := Scalar.cmpi .sgt v272 c0_i32_158
  let v852 : BitVec 32 := Scalar.extui v851
  let c0_i32_159 : BitVec 32 := 0#32
  let v853 : BitVec 1 := Scalar.cmpi .slt v272 c0_i32_159
  let v854 : BitVec 32 := Scalar.extui v853
  let v855 : BitVec 32 := Scalar.subi v852 v854
  let c8_i32_157 : BitVec 32 := 8#32
  let c0_i32_160 : BitVec 32 := 0#32
  let v856 : BitVec 1 := Scalar.cmpi .sgt c8_i32_157 c0_i32_160
  let v857 : BitVec 32 := Scalar.extui v856
  let c0_i32_161 : BitVec 32 := 0#32
  let v858 : BitVec 1 := Scalar.cmpi .slt c8_i32_157 c0_i32_161
  let v859 : BitVec 32 := Scalar.extui v858
  let v860 : BitVec 32 := Scalar.subi v857 v859
  let v861 : BitVec 1 := Scalar.cmpi .ne v855 v860
  let v862 : BitVec 32 := Scalar.remsi v272 c8_i32_157
  let c0_i32_162 : BitVec 32 := 0#32
  let v863 : BitVec 1 := Scalar.cmpi .ne v862 c0_i32_162
  let v864 : BitVec 1 := Scalar.andi v861 v863
  let v850 : BitVec 32 := Scalar.divsi v272 c8_i32_157
  let c1_i32_163 : BitVec 32 := 1#32
  let v865 : BitVec 32 := Scalar.subi v850 c1_i32_163
  let v866 : BitVec 32 := Scalar.select v864 v865 v850
  let c0_i32_166 : BitVec 32 := 0#32
  let v870 : BitVec 1 := Scalar.cmpi .sgt v866 c0_i32_166
  let v871 : BitVec 32 := Scalar.extui v870
  let c0_i32_167 : BitVec 32 := 0#32
  let v872 : BitVec 1 := Scalar.cmpi .slt v866 c0_i32_167
  let v873 : BitVec 32 := Scalar.extui v872
  let v874 : BitVec 32 := Scalar.subi v871 v873
  let c8_i32_165 : BitVec 32 := 8#32
  let c0_i32_168 : BitVec 32 := 0#32
  let v875 : BitVec 1 := Scalar.cmpi .sgt c8_i32_165 c0_i32_168
  let v876 : BitVec 32 := Scalar.extui v875
  let c0_i32_169 : BitVec 32 := 0#32
  let v877 : BitVec 1 := Scalar.cmpi .slt c8_i32_165 c0_i32_169
  let v878 : BitVec 32 := Scalar.extui v877
  let v879 : BitVec 32 := Scalar.subi v876 v878
  let v880 : BitVec 1 := Scalar.cmpi .ne v874 v879
  let v881 : BitVec 32 := Scalar.remsi v866 c8_i32_165
  let c0_i32_170 : BitVec 32 := 0#32
  let v882 : BitVec 1 := Scalar.cmpi .ne v881 c0_i32_170
  let v883 : BitVec 1 := Scalar.andi v880 v882
  let v869 : BitVec 32 := Scalar.divsi v866 c8_i32_165
  let c1_i32_171 : BitVec 32 := 1#32
  let v884 : BitVec 32 := Scalar.subi v869 c1_i32_171
  let v885 : BitVec 32 := Scalar.select v883 v884 v869
  let c8_i32_172 : BitVec 32 := 8#32
  let v886 : BitVec 32 := Scalar.muli v885 c8_i32_172
  let v887 : BitVec 32 := v886
  let v912 : Index := Scalar.indexCast v887
  let c0_185 : Index := 0#32
  ![0, 2, v912.toNat, 0]
def k0_off4 (v272 : BitVec 32) : Fin 4 → Nat :=
  let c0_188 : Index := 0#32
  let c3_189 : Index := 3#32
  let c0_i32_158 : BitVec 32 := 0#32
  let v851 : BitVec 1 := Scalar.cmpi .sgt v272 c0_i32_158
  let v852 : BitVec 32 := Scalar.extui v851
  let c0_i32_159 : BitVec 32 := 0#32
  let v853 : BitVec 1 := Scalar.cmpi .slt v272 c0_i32_159
  let v854 : BitVec 32 := Scalar.extui v853
  let v855 : BitVec 32 := Scalar.subi v852 v854
  let c8_i32_157 : BitVec 32 := 8#32
  let c0_i32_160 : BitVec 32 := 0#32
  let v856 : BitVec 1 := Scalar.cmpi .sgt c8_i32_157 c0_i32_160
  let v857 : BitVec 32 := Scalar.extui v856
  let c0_i32_161 : BitVec 32 := 0#32
  let v858 : BitVec 1 := Scalar.cmpi .slt c8_i32_157 c0_i32_161
  let v859 : BitVec 32 := Scalar.extui v858
  let v860 : BitVec 32 := Scalar.subi v857 v859
  let v861 : BitVec 1 := Scalar.cmpi .ne v855 v860
  let v862 : BitVec 32 := Scalar.remsi v272 c8_i32_157
  let c0_i32_162 : BitVec 32 := 0#32
  let v863 : BitVec 1 := Scalar.cmpi .ne v862 c0_i32_162
  let v864 : BitVec 1 := Scalar.andi v861 v863
  let v850 : BitVec 32 := Scalar.divsi v272 c8_i32_157
  let c1_i32_163 : BitVec 32 := 1#32
  let v865 : BitVec 32 := Scalar.subi v850 c1_i32_163
  let v866 : BitVec 32 := Scalar.select v864 v865 v850
  let c0_i32_166 : BitVec 32 := 0#32
  let v870 : BitVec 1 := Scalar.cmpi .sgt v866 c0_i32_166
  let v871 : BitVec 32 := Scalar.extui v870
  let c0_i32_167 : BitVec 32 := 0#32
  let v872 : BitVec 1 := Scalar.cmpi .slt v866 c0_i32_167
  let v873 : BitVec 32 := Scalar.extui v872
  let v874 : BitVec 32 := Scalar.subi v871 v873
  let c8_i32_165 : BitVec 32 := 8#32
  let c0_i32_168 : BitVec 32 := 0#32
  let v875 : BitVec 1 := Scalar.cmpi .sgt c8_i32_165 c0_i32_168
  let v876 : BitVec 32 := Scalar.extui v875
  let c0_i32_169 : BitVec 32 := 0#32
  let v877 : BitVec 1 := Scalar.cmpi .slt c8_i32_165 c0_i32_169
  let v878 : BitVec 32 := Scalar.extui v877
  let v879 : BitVec 32 := Scalar.subi v876 v878
  let v880 : BitVec 1 := Scalar.cmpi .ne v874 v879
  let v881 : BitVec 32 := Scalar.remsi v866 c8_i32_165
  let c0_i32_170 : BitVec 32 := 0#32
  let v882 : BitVec 1 := Scalar.cmpi .ne v881 c0_i32_170
  let v883 : BitVec 1 := Scalar.andi v880 v882
  let v869 : BitVec 32 := Scalar.divsi v866 c8_i32_165
  let c1_i32_171 : BitVec 32 := 1#32
  let v884 : BitVec 32 := Scalar.subi v869 c1_i32_171
  let v885 : BitVec 32 := Scalar.select v883 v884 v869
  let c8_i32_172 : BitVec 32 := 8#32
  let v886 : BitVec 32 := Scalar.muli v885 c8_i32_172
  let v887 : BitVec 32 := v886
  let v921 : Index := Scalar.indexCast v887
  let c0_190 : Index := 0#32
  ![0, 3, v921.toNat, 0]

def k0_chk1 (v272 : BitVec 32) : Prop :=
  (8 ∣ (k0_mult1 v272).toNat) ∧
  (∀ a, (k0_off1 v272) a + S1x1x8x8.size a ≤ S4x4x2560x8.size a) ∧
  (∀ a, (k0_off2 v272) a + S1x1x8x8.size a ≤ S4x4x2560x8.size a) ∧
  (∀ a, (k0_off3 v272) a + S1x1x8x8.size a ≤ S4x4x2560x8.size a) ∧
  (∀ a, (k0_off4 v272) a + S1x1x8x8.size a ≤ S4x4x2560x8.size a)
theorem k0_mult1_dvd : ∀ (v272 : BitVec 32) (k0_hw1 : k0_chk1 v272), 8 ∣ (k0_mult1 v272).toNat := fun v272 k0_hw1 => k0_hw1.1
theorem k0_off1_inb : ∀ (v272 : BitVec 32) (k0_hw1 : k0_chk1 v272), ∀ a, (k0_off1 v272) a + S1x1x8x8.size a ≤ S4x4x2560x8.size a := fun v272 k0_hw1 => k0_hw1.2.1
theorem k0_off2_inb : ∀ (v272 : BitVec 32) (k0_hw1 : k0_chk1 v272), ∀ a, (k0_off2 v272) a + S1x1x8x8.size a ≤ S4x4x2560x8.size a := fun v272 k0_hw1 => k0_hw1.2.2.1
theorem k0_off3_inb : ∀ (v272 : BitVec 32) (k0_hw1 : k0_chk1 v272), ∀ a, (k0_off3 v272) a + S1x1x8x8.size a ≤ S4x4x2560x8.size a := fun v272 k0_hw1 => k0_hw1.2.2.2.1
theorem k0_off4_inb : ∀ (v272 : BitVec 32) (k0_hw1 : k0_chk1 v272), ∀ a, (k0_off4 v272) a + S1x1x8x8.size a ≤ S4x4x2560x8.size a := fun v272 k0_hw1 => k0_hw1.2.2.2.2

def k0_off5 (k0_t1 : Fin k0_t1_loop.trips) : Fin 3 → Nat :=
  let c0_231 : Index := 0#32
  let c0_i32 : BitVec 32 := 0#32
  let c1_i32 : BitVec 32 := 1#32
  let arg8 : BitVec 32 := Scf.iv c0_i32 c1_i32 k0_t1
  let v1003 : Index := Scalar.indexCast arg8
  let c0_232 : Index := 0#32
  ![0, v1003.toNat, 0]
def k0_off6 (k0_t1 : Fin k0_t1_loop.trips) : Fin 3 → Nat :=
  let c0_233 : Index := 0#32
  let c0_i32 : BitVec 32 := 0#32
  let c1_i32 : BitVec 32 := 1#32
  let arg8 : BitVec 32 := Scf.iv c0_i32 c1_i32 k0_t1
  let v1007 : Index := Scalar.indexCast arg8
  let c0_234 : Index := 0#32
  ![0, v1007.toNat, 0]
def k0_off7 (k0_t1 : Fin k0_t1_loop.trips) : Fin 3 → Nat :=
  let c0_235 : Index := 0#32
  let c0_i32 : BitVec 32 := 0#32
  let c1_i32 : BitVec 32 := 1#32
  let arg8 : BitVec 32 := Scf.iv c0_i32 c1_i32 k0_t1
  let v1009 : Index := Scalar.indexCast arg8
  let c1_236 : Index := 1#32
  ![0, v1009.toNat, 1]
def k0_off8 (k0_t1 : Fin k0_t1_loop.trips) : Fin 3 → Nat :=
  let c0_237 : Index := 0#32
  let c0_i32 : BitVec 32 := 0#32
  let c1_i32 : BitVec 32 := 1#32
  let arg8 : BitVec 32 := Scf.iv c0_i32 c1_i32 k0_t1
  let v1011 : Index := Scalar.indexCast arg8
  let c2_238 : Index := 2#32
  ![0, v1011.toNat, 2]
def k0_off9 (k0_t1 : Fin k0_t1_loop.trips) : Fin 3 → Nat :=
  let c0_239 : Index := 0#32
  let c0_i32 : BitVec 32 := 0#32
  let c1_i32 : BitVec 32 := 1#32
  let arg8 : BitVec 32 := Scf.iv c0_i32 c1_i32 k0_t1
  let v1013 : Index := Scalar.indexCast arg8
  let c3_240 : Index := 3#32
  ![0, v1013.toNat, 3]
def k0_mult2 (v464 : BitVec 32) : BitVec 32 :=
  let c0_i32_243 : BitVec 32 := 0#32
  let v1017 : BitVec 1 := Scalar.cmpi .sgt v464 c0_i32_243
  let v1018 : BitVec 32 := Scalar.extui v1017
  let c0_i32_244 : BitVec 32 := 0#32
  let v1019 : BitVec 1 := Scalar.cmpi .slt v464 c0_i32_244
  let v1020 : BitVec 32 := Scalar.extui v1019
  let v1021 : BitVec 32 := Scalar.subi v1018 v1020
  let c8_i32_242 : BitVec 32 := 8#32
  let c0_i32_245 : BitVec 32 := 0#32
  let v1022 : BitVec 1 := Scalar.cmpi .sgt c8_i32_242 c0_i32_245
  let v1023 : BitVec 32 := Scalar.extui v1022
  let c0_i32_246 : BitVec 32 := 0#32
  let v1024 : BitVec 1 := Scalar.cmpi .slt c8_i32_242 c0_i32_246
  let v1025 : BitVec 32 := Scalar.extui v1024
  let v1026 : BitVec 32 := Scalar.subi v1023 v1025
  let v1027 : BitVec 1 := Scalar.cmpi .ne v1021 v1026
  let v1028 : BitVec 32 := Scalar.remsi v464 c8_i32_242
  let c0_i32_247 : BitVec 32 := 0#32
  let v1029 : BitVec 1 := Scalar.cmpi .ne v1028 c0_i32_247
  let v1030 : BitVec 1 := Scalar.andi v1027 v1029
  let v1016 : BitVec 32 := Scalar.divsi v464 c8_i32_242
  let c1_i32_248 : BitVec 32 := 1#32
  let v1031 : BitVec 32 := Scalar.subi v1016 c1_i32_248
  let v1032 : BitVec 32 := Scalar.select v1030 v1031 v1016
  let c0_i32_251 : BitVec 32 := 0#32
  let v1036 : BitVec 1 := Scalar.cmpi .sgt v1032 c0_i32_251
  let v1037 : BitVec 32 := Scalar.extui v1036
  let c0_i32_252 : BitVec 32 := 0#32
  let v1038 : BitVec 1 := Scalar.cmpi .slt v1032 c0_i32_252
  let v1039 : BitVec 32 := Scalar.extui v1038
  let v1040 : BitVec 32 := Scalar.subi v1037 v1039
  let c8_i32_250 : BitVec 32 := 8#32
  let c0_i32_253 : BitVec 32 := 0#32
  let v1041 : BitVec 1 := Scalar.cmpi .sgt c8_i32_250 c0_i32_253
  let v1042 : BitVec 32 := Scalar.extui v1041
  let c0_i32_254 : BitVec 32 := 0#32
  let v1043 : BitVec 1 := Scalar.cmpi .slt c8_i32_250 c0_i32_254
  let v1044 : BitVec 32 := Scalar.extui v1043
  let v1045 : BitVec 32 := Scalar.subi v1042 v1044
  let v1046 : BitVec 1 := Scalar.cmpi .ne v1040 v1045
  let v1047 : BitVec 32 := Scalar.remsi v1032 c8_i32_250
  let c0_i32_255 : BitVec 32 := 0#32
  let v1048 : BitVec 1 := Scalar.cmpi .ne v1047 c0_i32_255
  let v1049 : BitVec 1 := Scalar.andi v1046 v1048
  let v1035 : BitVec 32 := Scalar.divsi v1032 c8_i32_250
  let c1_i32_256 : BitVec 32 := 1#32
  let v1050 : BitVec 32 := Scalar.subi v1035 c1_i32_256
  let v1051 : BitVec 32 := Scalar.select v1049 v1050 v1035
  let c8_i32_257 : BitVec 32 := 8#32
  let v1052 : BitVec 32 := Scalar.muli v1051 c8_i32_257
  v1052

def k0_off10 (v464 : BitVec 32) : Fin 4 → Nat :=
  let c1_258 : Index := 1#32
  let c0_259 : Index := 0#32
  let c0_i32_243 : BitVec 32 := 0#32
  let v1017 : BitVec 1 := Scalar.cmpi .sgt v464 c0_i32_243
  let v1018 : BitVec 32 := Scalar.extui v1017
  let c0_i32_244 : BitVec 32 := 0#32
  let v1019 : BitVec 1 := Scalar.cmpi .slt v464 c0_i32_244
  let v1020 : BitVec 32 := Scalar.extui v1019
  let v1021 : BitVec 32 := Scalar.subi v1018 v1020
  let c8_i32_242 : BitVec 32 := 8#32
  let c0_i32_245 : BitVec 32 := 0#32
  let v1022 : BitVec 1 := Scalar.cmpi .sgt c8_i32_242 c0_i32_245
  let v1023 : BitVec 32 := Scalar.extui v1022
  let c0_i32_246 : BitVec 32 := 0#32
  let v1024 : BitVec 1 := Scalar.cmpi .slt c8_i32_242 c0_i32_246
  let v1025 : BitVec 32 := Scalar.extui v1024
  let v1026 : BitVec 32 := Scalar.subi v1023 v1025
  let v1027 : BitVec 1 := Scalar.cmpi .ne v1021 v1026
  let v1028 : BitVec 32 := Scalar.remsi v464 c8_i32_242
  let c0_i32_247 : BitVec 32 := 0#32
  let v1029 : BitVec 1 := Scalar.cmpi .ne v1028 c0_i32_247
  let v1030 : BitVec 1 := Scalar.andi v1027 v1029
  let v1016 : BitVec 32 := Scalar.divsi v464 c8_i32_242
  let c1_i32_248 : BitVec 32 := 1#32
  let v1031 : BitVec 32 := Scalar.subi v1016 c1_i32_248
  let v1032 : BitVec 32 := Scalar.select v1030 v1031 v1016
  let c0_i32_251 : BitVec 32 := 0#32
  let v1036 : BitVec 1 := Scalar.cmpi .sgt v1032 c0_i32_251
  let v1037 : BitVec 32 := Scalar.extui v1036
  let c0_i32_252 : BitVec 32 := 0#32
  let v1038 : BitVec 1 := Scalar.cmpi .slt v1032 c0_i32_252
  let v1039 : BitVec 32 := Scalar.extui v1038
  let v1040 : BitVec 32 := Scalar.subi v1037 v1039
  let c8_i32_250 : BitVec 32 := 8#32
  let c0_i32_253 : BitVec 32 := 0#32
  let v1041 : BitVec 1 := Scalar.cmpi .sgt c8_i32_250 c0_i32_253
  let v1042 : BitVec 32 := Scalar.extui v1041
  let c0_i32_254 : BitVec 32 := 0#32
  let v1043 : BitVec 1 := Scalar.cmpi .slt c8_i32_250 c0_i32_254
  let v1044 : BitVec 32 := Scalar.extui v1043
  let v1045 : BitVec 32 := Scalar.subi v1042 v1044
  let v1046 : BitVec 1 := Scalar.cmpi .ne v1040 v1045
  let v1047 : BitVec 32 := Scalar.remsi v1032 c8_i32_250
  let c0_i32_255 : BitVec 32 := 0#32
  let v1048 : BitVec 1 := Scalar.cmpi .ne v1047 c0_i32_255
  let v1049 : BitVec 1 := Scalar.andi v1046 v1048
  let v1035 : BitVec 32 := Scalar.divsi v1032 c8_i32_250
  let c1_i32_256 : BitVec 32 := 1#32
  let v1050 : BitVec 32 := Scalar.subi v1035 c1_i32_256
  let v1051 : BitVec 32 := Scalar.select v1049 v1050 v1035
  let c8_i32_257 : BitVec 32 := 8#32
  let v1052 : BitVec 32 := Scalar.muli v1051 c8_i32_257
  let v1053 : BitVec 32 := v1052
  let v1060 : Index := Scalar.indexCast v1053
  let c0_260 : Index := 0#32
  ![1, 0, v1060.toNat, 0]
def k0_off11 (v464 : BitVec 32) : Fin 4 → Nat :=
  let c1_263 : Index := 1#32
  let c1_264 : Index := 1#32
  let c0_i32_243 : BitVec 32 := 0#32
  let v1017 : BitVec 1 := Scalar.cmpi .sgt v464 c0_i32_243
  let v1018 : BitVec 32 := Scalar.extui v1017
  let c0_i32_244 : BitVec 32 := 0#32
  let v1019 : BitVec 1 := Scalar.cmpi .slt v464 c0_i32_244
  let v1020 : BitVec 32 := Scalar.extui v1019
  let v1021 : BitVec 32 := Scalar.subi v1018 v1020
  let c8_i32_242 : BitVec 32 := 8#32
  let c0_i32_245 : BitVec 32 := 0#32
  let v1022 : BitVec 1 := Scalar.cmpi .sgt c8_i32_242 c0_i32_245
  let v1023 : BitVec 32 := Scalar.extui v1022
  let c0_i32_246 : BitVec 32 := 0#32
  let v1024 : BitVec 1 := Scalar.cmpi .slt c8_i32_242 c0_i32_246
  let v1025 : BitVec 32 := Scalar.extui v1024
  let v1026 : BitVec 32 := Scalar.subi v1023 v1025
  let v1027 : BitVec 1 := Scalar.cmpi .ne v1021 v1026
  let v1028 : BitVec 32 := Scalar.remsi v464 c8_i32_242
  let c0_i32_247 : BitVec 32 := 0#32
  let v1029 : BitVec 1 := Scalar.cmpi .ne v1028 c0_i32_247
  let v1030 : BitVec 1 := Scalar.andi v1027 v1029
  let v1016 : BitVec 32 := Scalar.divsi v464 c8_i32_242
  let c1_i32_248 : BitVec 32 := 1#32
  let v1031 : BitVec 32 := Scalar.subi v1016 c1_i32_248
  let v1032 : BitVec 32 := Scalar.select v1030 v1031 v1016
  let c0_i32_251 : BitVec 32 := 0#32
  let v1036 : BitVec 1 := Scalar.cmpi .sgt v1032 c0_i32_251
  let v1037 : BitVec 32 := Scalar.extui v1036
  let c0_i32_252 : BitVec 32 := 0#32
  let v1038 : BitVec 1 := Scalar.cmpi .slt v1032 c0_i32_252
  let v1039 : BitVec 32 := Scalar.extui v1038
  let v1040 : BitVec 32 := Scalar.subi v1037 v1039
  let c8_i32_250 : BitVec 32 := 8#32
  let c0_i32_253 : BitVec 32 := 0#32
  let v1041 : BitVec 1 := Scalar.cmpi .sgt c8_i32_250 c0_i32_253
  let v1042 : BitVec 32 := Scalar.extui v1041
  let c0_i32_254 : BitVec 32 := 0#32
  let v1043 : BitVec 1 := Scalar.cmpi .slt c8_i32_250 c0_i32_254
  let v1044 : BitVec 32 := Scalar.extui v1043
  let v1045 : BitVec 32 := Scalar.subi v1042 v1044
  let v1046 : BitVec 1 := Scalar.cmpi .ne v1040 v1045
  let v1047 : BitVec 32 := Scalar.remsi v1032 c8_i32_250
  let c0_i32_255 : BitVec 32 := 0#32
  let v1048 : BitVec 1 := Scalar.cmpi .ne v1047 c0_i32_255
  let v1049 : BitVec 1 := Scalar.andi v1046 v1048
  let v1035 : BitVec 32 := Scalar.divsi v1032 c8_i32_250
  let c1_i32_256 : BitVec 32 := 1#32
  let v1050 : BitVec 32 := Scalar.subi v1035 c1_i32_256
  let v1051 : BitVec 32 := Scalar.select v1049 v1050 v1035
  let c8_i32_257 : BitVec 32 := 8#32
  let v1052 : BitVec 32 := Scalar.muli v1051 c8_i32_257
  let v1053 : BitVec 32 := v1052
  let v1069 : Index := Scalar.indexCast v1053
  let c0_265 : Index := 0#32
  ![1, 1, v1069.toNat, 0]
def k0_off12 (v464 : BitVec 32) : Fin 4 → Nat :=
  let c1_268 : Index := 1#32
  let c2_269 : Index := 2#32
  let c0_i32_243 : BitVec 32 := 0#32
  let v1017 : BitVec 1 := Scalar.cmpi .sgt v464 c0_i32_243
  let v1018 : BitVec 32 := Scalar.extui v1017
  let c0_i32_244 : BitVec 32 := 0#32
  let v1019 : BitVec 1 := Scalar.cmpi .slt v464 c0_i32_244
  let v1020 : BitVec 32 := Scalar.extui v1019
  let v1021 : BitVec 32 := Scalar.subi v1018 v1020
  let c8_i32_242 : BitVec 32 := 8#32
  let c0_i32_245 : BitVec 32 := 0#32
  let v1022 : BitVec 1 := Scalar.cmpi .sgt c8_i32_242 c0_i32_245
  let v1023 : BitVec 32 := Scalar.extui v1022
  let c0_i32_246 : BitVec 32 := 0#32
  let v1024 : BitVec 1 := Scalar.cmpi .slt c8_i32_242 c0_i32_246
  let v1025 : BitVec 32 := Scalar.extui v1024
  let v1026 : BitVec 32 := Scalar.subi v1023 v1025
  let v1027 : BitVec 1 := Scalar.cmpi .ne v1021 v1026
  let v1028 : BitVec 32 := Scalar.remsi v464 c8_i32_242
  let c0_i32_247 : BitVec 32 := 0#32
  let v1029 : BitVec 1 := Scalar.cmpi .ne v1028 c0_i32_247
  let v1030 : BitVec 1 := Scalar.andi v1027 v1029
  let v1016 : BitVec 32 := Scalar.divsi v464 c8_i32_242
  let c1_i32_248 : BitVec 32 := 1#32
  let v1031 : BitVec 32 := Scalar.subi v1016 c1_i32_248
  let v1032 : BitVec 32 := Scalar.select v1030 v1031 v1016
  let c0_i32_251 : BitVec 32 := 0#32
  let v1036 : BitVec 1 := Scalar.cmpi .sgt v1032 c0_i32_251
  let v1037 : BitVec 32 := Scalar.extui v1036
  let c0_i32_252 : BitVec 32 := 0#32
  let v1038 : BitVec 1 := Scalar.cmpi .slt v1032 c0_i32_252
  let v1039 : BitVec 32 := Scalar.extui v1038
  let v1040 : BitVec 32 := Scalar.subi v1037 v1039
  let c8_i32_250 : BitVec 32 := 8#32
  let c0_i32_253 : BitVec 32 := 0#32
  let v1041 : BitVec 1 := Scalar.cmpi .sgt c8_i32_250 c0_i32_253
  let v1042 : BitVec 32 := Scalar.extui v1041
  let c0_i32_254 : BitVec 32 := 0#32
  let v1043 : BitVec 1 := Scalar.cmpi .slt c8_i32_250 c0_i32_254
  let v1044 : BitVec 32 := Scalar.extui v1043
  let v1045 : BitVec 32 := Scalar.subi v1042 v1044
  let v1046 : BitVec 1 := Scalar.cmpi .ne v1040 v1045
  let v1047 : BitVec 32 := Scalar.remsi v1032 c8_i32_250
  let c0_i32_255 : BitVec 32 := 0#32
  let v1048 : BitVec 1 := Scalar.cmpi .ne v1047 c0_i32_255
  let v1049 : BitVec 1 := Scalar.andi v1046 v1048
  let v1035 : BitVec 32 := Scalar.divsi v1032 c8_i32_250
  let c1_i32_256 : BitVec 32 := 1#32
  let v1050 : BitVec 32 := Scalar.subi v1035 c1_i32_256
  let v1051 : BitVec 32 := Scalar.select v1049 v1050 v1035
  let c8_i32_257 : BitVec 32 := 8#32
  let v1052 : BitVec 32 := Scalar.muli v1051 c8_i32_257
  let v1053 : BitVec 32 := v1052
  let v1078 : Index := Scalar.indexCast v1053
  let c0_270 : Index := 0#32
  ![1, 2, v1078.toNat, 0]
def k0_off13 (v464 : BitVec 32) : Fin 4 → Nat :=
  let c1_273 : Index := 1#32
  let c3_274 : Index := 3#32
  let c0_i32_243 : BitVec 32 := 0#32
  let v1017 : BitVec 1 := Scalar.cmpi .sgt v464 c0_i32_243
  let v1018 : BitVec 32 := Scalar.extui v1017
  let c0_i32_244 : BitVec 32 := 0#32
  let v1019 : BitVec 1 := Scalar.cmpi .slt v464 c0_i32_244
  let v1020 : BitVec 32 := Scalar.extui v1019
  let v1021 : BitVec 32 := Scalar.subi v1018 v1020
  let c8_i32_242 : BitVec 32 := 8#32
  let c0_i32_245 : BitVec 32 := 0#32
  let v1022 : BitVec 1 := Scalar.cmpi .sgt c8_i32_242 c0_i32_245
  let v1023 : BitVec 32 := Scalar.extui v1022
  let c0_i32_246 : BitVec 32 := 0#32
  let v1024 : BitVec 1 := Scalar.cmpi .slt c8_i32_242 c0_i32_246
  let v1025 : BitVec 32 := Scalar.extui v1024
  let v1026 : BitVec 32 := Scalar.subi v1023 v1025
  let v1027 : BitVec 1 := Scalar.cmpi .ne v1021 v1026
  let v1028 : BitVec 32 := Scalar.remsi v464 c8_i32_242
  let c0_i32_247 : BitVec 32 := 0#32
  let v1029 : BitVec 1 := Scalar.cmpi .ne v1028 c0_i32_247
  let v1030 : BitVec 1 := Scalar.andi v1027 v1029
  let v1016 : BitVec 32 := Scalar.divsi v464 c8_i32_242
  let c1_i32_248 : BitVec 32 := 1#32
  let v1031 : BitVec 32 := Scalar.subi v1016 c1_i32_248
  let v1032 : BitVec 32 := Scalar.select v1030 v1031 v1016
  let c0_i32_251 : BitVec 32 := 0#32
  let v1036 : BitVec 1 := Scalar.cmpi .sgt v1032 c0_i32_251
  let v1037 : BitVec 32 := Scalar.extui v1036
  let c0_i32_252 : BitVec 32 := 0#32
  let v1038 : BitVec 1 := Scalar.cmpi .slt v1032 c0_i32_252
  let v1039 : BitVec 32 := Scalar.extui v1038
  let v1040 : BitVec 32 := Scalar.subi v1037 v1039
  let c8_i32_250 : BitVec 32 := 8#32
  let c0_i32_253 : BitVec 32 := 0#32
  let v1041 : BitVec 1 := Scalar.cmpi .sgt c8_i32_250 c0_i32_253
  let v1042 : BitVec 32 := Scalar.extui v1041
  let c0_i32_254 : BitVec 32 := 0#32
  let v1043 : BitVec 1 := Scalar.cmpi .slt c8_i32_250 c0_i32_254
  let v1044 : BitVec 32 := Scalar.extui v1043
  let v1045 : BitVec 32 := Scalar.subi v1042 v1044
  let v1046 : BitVec 1 := Scalar.cmpi .ne v1040 v1045
  let v1047 : BitVec 32 := Scalar.remsi v1032 c8_i32_250
  let c0_i32_255 : BitVec 32 := 0#32
  let v1048 : BitVec 1 := Scalar.cmpi .ne v1047 c0_i32_255
  let v1049 : BitVec 1 := Scalar.andi v1046 v1048
  let v1035 : BitVec 32 := Scalar.divsi v1032 c8_i32_250
  let c1_i32_256 : BitVec 32 := 1#32
  let v1050 : BitVec 32 := Scalar.subi v1035 c1_i32_256
  let v1051 : BitVec 32 := Scalar.select v1049 v1050 v1035
  let c8_i32_257 : BitVec 32 := 8#32
  let v1052 : BitVec 32 := Scalar.muli v1051 c8_i32_257
  let v1053 : BitVec 32 := v1052
  let v1087 : Index := Scalar.indexCast v1053
  let c0_275 : Index := 0#32
  ![1, 3, v1087.toNat, 0]

def k0_chk2 (v464 : BitVec 32) : Prop :=
  (8 ∣ (k0_mult2 v464).toNat) ∧
  (∀ a, (k0_off10 v464) a + S1x1x8x8.size a ≤ S4x4x2560x8.size a) ∧
  (∀ a, (k0_off11 v464) a + S1x1x8x8.size a ≤ S4x4x2560x8.size a) ∧
  (∀ a, (k0_off12 v464) a + S1x1x8x8.size a ≤ S4x4x2560x8.size a) ∧
  (∀ a, (k0_off13 v464) a + S1x1x8x8.size a ≤ S4x4x2560x8.size a)
theorem k0_mult2_dvd : ∀ (v464 : BitVec 32) (k0_hw2 : k0_chk2 v464), 8 ∣ (k0_mult2 v464).toNat := fun v464 k0_hw2 => k0_hw2.1
theorem k0_off10_inb : ∀ (v464 : BitVec 32) (k0_hw2 : k0_chk2 v464), ∀ a, (k0_off10 v464) a + S1x1x8x8.size a ≤ S4x4x2560x8.size a := fun v464 k0_hw2 => k0_hw2.2.1
theorem k0_off11_inb : ∀ (v464 : BitVec 32) (k0_hw2 : k0_chk2 v464), ∀ a, (k0_off11 v464) a + S1x1x8x8.size a ≤ S4x4x2560x8.size a := fun v464 k0_hw2 => k0_hw2.2.2.1
theorem k0_off12_inb : ∀ (v464 : BitVec 32) (k0_hw2 : k0_chk2 v464), ∀ a, (k0_off12 v464) a + S1x1x8x8.size a ≤ S4x4x2560x8.size a := fun v464 k0_hw2 => k0_hw2.2.2.2.1
theorem k0_off13_inb : ∀ (v464 : BitVec 32) (k0_hw2 : k0_chk2 v464), ∀ a, (k0_off13 v464) a + S1x1x8x8.size a ≤ S4x4x2560x8.size a := fun v464 k0_hw2 => k0_hw2.2.2.2.2

def k0_off14 (k0_t1 : Fin k0_t1_loop.trips) : Fin 3 → Nat :=
  let c1_316 : Index := 1#32
  let c0_i32 : BitVec 32 := 0#32
  let c1_i32 : BitVec 32 := 1#32
  let arg8 : BitVec 32 := Scf.iv c0_i32 c1_i32 k0_t1
  let v1169 : Index := Scalar.indexCast arg8
  let c0_317 : Index := 0#32
  ![1, v1169.toNat, 0]
def k0_off15 (k0_t1 : Fin k0_t1_loop.trips) : Fin 3 → Nat :=
  let c1_318 : Index := 1#32
  let c0_i32 : BitVec 32 := 0#32
  let c1_i32 : BitVec 32 := 1#32
  let arg8 : BitVec 32 := Scf.iv c0_i32 c1_i32 k0_t1
  let v1173 : Index := Scalar.indexCast arg8
  let c0_319 : Index := 0#32
  ![1, v1173.toNat, 0]
def k0_off16 (k0_t1 : Fin k0_t1_loop.trips) : Fin 3 → Nat :=
  let c1_320 : Index := 1#32
  let c0_i32 : BitVec 32 := 0#32
  let c1_i32 : BitVec 32 := 1#32
  let arg8 : BitVec 32 := Scf.iv c0_i32 c1_i32 k0_t1
  let v1175 : Index := Scalar.indexCast arg8
  let c1_321 : Index := 1#32
  ![1, v1175.toNat, 1]
def k0_off17 (k0_t1 : Fin k0_t1_loop.trips) : Fin 3 → Nat :=
  let c1_322 : Index := 1#32
  let c0_i32 : BitVec 32 := 0#32
  let c1_i32 : BitVec 32 := 1#32
  let arg8 : BitVec 32 := Scf.iv c0_i32 c1_i32 k0_t1
  let v1177 : Index := Scalar.indexCast arg8
  let c2_323 : Index := 2#32
  ![1, v1177.toNat, 2]
def k0_off18 (k0_t1 : Fin k0_t1_loop.trips) : Fin 3 → Nat :=
  let c1_324 : Index := 1#32
  let c0_i32 : BitVec 32 := 0#32
  let c1_i32 : BitVec 32 := 1#32
  let arg8 : BitVec 32 := Scf.iv c0_i32 c1_i32 k0_t1
  let v1179 : Index := Scalar.indexCast arg8
  let c3_325 : Index := 3#32
  ![1, v1179.toNat, 3]
def k0_mult3 (v656 : BitVec 32) : BitVec 32 :=
  let c0_i32_328 : BitVec 32 := 0#32
  let v1183 : BitVec 1 := Scalar.cmpi .sgt v656 c0_i32_328
  let v1184 : BitVec 32 := Scalar.extui v1183
  let c0_i32_329 : BitVec 32 := 0#32
  let v1185 : BitVec 1 := Scalar.cmpi .slt v656 c0_i32_329
  let v1186 : BitVec 32 := Scalar.extui v1185
  let v1187 : BitVec 32 := Scalar.subi v1184 v1186
  let c8_i32_327 : BitVec 32 := 8#32
  let c0_i32_330 : BitVec 32 := 0#32
  let v1188 : BitVec 1 := Scalar.cmpi .sgt c8_i32_327 c0_i32_330
  let v1189 : BitVec 32 := Scalar.extui v1188
  let c0_i32_331 : BitVec 32 := 0#32
  let v1190 : BitVec 1 := Scalar.cmpi .slt c8_i32_327 c0_i32_331
  let v1191 : BitVec 32 := Scalar.extui v1190
  let v1192 : BitVec 32 := Scalar.subi v1189 v1191
  let v1193 : BitVec 1 := Scalar.cmpi .ne v1187 v1192
  let v1194 : BitVec 32 := Scalar.remsi v656 c8_i32_327
  let c0_i32_332 : BitVec 32 := 0#32
  let v1195 : BitVec 1 := Scalar.cmpi .ne v1194 c0_i32_332
  let v1196 : BitVec 1 := Scalar.andi v1193 v1195
  let v1182 : BitVec 32 := Scalar.divsi v656 c8_i32_327
  let c1_i32_333 : BitVec 32 := 1#32
  let v1197 : BitVec 32 := Scalar.subi v1182 c1_i32_333
  let v1198 : BitVec 32 := Scalar.select v1196 v1197 v1182
  let c0_i32_336 : BitVec 32 := 0#32
  let v1202 : BitVec 1 := Scalar.cmpi .sgt v1198 c0_i32_336
  let v1203 : BitVec 32 := Scalar.extui v1202
  let c0_i32_337 : BitVec 32 := 0#32
  let v1204 : BitVec 1 := Scalar.cmpi .slt v1198 c0_i32_337
  let v1205 : BitVec 32 := Scalar.extui v1204
  let v1206 : BitVec 32 := Scalar.subi v1203 v1205
  let c8_i32_335 : BitVec 32 := 8#32
  let c0_i32_338 : BitVec 32 := 0#32
  let v1207 : BitVec 1 := Scalar.cmpi .sgt c8_i32_335 c0_i32_338
  let v1208 : BitVec 32 := Scalar.extui v1207
  let c0_i32_339 : BitVec 32 := 0#32
  let v1209 : BitVec 1 := Scalar.cmpi .slt c8_i32_335 c0_i32_339
  let v1210 : BitVec 32 := Scalar.extui v1209
  let v1211 : BitVec 32 := Scalar.subi v1208 v1210
  let v1212 : BitVec 1 := Scalar.cmpi .ne v1206 v1211
  let v1213 : BitVec 32 := Scalar.remsi v1198 c8_i32_335
  let c0_i32_340 : BitVec 32 := 0#32
  let v1214 : BitVec 1 := Scalar.cmpi .ne v1213 c0_i32_340
  let v1215 : BitVec 1 := Scalar.andi v1212 v1214
  let v1201 : BitVec 32 := Scalar.divsi v1198 c8_i32_335
  let c1_i32_341 : BitVec 32 := 1#32
  let v1216 : BitVec 32 := Scalar.subi v1201 c1_i32_341
  let v1217 : BitVec 32 := Scalar.select v1215 v1216 v1201
  let c8_i32_342 : BitVec 32 := 8#32
  let v1218 : BitVec 32 := Scalar.muli v1217 c8_i32_342
  v1218

def k0_off19 (v656 : BitVec 32) : Fin 4 → Nat :=
  let c2_343 : Index := 2#32
  let c0_344 : Index := 0#32
  let c0_i32_328 : BitVec 32 := 0#32
  let v1183 : BitVec 1 := Scalar.cmpi .sgt v656 c0_i32_328
  let v1184 : BitVec 32 := Scalar.extui v1183
  let c0_i32_329 : BitVec 32 := 0#32
  let v1185 : BitVec 1 := Scalar.cmpi .slt v656 c0_i32_329
  let v1186 : BitVec 32 := Scalar.extui v1185
  let v1187 : BitVec 32 := Scalar.subi v1184 v1186
  let c8_i32_327 : BitVec 32 := 8#32
  let c0_i32_330 : BitVec 32 := 0#32
  let v1188 : BitVec 1 := Scalar.cmpi .sgt c8_i32_327 c0_i32_330
  let v1189 : BitVec 32 := Scalar.extui v1188
  let c0_i32_331 : BitVec 32 := 0#32
  let v1190 : BitVec 1 := Scalar.cmpi .slt c8_i32_327 c0_i32_331
  let v1191 : BitVec 32 := Scalar.extui v1190
  let v1192 : BitVec 32 := Scalar.subi v1189 v1191
  let v1193 : BitVec 1 := Scalar.cmpi .ne v1187 v1192
  let v1194 : BitVec 32 := Scalar.remsi v656 c8_i32_327
  let c0_i32_332 : BitVec 32 := 0#32
  let v1195 : BitVec 1 := Scalar.cmpi .ne v1194 c0_i32_332
  let v1196 : BitVec 1 := Scalar.andi v1193 v1195
  let v1182 : BitVec 32 := Scalar.divsi v656 c8_i32_327
  let c1_i32_333 : BitVec 32 := 1#32
  let v1197 : BitVec 32 := Scalar.subi v1182 c1_i32_333
  let v1198 : BitVec 32 := Scalar.select v1196 v1197 v1182
  let c0_i32_336 : BitVec 32 := 0#32
  let v1202 : BitVec 1 := Scalar.cmpi .sgt v1198 c0_i32_336
  let v1203 : BitVec 32 := Scalar.extui v1202
  let c0_i32_337 : BitVec 32 := 0#32
  let v1204 : BitVec 1 := Scalar.cmpi .slt v1198 c0_i32_337
  let v1205 : BitVec 32 := Scalar.extui v1204
  let v1206 : BitVec 32 := Scalar.subi v1203 v1205
  let c8_i32_335 : BitVec 32 := 8#32
  let c0_i32_338 : BitVec 32 := 0#32
  let v1207 : BitVec 1 := Scalar.cmpi .sgt c8_i32_335 c0_i32_338
  let v1208 : BitVec 32 := Scalar.extui v1207
  let c0_i32_339 : BitVec 32 := 0#32
  let v1209 : BitVec 1 := Scalar.cmpi .slt c8_i32_335 c0_i32_339
  let v1210 : BitVec 32 := Scalar.extui v1209
  let v1211 : BitVec 32 := Scalar.subi v1208 v1210
  let v1212 : BitVec 1 := Scalar.cmpi .ne v1206 v1211
  let v1213 : BitVec 32 := Scalar.remsi v1198 c8_i32_335
  let c0_i32_340 : BitVec 32 := 0#32
  let v1214 : BitVec 1 := Scalar.cmpi .ne v1213 c0_i32_340
  let v1215 : BitVec 1 := Scalar.andi v1212 v1214
  let v1201 : BitVec 32 := Scalar.divsi v1198 c8_i32_335
  let c1_i32_341 : BitVec 32 := 1#32
  let v1216 : BitVec 32 := Scalar.subi v1201 c1_i32_341
  let v1217 : BitVec 32 := Scalar.select v1215 v1216 v1201
  let c8_i32_342 : BitVec 32 := 8#32
  let v1218 : BitVec 32 := Scalar.muli v1217 c8_i32_342
  let v1219 : BitVec 32 := v1218
  let v1226 : Index := Scalar.indexCast v1219
  let c0_345 : Index := 0#32
  ![2, 0, v1226.toNat, 0]
def k0_off20 (v656 : BitVec 32) : Fin 4 → Nat :=
  let c2_348 : Index := 2#32
  let c1_349 : Index := 1#32
  let c0_i32_328 : BitVec 32 := 0#32
  let v1183 : BitVec 1 := Scalar.cmpi .sgt v656 c0_i32_328
  let v1184 : BitVec 32 := Scalar.extui v1183
  let c0_i32_329 : BitVec 32 := 0#32
  let v1185 : BitVec 1 := Scalar.cmpi .slt v656 c0_i32_329
  let v1186 : BitVec 32 := Scalar.extui v1185
  let v1187 : BitVec 32 := Scalar.subi v1184 v1186
  let c8_i32_327 : BitVec 32 := 8#32
  let c0_i32_330 : BitVec 32 := 0#32
  let v1188 : BitVec 1 := Scalar.cmpi .sgt c8_i32_327 c0_i32_330
  let v1189 : BitVec 32 := Scalar.extui v1188
  let c0_i32_331 : BitVec 32 := 0#32
  let v1190 : BitVec 1 := Scalar.cmpi .slt c8_i32_327 c0_i32_331
  let v1191 : BitVec 32 := Scalar.extui v1190
  let v1192 : BitVec 32 := Scalar.subi v1189 v1191
  let v1193 : BitVec 1 := Scalar.cmpi .ne v1187 v1192
  let v1194 : BitVec 32 := Scalar.remsi v656 c8_i32_327
  let c0_i32_332 : BitVec 32 := 0#32
  let v1195 : BitVec 1 := Scalar.cmpi .ne v1194 c0_i32_332
  let v1196 : BitVec 1 := Scalar.andi v1193 v1195
  let v1182 : BitVec 32 := Scalar.divsi v656 c8_i32_327
  let c1_i32_333 : BitVec 32 := 1#32
  let v1197 : BitVec 32 := Scalar.subi v1182 c1_i32_333
  let v1198 : BitVec 32 := Scalar.select v1196 v1197 v1182
  let c0_i32_336 : BitVec 32 := 0#32
  let v1202 : BitVec 1 := Scalar.cmpi .sgt v1198 c0_i32_336
  let v1203 : BitVec 32 := Scalar.extui v1202
  let c0_i32_337 : BitVec 32 := 0#32
  let v1204 : BitVec 1 := Scalar.cmpi .slt v1198 c0_i32_337
  let v1205 : BitVec 32 := Scalar.extui v1204
  let v1206 : BitVec 32 := Scalar.subi v1203 v1205
  let c8_i32_335 : BitVec 32 := 8#32
  let c0_i32_338 : BitVec 32 := 0#32
  let v1207 : BitVec 1 := Scalar.cmpi .sgt c8_i32_335 c0_i32_338
  let v1208 : BitVec 32 := Scalar.extui v1207
  let c0_i32_339 : BitVec 32 := 0#32
  let v1209 : BitVec 1 := Scalar.cmpi .slt c8_i32_335 c0_i32_339
  let v1210 : BitVec 32 := Scalar.extui v1209
  let v1211 : BitVec 32 := Scalar.subi v1208 v1210
  let v1212 : BitVec 1 := Scalar.cmpi .ne v1206 v1211
  let v1213 : BitVec 32 := Scalar.remsi v1198 c8_i32_335
  let c0_i32_340 : BitVec 32 := 0#32
  let v1214 : BitVec 1 := Scalar.cmpi .ne v1213 c0_i32_340
  let v1215 : BitVec 1 := Scalar.andi v1212 v1214
  let v1201 : BitVec 32 := Scalar.divsi v1198 c8_i32_335
  let c1_i32_341 : BitVec 32 := 1#32
  let v1216 : BitVec 32 := Scalar.subi v1201 c1_i32_341
  let v1217 : BitVec 32 := Scalar.select v1215 v1216 v1201
  let c8_i32_342 : BitVec 32 := 8#32
  let v1218 : BitVec 32 := Scalar.muli v1217 c8_i32_342
  let v1219 : BitVec 32 := v1218
  let v1235 : Index := Scalar.indexCast v1219
  let c0_350 : Index := 0#32
  ![2, 1, v1235.toNat, 0]
def k0_off21 (v656 : BitVec 32) : Fin 4 → Nat :=
  let c2_353 : Index := 2#32
  let c2_354 : Index := 2#32
  let c0_i32_328 : BitVec 32 := 0#32
  let v1183 : BitVec 1 := Scalar.cmpi .sgt v656 c0_i32_328
  let v1184 : BitVec 32 := Scalar.extui v1183
  let c0_i32_329 : BitVec 32 := 0#32
  let v1185 : BitVec 1 := Scalar.cmpi .slt v656 c0_i32_329
  let v1186 : BitVec 32 := Scalar.extui v1185
  let v1187 : BitVec 32 := Scalar.subi v1184 v1186
  let c8_i32_327 : BitVec 32 := 8#32
  let c0_i32_330 : BitVec 32 := 0#32
  let v1188 : BitVec 1 := Scalar.cmpi .sgt c8_i32_327 c0_i32_330
  let v1189 : BitVec 32 := Scalar.extui v1188
  let c0_i32_331 : BitVec 32 := 0#32
  let v1190 : BitVec 1 := Scalar.cmpi .slt c8_i32_327 c0_i32_331
  let v1191 : BitVec 32 := Scalar.extui v1190
  let v1192 : BitVec 32 := Scalar.subi v1189 v1191
  let v1193 : BitVec 1 := Scalar.cmpi .ne v1187 v1192
  let v1194 : BitVec 32 := Scalar.remsi v656 c8_i32_327
  let c0_i32_332 : BitVec 32 := 0#32
  let v1195 : BitVec 1 := Scalar.cmpi .ne v1194 c0_i32_332
  let v1196 : BitVec 1 := Scalar.andi v1193 v1195
  let v1182 : BitVec 32 := Scalar.divsi v656 c8_i32_327
  let c1_i32_333 : BitVec 32 := 1#32
  let v1197 : BitVec 32 := Scalar.subi v1182 c1_i32_333
  let v1198 : BitVec 32 := Scalar.select v1196 v1197 v1182
  let c0_i32_336 : BitVec 32 := 0#32
  let v1202 : BitVec 1 := Scalar.cmpi .sgt v1198 c0_i32_336
  let v1203 : BitVec 32 := Scalar.extui v1202
  let c0_i32_337 : BitVec 32 := 0#32
  let v1204 : BitVec 1 := Scalar.cmpi .slt v1198 c0_i32_337
  let v1205 : BitVec 32 := Scalar.extui v1204
  let v1206 : BitVec 32 := Scalar.subi v1203 v1205
  let c8_i32_335 : BitVec 32 := 8#32
  let c0_i32_338 : BitVec 32 := 0#32
  let v1207 : BitVec 1 := Scalar.cmpi .sgt c8_i32_335 c0_i32_338
  let v1208 : BitVec 32 := Scalar.extui v1207
  let c0_i32_339 : BitVec 32 := 0#32
  let v1209 : BitVec 1 := Scalar.cmpi .slt c8_i32_335 c0_i32_339
  let v1210 : BitVec 32 := Scalar.extui v1209
  let v1211 : BitVec 32 := Scalar.subi v1208 v1210
  let v1212 : BitVec 1 := Scalar.cmpi .ne v1206 v1211
  let v1213 : BitVec 32 := Scalar.remsi v1198 c8_i32_335
  let c0_i32_340 : BitVec 32 := 0#32
  let v1214 : BitVec 1 := Scalar.cmpi .ne v1213 c0_i32_340
  let v1215 : BitVec 1 := Scalar.andi v1212 v1214
  let v1201 : BitVec 32 := Scalar.divsi v1198 c8_i32_335
  let c1_i32_341 : BitVec 32 := 1#32
  let v1216 : BitVec 32 := Scalar.subi v1201 c1_i32_341
  let v1217 : BitVec 32 := Scalar.select v1215 v1216 v1201
  let c8_i32_342 : BitVec 32 := 8#32
  let v1218 : BitVec 32 := Scalar.muli v1217 c8_i32_342
  let v1219 : BitVec 32 := v1218
  let v1244 : Index := Scalar.indexCast v1219
  let c0_355 : Index := 0#32
  ![2, 2, v1244.toNat, 0]
def k0_off22 (v656 : BitVec 32) : Fin 4 → Nat :=
  let c2_358 : Index := 2#32
  let c3_359 : Index := 3#32
  let c0_i32_328 : BitVec 32 := 0#32
  let v1183 : BitVec 1 := Scalar.cmpi .sgt v656 c0_i32_328
  let v1184 : BitVec 32 := Scalar.extui v1183
  let c0_i32_329 : BitVec 32 := 0#32
  let v1185 : BitVec 1 := Scalar.cmpi .slt v656 c0_i32_329
  let v1186 : BitVec 32 := Scalar.extui v1185
  let v1187 : BitVec 32 := Scalar.subi v1184 v1186
  let c8_i32_327 : BitVec 32 := 8#32
  let c0_i32_330 : BitVec 32 := 0#32
  let v1188 : BitVec 1 := Scalar.cmpi .sgt c8_i32_327 c0_i32_330
  let v1189 : BitVec 32 := Scalar.extui v1188
  let c0_i32_331 : BitVec 32 := 0#32
  let v1190 : BitVec 1 := Scalar.cmpi .slt c8_i32_327 c0_i32_331
  let v1191 : BitVec 32 := Scalar.extui v1190
  let v1192 : BitVec 32 := Scalar.subi v1189 v1191
  let v1193 : BitVec 1 := Scalar.cmpi .ne v1187 v1192
  let v1194 : BitVec 32 := Scalar.remsi v656 c8_i32_327
  let c0_i32_332 : BitVec 32 := 0#32
  let v1195 : BitVec 1 := Scalar.cmpi .ne v1194 c0_i32_332
  let v1196 : BitVec 1 := Scalar.andi v1193 v1195
  let v1182 : BitVec 32 := Scalar.divsi v656 c8_i32_327
  let c1_i32_333 : BitVec 32 := 1#32
  let v1197 : BitVec 32 := Scalar.subi v1182 c1_i32_333
  let v1198 : BitVec 32 := Scalar.select v1196 v1197 v1182
  let c0_i32_336 : BitVec 32 := 0#32
  let v1202 : BitVec 1 := Scalar.cmpi .sgt v1198 c0_i32_336
  let v1203 : BitVec 32 := Scalar.extui v1202
  let c0_i32_337 : BitVec 32 := 0#32
  let v1204 : BitVec 1 := Scalar.cmpi .slt v1198 c0_i32_337
  let v1205 : BitVec 32 := Scalar.extui v1204
  let v1206 : BitVec 32 := Scalar.subi v1203 v1205
  let c8_i32_335 : BitVec 32 := 8#32
  let c0_i32_338 : BitVec 32 := 0#32
  let v1207 : BitVec 1 := Scalar.cmpi .sgt c8_i32_335 c0_i32_338
  let v1208 : BitVec 32 := Scalar.extui v1207
  let c0_i32_339 : BitVec 32 := 0#32
  let v1209 : BitVec 1 := Scalar.cmpi .slt c8_i32_335 c0_i32_339
  let v1210 : BitVec 32 := Scalar.extui v1209
  let v1211 : BitVec 32 := Scalar.subi v1208 v1210
  let v1212 : BitVec 1 := Scalar.cmpi .ne v1206 v1211
  let v1213 : BitVec 32 := Scalar.remsi v1198 c8_i32_335
  let c0_i32_340 : BitVec 32 := 0#32
  let v1214 : BitVec 1 := Scalar.cmpi .ne v1213 c0_i32_340
  let v1215 : BitVec 1 := Scalar.andi v1212 v1214
  let v1201 : BitVec 32 := Scalar.divsi v1198 c8_i32_335
  let c1_i32_341 : BitVec 32 := 1#32
  let v1216 : BitVec 32 := Scalar.subi v1201 c1_i32_341
  let v1217 : BitVec 32 := Scalar.select v1215 v1216 v1201
  let c8_i32_342 : BitVec 32 := 8#32
  let v1218 : BitVec 32 := Scalar.muli v1217 c8_i32_342
  let v1219 : BitVec 32 := v1218
  let v1253 : Index := Scalar.indexCast v1219
  let c0_360 : Index := 0#32
  ![2, 3, v1253.toNat, 0]

def k0_chk3 (v656 : BitVec 32) : Prop :=
  (8 ∣ (k0_mult3 v656).toNat) ∧
  (∀ a, (k0_off19 v656) a + S1x1x8x8.size a ≤ S4x4x2560x8.size a) ∧
  (∀ a, (k0_off20 v656) a + S1x1x8x8.size a ≤ S4x4x2560x8.size a) ∧
  (∀ a, (k0_off21 v656) a + S1x1x8x8.size a ≤ S4x4x2560x8.size a) ∧
  (∀ a, (k0_off22 v656) a + S1x1x8x8.size a ≤ S4x4x2560x8.size a)
theorem k0_mult3_dvd : ∀ (v656 : BitVec 32) (k0_hw3 : k0_chk3 v656), 8 ∣ (k0_mult3 v656).toNat := fun v656 k0_hw3 => k0_hw3.1
theorem k0_off19_inb : ∀ (v656 : BitVec 32) (k0_hw3 : k0_chk3 v656), ∀ a, (k0_off19 v656) a + S1x1x8x8.size a ≤ S4x4x2560x8.size a := fun v656 k0_hw3 => k0_hw3.2.1
theorem k0_off20_inb : ∀ (v656 : BitVec 32) (k0_hw3 : k0_chk3 v656), ∀ a, (k0_off20 v656) a + S1x1x8x8.size a ≤ S4x4x2560x8.size a := fun v656 k0_hw3 => k0_hw3.2.2.1
theorem k0_off21_inb : ∀ (v656 : BitVec 32) (k0_hw3 : k0_chk3 v656), ∀ a, (k0_off21 v656) a + S1x1x8x8.size a ≤ S4x4x2560x8.size a := fun v656 k0_hw3 => k0_hw3.2.2.2.1
theorem k0_off22_inb : ∀ (v656 : BitVec 32) (k0_hw3 : k0_chk3 v656), ∀ a, (k0_off22 v656) a + S1x1x8x8.size a ≤ S4x4x2560x8.size a := fun v656 k0_hw3 => k0_hw3.2.2.2.2

def k0_off23 (k0_t1 : Fin k0_t1_loop.trips) : Fin 3 → Nat :=
  let c2_401 : Index := 2#32
  let c0_i32 : BitVec 32 := 0#32
  let c1_i32 : BitVec 32 := 1#32
  let arg8 : BitVec 32 := Scf.iv c0_i32 c1_i32 k0_t1
  let v1335 : Index := Scalar.indexCast arg8
  let c0_402 : Index := 0#32
  ![2, v1335.toNat, 0]
def k0_off24 (k0_t1 : Fin k0_t1_loop.trips) : Fin 3 → Nat :=
  let c2_403 : Index := 2#32
  let c0_i32 : BitVec 32 := 0#32
  let c1_i32 : BitVec 32 := 1#32
  let arg8 : BitVec 32 := Scf.iv c0_i32 c1_i32 k0_t1
  let v1339 : Index := Scalar.indexCast arg8
  let c0_404 : Index := 0#32
  ![2, v1339.toNat, 0]
def k0_off25 (k0_t1 : Fin k0_t1_loop.trips) : Fin 3 → Nat :=
  let c2_405 : Index := 2#32
  let c0_i32 : BitVec 32 := 0#32
  let c1_i32 : BitVec 32 := 1#32
  let arg8 : BitVec 32 := Scf.iv c0_i32 c1_i32 k0_t1
  let v1341 : Index := Scalar.indexCast arg8
  let c1_406 : Index := 1#32
  ![2, v1341.toNat, 1]
def k0_off26 (k0_t1 : Fin k0_t1_loop.trips) : Fin 3 → Nat :=
  let c2_407 : Index := 2#32
  let c0_i32 : BitVec 32 := 0#32
  let c1_i32 : BitVec 32 := 1#32
  let arg8 : BitVec 32 := Scf.iv c0_i32 c1_i32 k0_t1
  let v1343 : Index := Scalar.indexCast arg8
  let c2_408 : Index := 2#32
  ![2, v1343.toNat, 2]
def k0_off27 (k0_t1 : Fin k0_t1_loop.trips) : Fin 3 → Nat :=
  let c2_409 : Index := 2#32
  let c0_i32 : BitVec 32 := 0#32
  let c1_i32 : BitVec 32 := 1#32
  let arg8 : BitVec 32 := Scf.iv c0_i32 c1_i32 k0_t1
  let v1345 : Index := Scalar.indexCast arg8
  let c3_410 : Index := 3#32
  ![2, v1345.toNat, 3]
def k0_mult4 (v848 : BitVec 32) : BitVec 32 :=
  let c0_i32_413 : BitVec 32 := 0#32
  let v1349 : BitVec 1 := Scalar.cmpi .sgt v848 c0_i32_413
  let v1350 : BitVec 32 := Scalar.extui v1349
  let c0_i32_414 : BitVec 32 := 0#32
  let v1351 : BitVec 1 := Scalar.cmpi .slt v848 c0_i32_414
  let v1352 : BitVec 32 := Scalar.extui v1351
  let v1353 : BitVec 32 := Scalar.subi v1350 v1352
  let c8_i32_412 : BitVec 32 := 8#32
  let c0_i32_415 : BitVec 32 := 0#32
  let v1354 : BitVec 1 := Scalar.cmpi .sgt c8_i32_412 c0_i32_415
  let v1355 : BitVec 32 := Scalar.extui v1354
  let c0_i32_416 : BitVec 32 := 0#32
  let v1356 : BitVec 1 := Scalar.cmpi .slt c8_i32_412 c0_i32_416
  let v1357 : BitVec 32 := Scalar.extui v1356
  let v1358 : BitVec 32 := Scalar.subi v1355 v1357
  let v1359 : BitVec 1 := Scalar.cmpi .ne v1353 v1358
  let v1360 : BitVec 32 := Scalar.remsi v848 c8_i32_412
  let c0_i32_417 : BitVec 32 := 0#32
  let v1361 : BitVec 1 := Scalar.cmpi .ne v1360 c0_i32_417
  let v1362 : BitVec 1 := Scalar.andi v1359 v1361
  let v1348 : BitVec 32 := Scalar.divsi v848 c8_i32_412
  let c1_i32_418 : BitVec 32 := 1#32
  let v1363 : BitVec 32 := Scalar.subi v1348 c1_i32_418
  let v1364 : BitVec 32 := Scalar.select v1362 v1363 v1348
  let c0_i32_421 : BitVec 32 := 0#32
  let v1368 : BitVec 1 := Scalar.cmpi .sgt v1364 c0_i32_421
  let v1369 : BitVec 32 := Scalar.extui v1368
  let c0_i32_422 : BitVec 32 := 0#32
  let v1370 : BitVec 1 := Scalar.cmpi .slt v1364 c0_i32_422
  let v1371 : BitVec 32 := Scalar.extui v1370
  let v1372 : BitVec 32 := Scalar.subi v1369 v1371
  let c8_i32_420 : BitVec 32 := 8#32
  let c0_i32_423 : BitVec 32 := 0#32
  let v1373 : BitVec 1 := Scalar.cmpi .sgt c8_i32_420 c0_i32_423
  let v1374 : BitVec 32 := Scalar.extui v1373
  let c0_i32_424 : BitVec 32 := 0#32
  let v1375 : BitVec 1 := Scalar.cmpi .slt c8_i32_420 c0_i32_424
  let v1376 : BitVec 32 := Scalar.extui v1375
  let v1377 : BitVec 32 := Scalar.subi v1374 v1376
  let v1378 : BitVec 1 := Scalar.cmpi .ne v1372 v1377
  let v1379 : BitVec 32 := Scalar.remsi v1364 c8_i32_420
  let c0_i32_425 : BitVec 32 := 0#32
  let v1380 : BitVec 1 := Scalar.cmpi .ne v1379 c0_i32_425
  let v1381 : BitVec 1 := Scalar.andi v1378 v1380
  let v1367 : BitVec 32 := Scalar.divsi v1364 c8_i32_420
  let c1_i32_426 : BitVec 32 := 1#32
  let v1382 : BitVec 32 := Scalar.subi v1367 c1_i32_426
  let v1383 : BitVec 32 := Scalar.select v1381 v1382 v1367
  let c8_i32_427 : BitVec 32 := 8#32
  let v1384 : BitVec 32 := Scalar.muli v1383 c8_i32_427
  v1384

def k0_off28 (v848 : BitVec 32) : Fin 4 → Nat :=
  let c3_428 : Index := 3#32
  let c0_429 : Index := 0#32
  let c0_i32_413 : BitVec 32 := 0#32
  let v1349 : BitVec 1 := Scalar.cmpi .sgt v848 c0_i32_413
  let v1350 : BitVec 32 := Scalar.extui v1349
  let c0_i32_414 : BitVec 32 := 0#32
  let v1351 : BitVec 1 := Scalar.cmpi .slt v848 c0_i32_414
  let v1352 : BitVec 32 := Scalar.extui v1351
  let v1353 : BitVec 32 := Scalar.subi v1350 v1352
  let c8_i32_412 : BitVec 32 := 8#32
  let c0_i32_415 : BitVec 32 := 0#32
  let v1354 : BitVec 1 := Scalar.cmpi .sgt c8_i32_412 c0_i32_415
  let v1355 : BitVec 32 := Scalar.extui v1354
  let c0_i32_416 : BitVec 32 := 0#32
  let v1356 : BitVec 1 := Scalar.cmpi .slt c8_i32_412 c0_i32_416
  let v1357 : BitVec 32 := Scalar.extui v1356
  let v1358 : BitVec 32 := Scalar.subi v1355 v1357
  let v1359 : BitVec 1 := Scalar.cmpi .ne v1353 v1358
  let v1360 : BitVec 32 := Scalar.remsi v848 c8_i32_412
  let c0_i32_417 : BitVec 32 := 0#32
  let v1361 : BitVec 1 := Scalar.cmpi .ne v1360 c0_i32_417
  let v1362 : BitVec 1 := Scalar.andi v1359 v1361
  let v1348 : BitVec 32 := Scalar.divsi v848 c8_i32_412
  let c1_i32_418 : BitVec 32 := 1#32
  let v1363 : BitVec 32 := Scalar.subi v1348 c1_i32_418
  let v1364 : BitVec 32 := Scalar.select v1362 v1363 v1348
  let c0_i32_421 : BitVec 32 := 0#32
  let v1368 : BitVec 1 := Scalar.cmpi .sgt v1364 c0_i32_421
  let v1369 : BitVec 32 := Scalar.extui v1368
  let c0_i32_422 : BitVec 32 := 0#32
  let v1370 : BitVec 1 := Scalar.cmpi .slt v1364 c0_i32_422
  let v1371 : BitVec 32 := Scalar.extui v1370
  let v1372 : BitVec 32 := Scalar.subi v1369 v1371
  let c8_i32_420 : BitVec 32 := 8#32
  let c0_i32_423 : BitVec 32 := 0#32
  let v1373 : BitVec 1 := Scalar.cmpi .sgt c8_i32_420 c0_i32_423
  let v1374 : BitVec 32 := Scalar.extui v1373
  let c0_i32_424 : BitVec 32 := 0#32
  let v1375 : BitVec 1 := Scalar.cmpi .slt c8_i32_420 c0_i32_424
  let v1376 : BitVec 32 := Scalar.extui v1375
  let v1377 : BitVec 32 := Scalar.subi v1374 v1376
  let v1378 : BitVec 1 := Scalar.cmpi .ne v1372 v1377
  let v1379 : BitVec 32 := Scalar.remsi v1364 c8_i32_420
  let c0_i32_425 : BitVec 32 := 0#32
  let v1380 : BitVec 1 := Scalar.cmpi .ne v1379 c0_i32_425
  let v1381 : BitVec 1 := Scalar.andi v1378 v1380
  let v1367 : BitVec 32 := Scalar.divsi v1364 c8_i32_420
  let c1_i32_426 : BitVec 32 := 1#32
  let v1382 : BitVec 32 := Scalar.subi v1367 c1_i32_426
  let v1383 : BitVec 32 := Scalar.select v1381 v1382 v1367
  let c8_i32_427 : BitVec 32 := 8#32
  let v1384 : BitVec 32 := Scalar.muli v1383 c8_i32_427
  let v1385 : BitVec 32 := v1384
  let v1392 : Index := Scalar.indexCast v1385
  let c0_430 : Index := 0#32
  ![3, 0, v1392.toNat, 0]
def k0_off29 (v848 : BitVec 32) : Fin 4 → Nat :=
  let c3_433 : Index := 3#32
  let c1_434 : Index := 1#32
  let c0_i32_413 : BitVec 32 := 0#32
  let v1349 : BitVec 1 := Scalar.cmpi .sgt v848 c0_i32_413
  let v1350 : BitVec 32 := Scalar.extui v1349
  let c0_i32_414 : BitVec 32 := 0#32
  let v1351 : BitVec 1 := Scalar.cmpi .slt v848 c0_i32_414
  let v1352 : BitVec 32 := Scalar.extui v1351
  let v1353 : BitVec 32 := Scalar.subi v1350 v1352
  let c8_i32_412 : BitVec 32 := 8#32
  let c0_i32_415 : BitVec 32 := 0#32
  let v1354 : BitVec 1 := Scalar.cmpi .sgt c8_i32_412 c0_i32_415
  let v1355 : BitVec 32 := Scalar.extui v1354
  let c0_i32_416 : BitVec 32 := 0#32
  let v1356 : BitVec 1 := Scalar.cmpi .slt c8_i32_412 c0_i32_416
  let v1357 : BitVec 32 := Scalar.extui v1356
  let v1358 : BitVec 32 := Scalar.subi v1355 v1357
  let v1359 : BitVec 1 := Scalar.cmpi .ne v1353 v1358
  let v1360 : BitVec 32 := Scalar.remsi v848 c8_i32_412
  let c0_i32_417 : BitVec 32 := 0#32
  let v1361 : BitVec 1 := Scalar.cmpi .ne v1360 c0_i32_417
  let v1362 : BitVec 1 := Scalar.andi v1359 v1361
  let v1348 : BitVec 32 := Scalar.divsi v848 c8_i32_412
  let c1_i32_418 : BitVec 32 := 1#32
  let v1363 : BitVec 32 := Scalar.subi v1348 c1_i32_418
  let v1364 : BitVec 32 := Scalar.select v1362 v1363 v1348
  let c0_i32_421 : BitVec 32 := 0#32
  let v1368 : BitVec 1 := Scalar.cmpi .sgt v1364 c0_i32_421
  let v1369 : BitVec 32 := Scalar.extui v1368
  let c0_i32_422 : BitVec 32 := 0#32
  let v1370 : BitVec 1 := Scalar.cmpi .slt v1364 c0_i32_422
  let v1371 : BitVec 32 := Scalar.extui v1370
  let v1372 : BitVec 32 := Scalar.subi v1369 v1371
  let c8_i32_420 : BitVec 32 := 8#32
  let c0_i32_423 : BitVec 32 := 0#32
  let v1373 : BitVec 1 := Scalar.cmpi .sgt c8_i32_420 c0_i32_423
  let v1374 : BitVec 32 := Scalar.extui v1373
  let c0_i32_424 : BitVec 32 := 0#32
  let v1375 : BitVec 1 := Scalar.cmpi .slt c8_i32_420 c0_i32_424
  let v1376 : BitVec 32 := Scalar.extui v1375
  let v1377 : BitVec 32 := Scalar.subi v1374 v1376
  let v1378 : BitVec 1 := Scalar.cmpi .ne v1372 v1377
  let v1379 : BitVec 32 := Scalar.remsi v1364 c8_i32_420
  let c0_i32_425 : BitVec 32 := 0#32
  let v1380 : BitVec 1 := Scalar.cmpi .ne v1379 c0_i32_425
  let v1381 : BitVec 1 := Scalar.andi v1378 v1380
  let v1367 : BitVec 32 := Scalar.divsi v1364 c8_i32_420
  let c1_i32_426 : BitVec 32 := 1#32
  let v1382 : BitVec 32 := Scalar.subi v1367 c1_i32_426
  let v1383 : BitVec 32 := Scalar.select v1381 v1382 v1367
  let c8_i32_427 : BitVec 32 := 8#32
  let v1384 : BitVec 32 := Scalar.muli v1383 c8_i32_427
  let v1385 : BitVec 32 := v1384
  let v1401 : Index := Scalar.indexCast v1385
  let c0_435 : Index := 0#32
  ![3, 1, v1401.toNat, 0]
def k0_off30 (v848 : BitVec 32) : Fin 4 → Nat :=
  let c3_438 : Index := 3#32
  let c2_439 : Index := 2#32
  let c0_i32_413 : BitVec 32 := 0#32
  let v1349 : BitVec 1 := Scalar.cmpi .sgt v848 c0_i32_413
  let v1350 : BitVec 32 := Scalar.extui v1349
  let c0_i32_414 : BitVec 32 := 0#32
  let v1351 : BitVec 1 := Scalar.cmpi .slt v848 c0_i32_414
  let v1352 : BitVec 32 := Scalar.extui v1351
  let v1353 : BitVec 32 := Scalar.subi v1350 v1352
  let c8_i32_412 : BitVec 32 := 8#32
  let c0_i32_415 : BitVec 32 := 0#32
  let v1354 : BitVec 1 := Scalar.cmpi .sgt c8_i32_412 c0_i32_415
  let v1355 : BitVec 32 := Scalar.extui v1354
  let c0_i32_416 : BitVec 32 := 0#32
  let v1356 : BitVec 1 := Scalar.cmpi .slt c8_i32_412 c0_i32_416
  let v1357 : BitVec 32 := Scalar.extui v1356
  let v1358 : BitVec 32 := Scalar.subi v1355 v1357
  let v1359 : BitVec 1 := Scalar.cmpi .ne v1353 v1358
  let v1360 : BitVec 32 := Scalar.remsi v848 c8_i32_412
  let c0_i32_417 : BitVec 32 := 0#32
  let v1361 : BitVec 1 := Scalar.cmpi .ne v1360 c0_i32_417
  let v1362 : BitVec 1 := Scalar.andi v1359 v1361
  let v1348 : BitVec 32 := Scalar.divsi v848 c8_i32_412
  let c1_i32_418 : BitVec 32 := 1#32
  let v1363 : BitVec 32 := Scalar.subi v1348 c1_i32_418
  let v1364 : BitVec 32 := Scalar.select v1362 v1363 v1348
  let c0_i32_421 : BitVec 32 := 0#32
  let v1368 : BitVec 1 := Scalar.cmpi .sgt v1364 c0_i32_421
  let v1369 : BitVec 32 := Scalar.extui v1368
  let c0_i32_422 : BitVec 32 := 0#32
  let v1370 : BitVec 1 := Scalar.cmpi .slt v1364 c0_i32_422
  let v1371 : BitVec 32 := Scalar.extui v1370
  let v1372 : BitVec 32 := Scalar.subi v1369 v1371
  let c8_i32_420 : BitVec 32 := 8#32
  let c0_i32_423 : BitVec 32 := 0#32
  let v1373 : BitVec 1 := Scalar.cmpi .sgt c8_i32_420 c0_i32_423
  let v1374 : BitVec 32 := Scalar.extui v1373
  let c0_i32_424 : BitVec 32 := 0#32
  let v1375 : BitVec 1 := Scalar.cmpi .slt c8_i32_420 c0_i32_424
  let v1376 : BitVec 32 := Scalar.extui v1375
  let v1377 : BitVec 32 := Scalar.subi v1374 v1376
  let v1378 : BitVec 1 := Scalar.cmpi .ne v1372 v1377
  let v1379 : BitVec 32 := Scalar.remsi v1364 c8_i32_420
  let c0_i32_425 : BitVec 32 := 0#32
  let v1380 : BitVec 1 := Scalar.cmpi .ne v1379 c0_i32_425
  let v1381 : BitVec 1 := Scalar.andi v1378 v1380
  let v1367 : BitVec 32 := Scalar.divsi v1364 c8_i32_420
  let c1_i32_426 : BitVec 32 := 1#32
  let v1382 : BitVec 32 := Scalar.subi v1367 c1_i32_426
  let v1383 : BitVec 32 := Scalar.select v1381 v1382 v1367
  let c8_i32_427 : BitVec 32 := 8#32
  let v1384 : BitVec 32 := Scalar.muli v1383 c8_i32_427
  let v1385 : BitVec 32 := v1384
  let v1410 : Index := Scalar.indexCast v1385
  let c0_440 : Index := 0#32
  ![3, 2, v1410.toNat, 0]
def k0_off31 (v848 : BitVec 32) : Fin 4 → Nat :=
  let c3_443 : Index := 3#32
  let c3_444 : Index := 3#32
  let c0_i32_413 : BitVec 32 := 0#32
  let v1349 : BitVec 1 := Scalar.cmpi .sgt v848 c0_i32_413
  let v1350 : BitVec 32 := Scalar.extui v1349
  let c0_i32_414 : BitVec 32 := 0#32
  let v1351 : BitVec 1 := Scalar.cmpi .slt v848 c0_i32_414
  let v1352 : BitVec 32 := Scalar.extui v1351
  let v1353 : BitVec 32 := Scalar.subi v1350 v1352
  let c8_i32_412 : BitVec 32 := 8#32
  let c0_i32_415 : BitVec 32 := 0#32
  let v1354 : BitVec 1 := Scalar.cmpi .sgt c8_i32_412 c0_i32_415
  let v1355 : BitVec 32 := Scalar.extui v1354
  let c0_i32_416 : BitVec 32 := 0#32
  let v1356 : BitVec 1 := Scalar.cmpi .slt c8_i32_412 c0_i32_416
  let v1357 : BitVec 32 := Scalar.extui v1356
  let v1358 : BitVec 32 := Scalar.subi v1355 v1357
  let v1359 : BitVec 1 := Scalar.cmpi .ne v1353 v1358
  let v1360 : BitVec 32 := Scalar.remsi v848 c8_i32_412
  let c0_i32_417 : BitVec 32 := 0#32
  let v1361 : BitVec 1 := Scalar.cmpi .ne v1360 c0_i32_417
  let v1362 : BitVec 1 := Scalar.andi v1359 v1361
  let v1348 : BitVec 32 := Scalar.divsi v848 c8_i32_412
  let c1_i32_418 : BitVec 32 := 1#32
  let v1363 : BitVec 32 := Scalar.subi v1348 c1_i32_418
  let v1364 : BitVec 32 := Scalar.select v1362 v1363 v1348
  let c0_i32_421 : BitVec 32 := 0#32
  let v1368 : BitVec 1 := Scalar.cmpi .sgt v1364 c0_i32_421
  let v1369 : BitVec 32 := Scalar.extui v1368
  let c0_i32_422 : BitVec 32 := 0#32
  let v1370 : BitVec 1 := Scalar.cmpi .slt v1364 c0_i32_422
  let v1371 : BitVec 32 := Scalar.extui v1370
  let v1372 : BitVec 32 := Scalar.subi v1369 v1371
  let c8_i32_420 : BitVec 32 := 8#32
  let c0_i32_423 : BitVec 32 := 0#32
  let v1373 : BitVec 1 := Scalar.cmpi .sgt c8_i32_420 c0_i32_423
  let v1374 : BitVec 32 := Scalar.extui v1373
  let c0_i32_424 : BitVec 32 := 0#32
  let v1375 : BitVec 1 := Scalar.cmpi .slt c8_i32_420 c0_i32_424
  let v1376 : BitVec 32 := Scalar.extui v1375
  let v1377 : BitVec 32 := Scalar.subi v1374 v1376
  let v1378 : BitVec 1 := Scalar.cmpi .ne v1372 v1377
  let v1379 : BitVec 32 := Scalar.remsi v1364 c8_i32_420
  let c0_i32_425 : BitVec 32 := 0#32
  let v1380 : BitVec 1 := Scalar.cmpi .ne v1379 c0_i32_425
  let v1381 : BitVec 1 := Scalar.andi v1378 v1380
  let v1367 : BitVec 32 := Scalar.divsi v1364 c8_i32_420
  let c1_i32_426 : BitVec 32 := 1#32
  let v1382 : BitVec 32 := Scalar.subi v1367 c1_i32_426
  let v1383 : BitVec 32 := Scalar.select v1381 v1382 v1367
  let c8_i32_427 : BitVec 32 := 8#32
  let v1384 : BitVec 32 := Scalar.muli v1383 c8_i32_427
  let v1385 : BitVec 32 := v1384
  let v1419 : Index := Scalar.indexCast v1385
  let c0_445 : Index := 0#32
  ![3, 3, v1419.toNat, 0]

def k0_chk4 (v848 : BitVec 32) : Prop :=
  (8 ∣ (k0_mult4 v848).toNat) ∧
  (∀ a, (k0_off28 v848) a + S1x1x8x8.size a ≤ S4x4x2560x8.size a) ∧
  (∀ a, (k0_off29 v848) a + S1x1x8x8.size a ≤ S4x4x2560x8.size a) ∧
  (∀ a, (k0_off30 v848) a + S1x1x8x8.size a ≤ S4x4x2560x8.size a) ∧
  (∀ a, (k0_off31 v848) a + S1x1x8x8.size a ≤ S4x4x2560x8.size a)
theorem k0_mult4_dvd : ∀ (v848 : BitVec 32) (k0_hw4 : k0_chk4 v848), 8 ∣ (k0_mult4 v848).toNat := fun v848 k0_hw4 => k0_hw4.1
theorem k0_off28_inb : ∀ (v848 : BitVec 32) (k0_hw4 : k0_chk4 v848), ∀ a, (k0_off28 v848) a + S1x1x8x8.size a ≤ S4x4x2560x8.size a := fun v848 k0_hw4 => k0_hw4.2.1
theorem k0_off29_inb : ∀ (v848 : BitVec 32) (k0_hw4 : k0_chk4 v848), ∀ a, (k0_off29 v848) a + S1x1x8x8.size a ≤ S4x4x2560x8.size a := fun v848 k0_hw4 => k0_hw4.2.2.1
theorem k0_off30_inb : ∀ (v848 : BitVec 32) (k0_hw4 : k0_chk4 v848), ∀ a, (k0_off30 v848) a + S1x1x8x8.size a ≤ S4x4x2560x8.size a := fun v848 k0_hw4 => k0_hw4.2.2.2.1
theorem k0_off31_inb : ∀ (v848 : BitVec 32) (k0_hw4 : k0_chk4 v848), ∀ a, (k0_off31 v848) a + S1x1x8x8.size a ≤ S4x4x2560x8.size a := fun v848 k0_hw4 => k0_hw4.2.2.2.2

def k0_off32 (k0_t1 : Fin k0_t1_loop.trips) : Fin 3 → Nat :=
  let c3_486 : Index := 3#32
  let c0_i32 : BitVec 32 := 0#32
  let c1_i32 : BitVec 32 := 1#32
  let arg8 : BitVec 32 := Scf.iv c0_i32 c1_i32 k0_t1
  let v1501 : Index := Scalar.indexCast arg8
  let c0_487 : Index := 0#32
  ![3, v1501.toNat, 0]
def k0_off33 (k0_t1 : Fin k0_t1_loop.trips) : Fin 3 → Nat :=
  let c3_488 : Index := 3#32
  let c0_i32 : BitVec 32 := 0#32
  let c1_i32 : BitVec 32 := 1#32
  let arg8 : BitVec 32 := Scf.iv c0_i32 c1_i32 k0_t1
  let v1505 : Index := Scalar.indexCast arg8
  let c0_489 : Index := 0#32
  ![3, v1505.toNat, 0]
def k0_off34 (k0_t1 : Fin k0_t1_loop.trips) : Fin 3 → Nat :=
  let c3_490 : Index := 3#32
  let c0_i32 : BitVec 32 := 0#32
  let c1_i32 : BitVec 32 := 1#32
  let arg8 : BitVec 32 := Scf.iv c0_i32 c1_i32 k0_t1
  let v1507 : Index := Scalar.indexCast arg8
  let c1_491 : Index := 1#32
  ![3, v1507.toNat, 1]
def k0_off35 (k0_t1 : Fin k0_t1_loop.trips) : Fin 3 → Nat :=
  let c3_492 : Index := 3#32
  let c0_i32 : BitVec 32 := 0#32
  let c1_i32 : BitVec 32 := 1#32
  let arg8 : BitVec 32 := Scf.iv c0_i32 c1_i32 k0_t1
  let v1509 : Index := Scalar.indexCast arg8
  let c2_493 : Index := 2#32
  ![3, v1509.toNat, 2]
def k0_off36 (k0_t1 : Fin k0_t1_loop.trips) : Fin 3 → Nat :=
  let c3_494 : Index := 3#32
  let c0_i32 : BitVec 32 := 0#32
  let c1_i32 : BitVec 32 := 1#32
  let arg8 : BitVec 32 := Scf.iv c0_i32 c1_i32 k0_t1
  let v1511 : Index := Scalar.indexCast arg8
  let c3_495 : Index := 3#32
  ![3, v1511.toNat, 3]
@[reducible] def k0_t2_loop : Scf.Loop 32 :=
  let c0_i32_88 : BitVec 32 := 0#32
  let c10_i32 : BitVec 32 := 10#32
  let v80 : BitVec 32 := Scalar.addi c0_i32_88 c10_i32
  let c1_i32_89 : BitVec 32 := 1#32
  ⟨c0_i32_88, v80, c1_i32_89⟩
def k0_off37 (k0_t2 : Fin k0_t2_loop.trips) (c0_i32_92 : BitVec 32) : Fin 3 → Nat :=
  let c0_93 : Index := 0#32
  let c0_i32_88 : BitVec 32 := 0#32
  let c1_i32_89 : BitVec 32 := 1#32
  let arg8 : BitVec 32 := Scf.iv c0_i32_88 c1_i32_89 k0_t2
  let c10_i32_91 : BitVec 32 := 10#32
  let v81 : BitVec 32 := Scalar.muli arg8 c10_i32_91
  let v82 : BitVec 32 := Scalar.addi v81 c0_i32_92
  let v83 : Index := Scalar.indexCast v82
  let c0_94 : Index := 0#32
  ![0, v83.toNat, 0]
def k0_off38 (k0_t2 : Fin k0_t2_loop.trips) (c0_i32_92 : BitVec 32) : Fin 3 → Nat :=
  let c0_95 : Index := 0#32
  let c0_i32_88 : BitVec 32 := 0#32
  let c1_i32_89 : BitVec 32 := 1#32
  let arg8 : BitVec 32 := Scf.iv c0_i32_88 c1_i32_89 k0_t2
  let c10_i32_91 : BitVec 32 := 10#32
  let v81 : BitVec 32 := Scalar.muli arg8 c10_i32_91
  let v82 : BitVec 32 := Scalar.addi v81 c0_i32_92
  let v86 : Index := Scalar.indexCast v82
  let c1_96 : Index := 1#32
  ![0, v86.toNat, 1]
def k0_off39 (k0_t2 : Fin k0_t2_loop.trips) (c0_i32_92 : BitVec 32) : Fin 3 → Nat :=
  let c0_97 : Index := 0#32
  let c0_i32_88 : BitVec 32 := 0#32
  let c1_i32_89 : BitVec 32 := 1#32
  let arg8 : BitVec 32 := Scf.iv c0_i32_88 c1_i32_89 k0_t2
  let c10_i32_91 : BitVec 32 := 10#32
  let v81 : BitVec 32 := Scalar.muli arg8 c10_i32_91
  let v82 : BitVec 32 := Scalar.addi v81 c0_i32_92
  let v89 : Index := Scalar.indexCast v82
  let c2_98 : Index := 2#32
  ![0, v89.toNat, 2]
def k0_off40 (k0_t2 : Fin k0_t2_loop.trips) (c0_i32_92 : BitVec 32) : Fin 3 → Nat :=
  let c0_99 : Index := 0#32
  let c0_i32_88 : BitVec 32 := 0#32
  let c1_i32_89 : BitVec 32 := 1#32
  let arg8 : BitVec 32 := Scf.iv c0_i32_88 c1_i32_89 k0_t2
  let c10_i32_91 : BitVec 32 := 10#32
  let v81 : BitVec 32 := Scalar.muli arg8 c10_i32_91
  let v82 : BitVec 32 := Scalar.addi v81 c0_i32_92
  let v92 : Index := Scalar.indexCast v82
  let c3_100 : Index := 3#32
  ![0, v92.toNat, 3]
def k0_off41 (k0_t2 : Fin k0_t2_loop.trips) (c0_i32_247 : BitVec 32) : Fin 3 → Nat :=
  let c1_248 : Index := 1#32
  let c0_i32_88 : BitVec 32 := 0#32
  let c1_i32_89 : BitVec 32 := 1#32
  let arg8 : BitVec 32 := Scf.iv c0_i32_88 c1_i32_89 k0_t2
  let c10_i32_246 : BitVec 32 := 10#32
  let v479 : BitVec 32 := Scalar.muli arg8 c10_i32_246
  let v480 : BitVec 32 := Scalar.addi v479 c0_i32_247
  let v481 : Index := Scalar.indexCast v480
  let c0_249 : Index := 0#32
  ![1, v481.toNat, 0]
def k0_off42 (k0_t2 : Fin k0_t2_loop.trips) (c0_i32_247 : BitVec 32) : Fin 3 → Nat :=
  let c1_250 : Index := 1#32
  let c0_i32_88 : BitVec 32 := 0#32
  let c1_i32_89 : BitVec 32 := 1#32
  let arg8 : BitVec 32 := Scf.iv c0_i32_88 c1_i32_89 k0_t2
  let c10_i32_246 : BitVec 32 := 10#32
  let v479 : BitVec 32 := Scalar.muli arg8 c10_i32_246
  let v480 : BitVec 32 := Scalar.addi v479 c0_i32_247
  let v484 : Index := Scalar.indexCast v480
  let c1_251 : Index := 1#32
  ![1, v484.toNat, 1]
def k0_off43 (k0_t2 : Fin k0_t2_loop.trips) (c0_i32_247 : BitVec 32) : Fin 3 → Nat :=
  let c1_252 : Index := 1#32
  let c0_i32_88 : BitVec 32 := 0#32
  let c1_i32_89 : BitVec 32 := 1#32
  let arg8 : BitVec 32 := Scf.iv c0_i32_88 c1_i32_89 k0_t2
  let c10_i32_246 : BitVec 32 := 10#32
  let v479 : BitVec 32 := Scalar.muli arg8 c10_i32_246
  let v480 : BitVec 32 := Scalar.addi v479 c0_i32_247
  let v487 : Index := Scalar.indexCast v480
  let c2_253 : Index := 2#32
  ![1, v487.toNat, 2]
def k0_off44 (k0_t2 : Fin k0_t2_loop.trips) (c0_i32_247 : BitVec 32) : Fin 3 → Nat :=
  let c1_254 : Index := 1#32
  let c0_i32_88 : BitVec 32 := 0#32
  let c1_i32_89 : BitVec 32 := 1#32
  let arg8 : BitVec 32 := Scf.iv c0_i32_88 c1_i32_89 k0_t2
  let c10_i32_246 : BitVec 32 := 10#32
  let v479 : BitVec 32 := Scalar.muli arg8 c10_i32_246
  let v480 : BitVec 32 := Scalar.addi v479 c0_i32_247
  let v490 : Index := Scalar.indexCast v480
  let c3_255 : Index := 3#32
  ![1, v490.toNat, 3]
def k0_off45 (k0_t2 : Fin k0_t2_loop.trips) (c0_i32_411 : BitVec 32) : Fin 3 → Nat :=
  let c2_412 : Index := 2#32
  let c0_i32_88 : BitVec 32 := 0#32
  let c1_i32_89 : BitVec 32 := 1#32
  let arg8 : BitVec 32 := Scf.iv c0_i32_88 c1_i32_89 k0_t2
  let c10_i32_410 : BitVec 32 := 10#32
  let v877 : BitVec 32 := Scalar.muli arg8 c10_i32_410
  let v878 : BitVec 32 := Scalar.addi v877 c0_i32_411
  let v879 : Index := Scalar.indexCast v878
  let c0_413 : Index := 0#32
  ![2, v879.toNat, 0]
def k0_off46 (k0_t2 : Fin k0_t2_loop.trips) (c0_i32_411 : BitVec 32) : Fin 3 → Nat :=
  let c2_414 : Index := 2#32
  let c0_i32_88 : BitVec 32 := 0#32
  let c1_i32_89 : BitVec 32 := 1#32
  let arg8 : BitVec 32 := Scf.iv c0_i32_88 c1_i32_89 k0_t2
  let c10_i32_410 : BitVec 32 := 10#32
  let v877 : BitVec 32 := Scalar.muli arg8 c10_i32_410
  let v878 : BitVec 32 := Scalar.addi v877 c0_i32_411
  let v882 : Index := Scalar.indexCast v878
  let c1_415 : Index := 1#32
  ![2, v882.toNat, 1]
def k0_off47 (k0_t2 : Fin k0_t2_loop.trips) (c0_i32_411 : BitVec 32) : Fin 3 → Nat :=
  let c2_416 : Index := 2#32
  let c0_i32_88 : BitVec 32 := 0#32
  let c1_i32_89 : BitVec 32 := 1#32
  let arg8 : BitVec 32 := Scf.iv c0_i32_88 c1_i32_89 k0_t2
  let c10_i32_410 : BitVec 32 := 10#32
  let v877 : BitVec 32 := Scalar.muli arg8 c10_i32_410
  let v878 : BitVec 32 := Scalar.addi v877 c0_i32_411
  let v885 : Index := Scalar.indexCast v878
  let c2_417 : Index := 2#32
  ![2, v885.toNat, 2]
def k0_off48 (k0_t2 : Fin k0_t2_loop.trips) (c0_i32_411 : BitVec 32) : Fin 3 → Nat :=
  let c2_418 : Index := 2#32
  let c0_i32_88 : BitVec 32 := 0#32
  let c1_i32_89 : BitVec 32 := 1#32
  let arg8 : BitVec 32 := Scf.iv c0_i32_88 c1_i32_89 k0_t2
  let c10_i32_410 : BitVec 32 := 10#32
  let v877 : BitVec 32 := Scalar.muli arg8 c10_i32_410
  let v878 : BitVec 32 := Scalar.addi v877 c0_i32_411
  let v888 : Index := Scalar.indexCast v878
  let c3_419 : Index := 3#32
  ![2, v888.toNat, 3]
def k0_off49 (k0_t2 : Fin k0_t2_loop.trips) (c0_i32_575 : BitVec 32) : Fin 3 → Nat :=
  let c3_576 : Index := 3#32
  let c0_i32_88 : BitVec 32 := 0#32
  let c1_i32_89 : BitVec 32 := 1#32
  let arg8 : BitVec 32 := Scf.iv c0_i32_88 c1_i32_89 k0_t2
  let c10_i32_574 : BitVec 32 := 10#32
  let v1275 : BitVec 32 := Scalar.muli arg8 c10_i32_574
  let v1276 : BitVec 32 := Scalar.addi v1275 c0_i32_575
  let v1277 : Index := Scalar.indexCast v1276
  let c0_577 : Index := 0#32
  ![3, v1277.toNat, 0]
def k0_off50 (k0_t2 : Fin k0_t2_loop.trips) (c0_i32_575 : BitVec 32) : Fin 3 → Nat :=
  let c3_578 : Index := 3#32
  let c0_i32_88 : BitVec 32 := 0#32
  let c1_i32_89 : BitVec 32 := 1#32
  let arg8 : BitVec 32 := Scf.iv c0_i32_88 c1_i32_89 k0_t2
  let c10_i32_574 : BitVec 32 := 10#32
  let v1275 : BitVec 32 := Scalar.muli arg8 c10_i32_574
  let v1276 : BitVec 32 := Scalar.addi v1275 c0_i32_575
  let v1280 : Index := Scalar.indexCast v1276
  let c1_579 : Index := 1#32
  ![3, v1280.toNat, 1]
def k0_off51 (k0_t2 : Fin k0_t2_loop.trips) (c0_i32_575 : BitVec 32) : Fin 3 → Nat :=
  let c3_580 : Index := 3#32
  let c0_i32_88 : BitVec 32 := 0#32
  let c1_i32_89 : BitVec 32 := 1#32
  let arg8 : BitVec 32 := Scf.iv c0_i32_88 c1_i32_89 k0_t2
  let c10_i32_574 : BitVec 32 := 10#32
  let v1275 : BitVec 32 := Scalar.muli arg8 c10_i32_574
  let v1276 : BitVec 32 := Scalar.addi v1275 c0_i32_575
  let v1283 : Index := Scalar.indexCast v1276
  let c2_581 : Index := 2#32
  ![3, v1283.toNat, 2]
def k0_off52 (k0_t2 : Fin k0_t2_loop.trips) (c0_i32_575 : BitVec 32) : Fin 3 → Nat :=
  let c3_582 : Index := 3#32
  let c0_i32_88 : BitVec 32 := 0#32
  let c1_i32_89 : BitVec 32 := 1#32
  let arg8 : BitVec 32 := Scf.iv c0_i32_88 c1_i32_89 k0_t2
  let c10_i32_574 : BitVec 32 := 10#32
  let v1275 : BitVec 32 := Scalar.muli arg8 c10_i32_574
  let v1276 : BitVec 32 := Scalar.addi v1275 c0_i32_575
  let v1286 : Index := Scalar.indexCast v1276
  let c3_583 : Index := 3#32
  ![3, v1286.toNat, 3]
def k0_off53 (k0_t2 : Fin k0_t2_loop.trips) (c0_i32_800 : BitVec 32) : Fin 5 → Nat :=
  let c0_801 : Index := 0#32
  let c0_802 : Index := 0#32
  let c0_i32_88 : BitVec 32 := 0#32
  let c1_i32_89 : BitVec 32 := 1#32
  let arg8 : BitVec 32 := Scf.iv c0_i32_88 c1_i32_89 k0_t2
  let c10_i32_799 : BitVec 32 := 10#32
  let v1724 : BitVec 32 := Scalar.muli arg8 c10_i32_799
  let v1725 : BitVec 32 := Scalar.addi v1724 c0_i32_800
  let v1726 : Index := Scalar.indexCast v1725
  let c0_803 : Index := 0#32
  let c0_804 : Index := 0#32
  ![0, 0, v1726.toNat, 0, 0]
def k0_off54 (k0_t2 : Fin k0_t2_loop.trips) (c0_i32_861 : BitVec 32) : Fin 5 → Nat :=
  let c0_862 : Index := 0#32
  let c1_863 : Index := 1#32
  let c0_i32_88 : BitVec 32 := 0#32
  let c1_i32_89 : BitVec 32 := 1#32
  let arg8 : BitVec 32 := Scf.iv c0_i32_88 c1_i32_89 k0_t2
  let c10_i32_860 : BitVec 32 := 10#32
  let v1805 : BitVec 32 := Scalar.muli arg8 c10_i32_860
  let v1806 : BitVec 32 := Scalar.addi v1805 c0_i32_861
  let v1807 : Index := Scalar.indexCast v1806
  let c0_864 : Index := 0#32
  let c0_865 : Index := 0#32
  ![0, 1, v1807.toNat, 0, 0]
def k0_off55 (k0_t2 : Fin k0_t2_loop.trips) (c0_i32_922 : BitVec 32) : Fin 5 → Nat :=
  let c0_923 : Index := 0#32
  let c2_924 : Index := 2#32
  let c0_i32_88 : BitVec 32 := 0#32
  let c1_i32_89 : BitVec 32 := 1#32
  let arg8 : BitVec 32 := Scf.iv c0_i32_88 c1_i32_89 k0_t2
  let c10_i32_921 : BitVec 32 := 10#32
  let v1886 : BitVec 32 := Scalar.muli arg8 c10_i32_921
  let v1887 : BitVec 32 := Scalar.addi v1886 c0_i32_922
  let v1888 : Index := Scalar.indexCast v1887
  let c0_925 : Index := 0#32
  let c0_926 : Index := 0#32
  ![0, 2, v1888.toNat, 0, 0]
def k0_off56 (k0_t2 : Fin k0_t2_loop.trips) (c0_i32_983 : BitVec 32) : Fin 5 → Nat :=
  let c1_984 : Index := 1#32
  let c0_985 : Index := 0#32
  let c0_i32_88 : BitVec 32 := 0#32
  let c1_i32_89 : BitVec 32 := 1#32
  let arg8 : BitVec 32 := Scf.iv c0_i32_88 c1_i32_89 k0_t2
  let c10_i32_982 : BitVec 32 := 10#32
  let v1967 : BitVec 32 := Scalar.muli arg8 c10_i32_982
  let v1968 : BitVec 32 := Scalar.addi v1967 c0_i32_983
  let v1969 : Index := Scalar.indexCast v1968
  let c0_986 : Index := 0#32
  let c0_987 : Index := 0#32
  ![1, 0, v1969.toNat, 0, 0]
def k0_off57 (k0_t2 : Fin k0_t2_loop.trips) (c0_i32_1044 : BitVec 32) : Fin 5 → Nat :=
  let c1_1045 : Index := 1#32
  let c1_1046 : Index := 1#32
  let c0_i32_88 : BitVec 32 := 0#32
  let c1_i32_89 : BitVec 32 := 1#32
  let arg8 : BitVec 32 := Scf.iv c0_i32_88 c1_i32_89 k0_t2
  let c10_i32_1043 : BitVec 32 := 10#32
  let v2048 : BitVec 32 := Scalar.muli arg8 c10_i32_1043
  let v2049 : BitVec 32 := Scalar.addi v2048 c0_i32_1044
  let v2050 : Index := Scalar.indexCast v2049
  let c0_1047 : Index := 0#32
  let c0_1048 : Index := 0#32
  ![1, 1, v2050.toNat, 0, 0]
def k0_off58 (k0_t2 : Fin k0_t2_loop.trips) (c0_i32_1105 : BitVec 32) : Fin 5 → Nat :=
  let c1_1106 : Index := 1#32
  let c2_1107 : Index := 2#32
  let c0_i32_88 : BitVec 32 := 0#32
  let c1_i32_89 : BitVec 32 := 1#32
  let arg8 : BitVec 32 := Scf.iv c0_i32_88 c1_i32_89 k0_t2
  let c10_i32_1104 : BitVec 32 := 10#32
  let v2129 : BitVec 32 := Scalar.muli arg8 c10_i32_1104
  let v2130 : BitVec 32 := Scalar.addi v2129 c0_i32_1105
  let v2131 : Index := Scalar.indexCast v2130
  let c0_1108 : Index := 0#32
  let c0_1109 : Index := 0#32
  ![1, 2, v2131.toNat, 0, 0]
def k0_off59 (k0_t2 : Fin k0_t2_loop.trips) (c0_i32_1166 : BitVec 32) : Fin 5 → Nat :=
  let c2_1167 : Index := 2#32
  let c0_1168 : Index := 0#32
  let c0_i32_88 : BitVec 32 := 0#32
  let c1_i32_89 : BitVec 32 := 1#32
  let arg8 : BitVec 32 := Scf.iv c0_i32_88 c1_i32_89 k0_t2
  let c10_i32_1165 : BitVec 32 := 10#32
  let v2210 : BitVec 32 := Scalar.muli arg8 c10_i32_1165
  let v2211 : BitVec 32 := Scalar.addi v2210 c0_i32_1166
  let v2212 : Index := Scalar.indexCast v2211
  let c0_1169 : Index := 0#32
  let c0_1170 : Index := 0#32
  ![2, 0, v2212.toNat, 0, 0]
def k0_off60 (k0_t2 : Fin k0_t2_loop.trips) (c0_i32_1227 : BitVec 32) : Fin 5 → Nat :=
  let c2_1228 : Index := 2#32
  let c1_1229 : Index := 1#32
  let c0_i32_88 : BitVec 32 := 0#32
  let c1_i32_89 : BitVec 32 := 1#32
  let arg8 : BitVec 32 := Scf.iv c0_i32_88 c1_i32_89 k0_t2
  let c10_i32_1226 : BitVec 32 := 10#32
  let v2291 : BitVec 32 := Scalar.muli arg8 c10_i32_1226
  let v2292 : BitVec 32 := Scalar.addi v2291 c0_i32_1227
  let v2293 : Index := Scalar.indexCast v2292
  let c0_1230 : Index := 0#32
  let c0_1231 : Index := 0#32
  ![2, 1, v2293.toNat, 0, 0]
def k0_off61 (k0_t2 : Fin k0_t2_loop.trips) (c0_i32_1288 : BitVec 32) : Fin 5 → Nat :=
  let c2_1289 : Index := 2#32
  let c2_1290 : Index := 2#32
  let c0_i32_88 : BitVec 32 := 0#32
  let c1_i32_89 : BitVec 32 := 1#32
  let arg8 : BitVec 32 := Scf.iv c0_i32_88 c1_i32_89 k0_t2
  let c10_i32_1287 : BitVec 32 := 10#32
  let v2372 : BitVec 32 := Scalar.muli arg8 c10_i32_1287
  let v2373 : BitVec 32 := Scalar.addi v2372 c0_i32_1288
  let v2374 : Index := Scalar.indexCast v2373
  let c0_1291 : Index := 0#32
  let c0_1292 : Index := 0#32
  ![2, 2, v2374.toNat, 0, 0]
def k0_off62 (k0_t2 : Fin k0_t2_loop.trips) (c0_i32_1349 : BitVec 32) : Fin 5 → Nat :=
  let c3_1350 : Index := 3#32
  let c0_1351 : Index := 0#32
  let c0_i32_88 : BitVec 32 := 0#32
  let c1_i32_89 : BitVec 32 := 1#32
  let arg8 : BitVec 32 := Scf.iv c0_i32_88 c1_i32_89 k0_t2
  let c10_i32_1348 : BitVec 32 := 10#32
  let v2453 : BitVec 32 := Scalar.muli arg8 c10_i32_1348
  let v2454 : BitVec 32 := Scalar.addi v2453 c0_i32_1349
  let v2455 : Index := Scalar.indexCast v2454
  let c0_1352 : Index := 0#32
  let c0_1353 : Index := 0#32
  ![3, 0, v2455.toNat, 0, 0]
def k0_off63 (k0_t2 : Fin k0_t2_loop.trips) (c0_i32_1410 : BitVec 32) : Fin 5 → Nat :=
  let c3_1411 : Index := 3#32
  let c1_1412 : Index := 1#32
  let c0_i32_88 : BitVec 32 := 0#32
  let c1_i32_89 : BitVec 32 := 1#32
  let arg8 : BitVec 32 := Scf.iv c0_i32_88 c1_i32_89 k0_t2
  let c10_i32_1409 : BitVec 32 := 10#32
  let v2534 : BitVec 32 := Scalar.muli arg8 c10_i32_1409
  let v2535 : BitVec 32 := Scalar.addi v2534 c0_i32_1410
  let v2536 : Index := Scalar.indexCast v2535
  let c0_1413 : Index := 0#32
  let c0_1414 : Index := 0#32
  ![3, 1, v2536.toNat, 0, 0]
def k0_off64 (k0_t2 : Fin k0_t2_loop.trips) (c0_i32_1471 : BitVec 32) : Fin 5 → Nat :=
  let c3_1472 : Index := 3#32
  let c2_1473 : Index := 2#32
  let c0_i32_88 : BitVec 32 := 0#32
  let c1_i32_89 : BitVec 32 := 1#32
  let arg8 : BitVec 32 := Scf.iv c0_i32_88 c1_i32_89 k0_t2
  let c10_i32_1470 : BitVec 32 := 10#32
  let v2615 : BitVec 32 := Scalar.muli arg8 c10_i32_1470
  let v2616 : BitVec 32 := Scalar.addi v2615 c0_i32_1471
  let v2617 : Index := Scalar.indexCast v2616
  let c0_1474 : Index := 0#32
  let c0_1475 : Index := 0#32
  ![3, 2, v2617.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x5x160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x4x2560x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x3x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x3x100x24x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x100x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4x20000x5 : Shape := ⟨3, ![4, 20000, 5]⟩
abbrev S4x512x512x3 : Shape := ⟨4, ![4, 512, 512, 3]⟩
abbrev S4x20000x4 : Shape := ⟨3, ![4, 20000, 4]⟩
abbrev S4x20000x1 : Shape := ⟨3, ![4, 20000, 1]⟩
abbrev S4x20000 : Shape := ⟨2, ![4, 20000]⟩
abbrev S4 : Shape := ⟨1, ![4]⟩
abbrev S20000 : Shape := ⟨1, ![20000]⟩
abbrev S_ : Shape := ⟨0, ![]⟩
abbrev S100x4x2x24 : Shape := ⟨4, ![100, 4, 2, 24]⟩
abbrev S100x4x5 : Shape := ⟨3, ![100, 4, 5]⟩
abbrev S4x1 : Shape := ⟨2, ![4, 1]⟩
abbrev S1x20000 : Shape := ⟨2, ![1, 20000]⟩
abbrev S4x2 : Shape := ⟨2, ![4, 2]⟩
abbrev S4x5 : Shape := ⟨2, ![4, 5]⟩
abbrev S4x4 : Shape := ⟨2, ![4, 4]⟩
abbrev S4x4x1 : Shape := ⟨3, ![4, 4, 1]⟩
abbrev S4x2x1 : Shape := ⟨3, ![4, 2, 1]⟩
abbrev S24 : Shape := ⟨1, ![24]⟩
abbrev S1x1x24 : Shape := ⟨3, ![1, 1, 24]⟩
abbrev S4x2x24 : Shape := ⟨3, ![4, 2, 24]⟩
abbrev S1x4x2x24 : Shape := ⟨4, ![1, 4, 2, 24]⟩
abbrev S1x4x5 : Shape := ⟨3, ![1, 4, 5]⟩
abbrev S4x100x5 : Shape := ⟨3, ![4, 100, 5]⟩
abbrev S4x100x2x24 : Shape := ⟨4, ![4, 100, 2, 24]⟩
abbrev S4x100x1x24 : Shape := ⟨4, ![4, 100, 1, 24]⟩
abbrev S4x100x24 : Shape := ⟨3, ![4, 100, 24]⟩
abbrev S4x100x24x1x1 : Shape := ⟨5, ![4, 100, 24, 1, 1]⟩
abbrev S4x100x1x24x1 : Shape := ⟨5, ![4, 100, 1, 24, 1]⟩
abbrev S4x100x24x1 : Shape := ⟨4, ![4, 100, 24, 1]⟩
abbrev S4x1x1x1 : Shape := ⟨4, ![4, 1, 1, 1]⟩
abbrev S4x100x24x24 : Shape := ⟨4, ![4, 100, 24, 24]⟩
abbrev S4x100x24x24x1 : Shape := ⟨5, ![4, 100, 24, 24, 1]⟩
abbrev S4x100x24x24x3 : Shape := ⟨5, ![4, 100, 24, 24, 3]⟩

abbrev nBuf : Space → Nat
  | .hbm => 268
  | .vmem => 0
  | .smem => 0
  | _ => 0

abbrev hbmTy0_0 (i : Nat) : BufTy := match i % 128 with
  | 0 => ⟨S4x20000x5, .f32⟩
  | 1 => ⟨S4x512x512x3, .f32⟩
  | 2 => ⟨S4x20000x4, .f32⟩
  | 3 => ⟨S4x20000x1, .f32⟩
  | 4 => ⟨S4x20000, .f32⟩
  | 5 => ⟨S4x20000x1, .f32⟩
  | 6 => ⟨S4x20000, .f32⟩
  | 7 => ⟨S4x20000, .f32⟩
  | 8 => ⟨S4x20000x1, .f32⟩
  | 9 => ⟨S4x20000, .f32⟩
  | 10 => ⟨S4x20000x1, .f32⟩
  | 11 => ⟨S4x20000, .f32⟩
  | 12 => ⟨S4x20000, .f32⟩
  | 13 => ⟨S4x20000, .f32⟩
  | 14 => ⟨S4, .i32⟩
  | 15 => ⟨S20000, .i32⟩
  | 16 => ⟨S4x20000x1, .f32⟩
  | 17 => ⟨S4x20000, .f32⟩
  | 18 => ⟨S_, .f32⟩
  | 19 => ⟨S100x4x2x24, .f32⟩
  | 20 => ⟨S_, .f32⟩
  | 21 => ⟨S100x4x5, .f32⟩
  | 22 => ⟨S_, .i32⟩
  | 23 => ⟨S20000, .i32⟩
  | 24 => ⟨S4, .i32⟩
  | 25 => ⟨S4x20000x5, .f32⟩
  | 26 => ⟨S4x20000x4, .f32⟩
  | 27 => ⟨S4x20000, .f32⟩
  | 28 => ⟨S_, .i32⟩
  | 29 => ⟨S4x20000, .f32⟩
  | 30 => ⟨S100x4x2x24, .f32⟩
  | 31 => ⟨S100x4x5, .f32⟩
  | 32 => ⟨S_, .i32⟩
  | 33 => ⟨S_, .i1⟩
  | 34 => ⟨S_, .f32⟩
  | 35 => ⟨S4, .f32⟩
  | 36 => ⟨S4x1, .f32⟩
  | 37 => ⟨S4x20000, .f32⟩
  | 38 => ⟨S4x20000, .i1⟩
  | 39 => ⟨S1x20000, .i32⟩
  | 40 => ⟨S_, .i32⟩
  | 41 => ⟨S_, .i32⟩
  | 42 => ⟨S4x20000, .i32⟩
  | 43 => ⟨S4x20000, .i32⟩
  | 44 => ⟨S4x20000, .i32⟩
  | 45 => ⟨S_, .i32⟩
  | 46 => ⟨S4, .i32⟩
  | 47 => ⟨S_, .f32⟩
  | 48 => ⟨S4, .f32⟩
  | 49 => ⟨S4, .i1⟩
  | 50 => ⟨S4x1, .i32⟩
  | 51 => ⟨S4x1, .i32⟩
  | 52 => ⟨S4x2, .i32⟩
  | 53 => ⟨S4x5, .f32⟩
  | 54 => ⟨S4x1, .f32⟩
  | 55 => ⟨S4x20000x1, .f32⟩
  | 56 => ⟨S4x20000, .f32⟩
  | 57 => ⟨S4x20000, .f32⟩
  | 58 => ⟨S4x20000, .f32⟩
  | 59 => ⟨S4x1, .f32⟩
  | 60 => ⟨S4x20000x1, .f32⟩
  | 61 => ⟨S4x20000, .f32⟩
  | 62 => ⟨S4x20000, .f32⟩
  | 63 => ⟨S4x20000, .f32⟩
  | 64 => ⟨S4x1, .f32⟩
  | 65 => ⟨S4x20000x1, .f32⟩
  | 66 => ⟨S4x20000, .f32⟩
  | 67 => ⟨S4x20000, .f32⟩
  | 68 => ⟨S4x20000, .f32⟩
  | 69 => ⟨S4x1, .f32⟩
  | 70 => ⟨S4x20000x1, .f32⟩
  | 71 => ⟨S4x20000, .f32⟩
  | 72 => ⟨S4x20000, .f32⟩
  | 73 => ⟨S4x20000, .f32⟩
  | 74 => ⟨S4x20000, .f32⟩
  | 75 => ⟨S_, .f32⟩
  | 76 => ⟨S4x20000, .f32⟩
  | 77 => ⟨S4x20000, .f32⟩
  | 78 => ⟨S4x20000, .f32⟩
  | 79 => ⟨S_, .f32⟩
  | 80 => ⟨S4x20000, .f32⟩
  | 81 => ⟨S4x20000, .f32⟩
  | 82 => ⟨S4x20000, .f32⟩
  | 83 => ⟨S4x1, .f32⟩
  | 84 => ⟨S4x1, .f32⟩
  | 85 => ⟨S4x1, .f32⟩
  | 86 => ⟨S4x1, .f32⟩
  | 87 => ⟨S4x1, .f32⟩
  | 88 => ⟨S4x1, .f32⟩
  | 89 => ⟨S4x1, .f32⟩
  | 90 => ⟨S4x20000, .f32⟩
  | 91 => ⟨S4x20000, .f32⟩
  | 92 => ⟨S4x20000, .f32⟩
  | 93 => ⟨S4x20000, .f32⟩
  | 94 => ⟨S_, .f32⟩
  | 95 => ⟨S4x20000, .f32⟩
  | 96 => ⟨S4x20000, .i1⟩
  | 97 => ⟨S4x1, .i1⟩
  | 98 => ⟨S4x20000, .i1⟩
  | 99 => ⟨S4x20000, .i1⟩
  | 100 => ⟨S1x20000, .i32⟩
  | 101 => ⟨S4x1, .i32⟩
  | 102 => ⟨S4x20000, .i32⟩
  | 103 => ⟨S4x20000, .i32⟩
  | 104 => ⟨S4x20000, .i1⟩
  | 105 => ⟨S4x20000, .i1⟩
  | 106 => ⟨S_, .f32⟩
  | 107 => ⟨S_, .f32⟩
  | 108 => ⟨S4x20000, .f32⟩
  | 109 => ⟨S4x20000, .f32⟩
  | 110 => ⟨S4x20000, .f32⟩
  | 111 => ⟨S4x20000, .f32⟩
  | 112 => ⟨S4x20000, .f32⟩
  | 113 => ⟨S4x1, .i1⟩
  | 114 => ⟨S_, .f32⟩
  | 115 => ⟨S_, .f32⟩
  | 116 => ⟨S4x5, .i1⟩
  | 117 => ⟨S4x5, .f32⟩
  | 118 => ⟨S4x5, .f32⟩
  | 119 => ⟨S4x4, .f32⟩
  | 120 => ⟨S4x4x1, .f32⟩
  | 121 => ⟨S4x4x1, .i32⟩
  | 122 => ⟨S4x2x1, .i32⟩
  | 123 => ⟨S4x2x1, .i32⟩
  | 124 => ⟨S4x2x1, .i32⟩
  | 125 => ⟨S4x2x1, .f32⟩
  | 126 => ⟨S_, .i32⟩
  | 127 => ⟨S4x2x1, .i32⟩
  | _ => ⟨S4x20000x5, .f32⟩

abbrev hbmTy0_1 (i : Nat) : BufTy := match i % 128 with
  | 0 => ⟨S4x2x1, .i32⟩
  | 1 => ⟨S4x2x1, .f32⟩
  | 2 => ⟨S24, .i32⟩
  | 3 => ⟨S24, .f32⟩
  | 4 => ⟨S1x1x24, .f32⟩
  | 5 => ⟨S4x2x24, .f32⟩
  | 6 => ⟨S4x2x24, .f32⟩
  | 7 => ⟨S4x2x24, .f32⟩
  | 8 => ⟨S_, .f32⟩
  | 9 => ⟨S4x2x24, .f32⟩
  | 10 => ⟨S4x2x24, .f32⟩
  | 11 => ⟨S4x2x24, .f32⟩
  | 12 => ⟨S4x2x24, .f32⟩
  | 13 => ⟨S1x4x2x24, .f32⟩
  | 14 => ⟨S_, .i32⟩
  | 15 => ⟨S_, .i32⟩
  | 16 => ⟨S_, .i32⟩
  | 17 => ⟨S100x4x2x24, .f32⟩
  | 18 => ⟨S1x4x5, .f32⟩
  | 19 => ⟨S_, .i32⟩
  | 20 => ⟨S_, .i32⟩
  | 21 => ⟨S100x4x5, .f32⟩
  | 22 => ⟨S_, .i32⟩
  | 23 => ⟨S_, .i32⟩
  | 24 => ⟨S4x100x5, .f32⟩
  | 25 => ⟨S4x100x2x24, .f32⟩
  | 26 => ⟨S4x100x1x24, .f32⟩
  | 27 => ⟨S4x100x24, .f32⟩
  | 28 => ⟨S4x100x1x24, .f32⟩
  | 29 => ⟨S4x100x24, .f32⟩
  | 30 => ⟨S4x100x24, .f32⟩
  | 31 => ⟨S4x100x24, .f32⟩
  | 32 => ⟨S4x100x24, .f32⟩
  | 33 => ⟨S4x100x24x1x1, .f32⟩
  | 34 => ⟨S4x100x24, .f32⟩
  | 35 => ⟨S4x100x1x24x1, .f32⟩
  | 36 => ⟨S_, .i32⟩
  | 37 => ⟨S_, .i32⟩
  | 38 => ⟨S_, .f32⟩
  | 39 => ⟨S4x100x24, .f32⟩
  | 40 => ⟨S4x100x24, .f32⟩
  | 41 => ⟨S_, .f32⟩
  | 42 => ⟨S4x100x24, .f32⟩
  | 43 => ⟨S4x100x24, .f32⟩
  | 44 => ⟨S4x100x24, .i32⟩
  | 45 => ⟨S4x100x24x1, .i32⟩
  | 46 => ⟨S_, .f32⟩
  | 47 => ⟨S4x100x24, .f32⟩
  | 48 => ⟨S4x100x24, .f32⟩
  | 49 => ⟨S_, .i32⟩
  | 50 => ⟨S_, .i32⟩
  | 51 => ⟨S_, .f32⟩
  | 52 => ⟨S4x100x24, .f32⟩
  | 53 => ⟨S4x100x24, .f32⟩
  | 54 => ⟨S_, .f32⟩
  | 55 => ⟨S4x100x24, .f32⟩
  | 56 => ⟨S4x100x24, .f32⟩
  | 57 => ⟨S4x100x24, .i32⟩
  | 58 => ⟨S4x100x24x1, .i32⟩
  | 59 => ⟨S_, .i32⟩
  | 60 => ⟨S_, .i32⟩
  | 61 => ⟨S_, .f32⟩
  | 62 => ⟨S4x100x24, .f32⟩
  | 63 => ⟨S4x100x24, .f32⟩
  | 64 => ⟨S_, .f32⟩
  | 65 => ⟨S4x100x24, .f32⟩
  | 66 => ⟨S4x100x24, .f32⟩
  | 67 => ⟨S4x100x24, .i32⟩
  | 68 => ⟨S4x100x1x24, .i32⟩
  | 69 => ⟨S_, .f32⟩
  | 70 => ⟨S4x100x24, .f32⟩
  | 71 => ⟨S4x100x24, .f32⟩
  | 72 => ⟨S_, .i32⟩
  | 73 => ⟨S_, .i32⟩
  | 74 => ⟨S_, .f32⟩
  | 75 => ⟨S4x100x24, .f32⟩
  | 76 => ⟨S4x100x24, .f32⟩
  | 77 => ⟨S_, .f32⟩
  | 78 => ⟨S4x100x24, .f32⟩
  | 79 => ⟨S4x100x24, .f32⟩
  | 80 => ⟨S4x100x24, .i32⟩
  | 81 => ⟨S4x100x1x24, .i32⟩
  | 82 => ⟨S4, .i32⟩
  | 83 => ⟨S4x1x1x1, .i32⟩
  | 84 => ⟨S4x100x24x24, .i32⟩
  | 85 => ⟨S4x100x24x24, .i32⟩
  | 86 => ⟨S4x100x24x24, .i32⟩
  | 87 => ⟨S4x100x24x24x1, .i32⟩
  | 88 => ⟨S4x100x24x24x1, .i32⟩
  | 89 => ⟨S4x100x24x24x1, .i32⟩
  | 90 => ⟨S4x100x24x24x3, .i32⟩
  | 91 => ⟨S4x100x24x24x3, .f32⟩
  | 92 => ⟨S4x100x24x24, .i32⟩
  | 93 => ⟨S4x100x24x24, .i32⟩
  | 94 => ⟨S4x100x24x24, .i32⟩
  | 95 => ⟨S4x100x24x24x1, .i32⟩
  | 96 => ⟨S4x100x24x24x1, .i32⟩
  | 97 => ⟨S4x100x24x24x1, .i32⟩
  | 98 => ⟨S4x100x24x24x3, .i32⟩
  | 99 => ⟨S4x100x24x24x3, .f32⟩
  | 100 => ⟨S4x100x24x24, .i32⟩
  | 101 => ⟨S4x100x24x24, .i32⟩
  | 102 => ⟨S4x100x24x24, .i32⟩
  | 103 => ⟨S4x100x24x24x1, .i32⟩
  | 104 => ⟨S4x100x24x24x1, .i32⟩
  | 105 => ⟨S4x100x24x24x1, .i32⟩
  | 106 => ⟨S4x100x24x24x3, .i32⟩
  | 107 => ⟨S4x100x24x24x3, .f32⟩
  | 108 => ⟨S4x100x24x24, .i32⟩
  | 109 => ⟨S4x100x24x24, .i32⟩
  | 110 => ⟨S4x100x24x24, .i32⟩
  | 111 => ⟨S4x100x24x24x1, .i32⟩
  | 112 => ⟨S4x100x24x24x1, .i32⟩
  | 113 => ⟨S4x100x24x24x1, .i32⟩
  | 114 => ⟨S4x100x24x24x3, .i32⟩
  | 115 => ⟨S4x100x24x24x3, .f32⟩
  | 116 => ⟨S_, .f32⟩
  | 117 => ⟨S4x100x1x24x1, .f32⟩
  | 118 => ⟨S4x100x1x24x1, .f32⟩
  | 119 => ⟨S4x100x24x24x3, .f32⟩
  | 120 => ⟨S4x100x24x24x3, .f32⟩
  | 121 => ⟨S4x100x24x24x3, .f32⟩
  | 122 => ⟨S4x100x24x24x3, .f32⟩
  | 123 => ⟨S4x100x24x24x3, .f32⟩
  | 124 => ⟨S_, .f32⟩
  | 125 => ⟨S4x100x1x24x1, .f32⟩
  | 126 => ⟨S4x100x1x24x1, .f32⟩
  | 127 => ⟨S4x100x24x24x3, .f32⟩
  | _ => ⟨S4x20000x5, .f32⟩

abbrev hbmTy0_2 (i : Nat) : BufTy := match i % 128 with
  | 0 => ⟨S4x100x24x24x3, .f32⟩
  | 1 => ⟨S4x100x24x24x3, .f32⟩
  | 2 => ⟨S4x100x24x24x3, .f32⟩
  | 3 => ⟨S4x100x24x24x3, .f32⟩
  | 4 => ⟨S_, .f32⟩
  | 5 => ⟨S4x100x24x1x1, .f32⟩
  | 6 => ⟨S4x100x24x1x1, .f32⟩
  | 7 => ⟨S4x100x24x24x3, .f32⟩
  | 8 => ⟨S4x100x24x24x3, .f32⟩
  | 9 => ⟨S4x100x24x24x3, .f32⟩
  | 10 => ⟨S4x100x24x24x3, .f32⟩
  | 11 => ⟨S4x100x24x24x3, .f32⟩
  | _ => ⟨S4x20000x5, .f32⟩

abbrev hbmTy (i : Nat) : BufTy := match i / 128 with
  | 0 => hbmTy0_0 i
  | 1 => hbmTy0_1 i
  | 2 => hbmTy0_2 i
  | _ => ⟨S4x20000x5, .f32⟩

abbrev bufTy : (tb : Table) → Fin (tcTables nBuf tb) → BufTy
  | .hbm, ⟨i, _⟩ => hbmTy i
  | _, _ => ⟨S4x20000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_c : Ref sig .tc := ⟨.hbm, 22, rfl⟩
abbrev main_v18_0 : Ref sig .tc := ⟨.hbm, 23, rfl⟩
abbrev main_v18_1 : Ref sig .tc := ⟨.hbm, 24, rfl⟩
abbrev main_v18_2 : Ref sig .tc := ⟨.hbm, 25, rfl⟩
abbrev main_v18_3 : Ref sig .tc := ⟨.hbm, 26, rfl⟩
abbrev main_v18_4 : Ref sig .tc := ⟨.hbm, 27, rfl⟩
abbrev main_v18_5 : Ref sig .tc := ⟨.hbm, 28, rfl⟩
abbrev main_v18_6 : Ref sig .tc := ⟨.hbm, 29, rfl⟩
abbrev main_v18_7 : Ref sig .tc := ⟨.hbm, 30, rfl⟩
abbrev main_v18_8 : Ref sig .tc := ⟨.hbm, 31, rfl⟩
abbrev main_while0c_c_22 : Ref sig .tc := ⟨.hbm, 32, rfl⟩
abbrev main_while0c_v102 : Ref sig .tc := ⟨.hbm, 33, rfl⟩
abbrev main_while0b_cst_22 : Ref sig .tc := ⟨.hbm, 34, rfl⟩
abbrev main_while0b_v102 : Ref sig .tc := ⟨.hbm, 35, rfl⟩
abbrev main_while0b_v103 : Ref sig .tc := ⟨.hbm, 36, rfl⟩
abbrev main_while0b_v104 : Ref sig .tc := ⟨.hbm, 37, rfl⟩
abbrev main_while0b_v105 : Ref sig .tc := ⟨.hbm, 38, rfl⟩
abbrev main_while0b_v106 : Ref sig .tc := ⟨.hbm, 39, rfl⟩
abbrev main_while0b_c_23 : Ref sig .tc := ⟨.hbm, 40, rfl⟩
abbrev main_while0b_call0_v0 : Ref sig .tc := ⟨.hbm, 41, rfl⟩
abbrev main_while0b_call0_v1 : Ref sig .tc := ⟨.hbm, 42, rfl⟩
abbrev main_while0b_call0_v2 : Ref sig .tc := ⟨.hbm, 43, rfl⟩
abbrev main_while0b_v107 : Ref sig .tc := ⟨.hbm, 44, rfl⟩
abbrev main_while0b_c_24 : Ref sig .tc := ⟨.hbm, 45, rfl⟩
abbrev main_while0b_v108 : Ref sig .tc := ⟨.hbm, 46, rfl⟩
abbrev main_while0b_cst_25 : Ref sig .tc := ⟨.hbm, 47, rfl⟩
abbrev main_while0b_v109 : Ref sig .tc := ⟨.hbm, 48, rfl⟩
abbrev main_while0b_v110 : Ref sig .tc := ⟨.hbm, 49, rfl⟩
abbrev main_while0b_v111 : Ref sig .tc := ⟨.hbm, 50, rfl⟩
abbrev main_while0b_v112 : Ref sig .tc := ⟨.hbm, 51, rfl⟩
abbrev main_while0b_v113 : Ref sig .tc := ⟨.hbm, 52, rfl⟩
abbrev main_while0b_v114 : Ref sig .tc := ⟨.hbm, 53, rfl⟩
abbrev main_while0b_v115 : Ref sig .tc := ⟨.hbm, 54, rfl⟩
abbrev main_while0b_v116 : Ref sig .tc := ⟨.hbm, 55, rfl⟩
abbrev main_while0b_v117 : Ref sig .tc := ⟨.hbm, 56, rfl⟩
abbrev main_while0b_v118 : Ref sig .tc := ⟨.hbm, 57, rfl⟩
abbrev main_while0b_v119 : Ref sig .tc := ⟨.hbm, 58, rfl⟩
abbrev main_while0b_v120 : Ref sig .tc := ⟨.hbm, 59, rfl⟩
abbrev main_while0b_v121 : Ref sig .tc := ⟨.hbm, 60, rfl⟩
abbrev main_while0b_v122 : Ref sig .tc := ⟨.hbm, 61, rfl⟩
abbrev main_while0b_v123 : Ref sig .tc := ⟨.hbm, 62, rfl⟩
abbrev main_while0b_v124 : Ref sig .tc := ⟨.hbm, 63, rfl⟩
abbrev main_while0b_v125 : Ref sig .tc := ⟨.hbm, 64, rfl⟩
abbrev main_while0b_v126 : Ref sig .tc := ⟨.hbm, 65, rfl⟩
abbrev main_while0b_v127 : Ref sig .tc := ⟨.hbm, 66, rfl⟩
abbrev main_while0b_v128 : Ref sig .tc := ⟨.hbm, 67, rfl⟩
abbrev main_while0b_v129 : Ref sig .tc := ⟨.hbm, 68, rfl⟩
abbrev main_while0b_v130 : Ref sig .tc := ⟨.hbm, 69, rfl⟩
abbrev main_while0b_v131 : Ref sig .tc := ⟨.hbm, 70, rfl⟩
abbrev main_while0b_v132 : Ref sig .tc := ⟨.hbm, 71, rfl⟩
abbrev main_while0b_v133 : Ref sig .tc := ⟨.hbm, 72, rfl⟩
abbrev main_while0b_v134 : Ref sig .tc := ⟨.hbm, 73, rfl⟩
abbrev main_while0b_v135 : Ref sig .tc := ⟨.hbm, 74, rfl⟩
abbrev main_while0b_cst_26 : Ref sig .tc := ⟨.hbm, 75, rfl⟩
abbrev main_while0b_v136 : Ref sig .tc := ⟨.hbm, 76, rfl⟩
abbrev main_while0b_v137 : Ref sig .tc := ⟨.hbm, 77, rfl⟩
abbrev main_while0b_v138 : Ref sig .tc := ⟨.hbm, 78, rfl⟩
abbrev main_while0b_cst_27 : Ref sig .tc := ⟨.hbm, 79, rfl⟩
abbrev main_while0b_v139 : Ref sig .tc := ⟨.hbm, 80, rfl⟩
abbrev main_while0b_v140 : Ref sig .tc := ⟨.hbm, 81, rfl⟩
abbrev main_while0b_v141 : Ref sig .tc := ⟨.hbm, 82, rfl⟩
abbrev main_while0b_v142 : Ref sig .tc := ⟨.hbm, 83, rfl⟩
abbrev main_while0b_v143 : Ref sig .tc := ⟨.hbm, 84, rfl⟩
abbrev main_while0b_v144 : Ref sig .tc := ⟨.hbm, 85, rfl⟩
abbrev main_while0b_v145 : Ref sig .tc := ⟨.hbm, 86, rfl⟩
abbrev main_while0b_v146 : Ref sig .tc := ⟨.hbm, 87, rfl⟩
abbrev main_while0b_v147 : Ref sig .tc := ⟨.hbm, 88, rfl⟩
abbrev main_while0b_v148 : Ref sig .tc := ⟨.hbm, 89, rfl⟩
abbrev main_while0b_v149 : Ref sig .tc := ⟨.hbm, 90, rfl⟩
abbrev main_while0b_v150 : Ref sig .tc := ⟨.hbm, 91, rfl⟩
abbrev main_while0b_v151 : Ref sig .tc := ⟨.hbm, 92, rfl⟩
abbrev main_while0b_v152 : Ref sig .tc := ⟨.hbm, 93, rfl⟩
abbrev main_while0b_cst_28 : Ref sig .tc := ⟨.hbm, 94, rfl⟩
abbrev main_while0b_v153 : Ref sig .tc := ⟨.hbm, 95, rfl⟩
abbrev main_while0b_v154 : Ref sig .tc := ⟨.hbm, 96, rfl⟩
abbrev main_while0b_v155 : Ref sig .tc := ⟨.hbm, 97, rfl⟩
abbrev main_while0b_v156 : Ref sig .tc := ⟨.hbm, 98, rfl⟩
abbrev main_while0b_v157 : Ref sig .tc := ⟨.hbm, 99, rfl⟩
abbrev main_while0b_v158 : Ref sig .tc := ⟨.hbm, 100, rfl⟩
abbrev main_while0b_v159 : Ref sig .tc := ⟨.hbm, 101, rfl⟩
abbrev main_while0b_v160 : Ref sig .tc := ⟨.hbm, 102, rfl⟩
abbrev main_while0b_v161 : Ref sig .tc := ⟨.hbm, 103, rfl⟩
abbrev main_while0b_v162 : Ref sig .tc := ⟨.hbm, 104, rfl⟩
abbrev main_while0b_v163 : Ref sig .tc := ⟨.hbm, 105, rfl⟩
abbrev main_while0b_cst_29 : Ref sig .tc := ⟨.hbm, 106, rfl⟩
abbrev main_while0b_cst_30 : Ref sig .tc := ⟨.hbm, 107, rfl⟩
abbrev main_while0b_call1_v0 : Ref sig .tc := ⟨.hbm, 108, rfl⟩
abbrev main_while0b_call1_v1 : Ref sig .tc := ⟨.hbm, 109, rfl⟩
abbrev main_while0b_v164 : Ref sig .tc := ⟨.hbm, 110, rfl⟩
abbrev main_while0b_v165 : Ref sig .tc := ⟨.hbm, 111, rfl⟩
abbrev main_while0b_v166 : Ref sig .tc := ⟨.hbm, 112, rfl⟩
abbrev main_while0b_v167 : Ref sig .tc := ⟨.hbm, 113, rfl⟩
abbrev main_while0b_cst_31 : Ref sig .tc := ⟨.hbm, 114, rfl⟩
abbrev main_while0b_call2_v0 : Ref sig .tc := ⟨.hbm, 115, rfl⟩
abbrev main_while0b_call2_v1 : Ref sig .tc := ⟨.hbm, 116, rfl⟩
abbrev main_while0b_call2_v2 : Ref sig .tc := ⟨.hbm, 117, rfl⟩
abbrev main_while0b_v168 : Ref sig .tc := ⟨.hbm, 118, rfl⟩
abbrev main_while0b_v169 : Ref sig .tc := ⟨.hbm, 119, rfl⟩
abbrev main_while0b_v170 : Ref sig .tc := ⟨.hbm, 120, rfl⟩
abbrev main_while0b_v171 : Ref sig .tc := ⟨.hbm, 121, rfl⟩
abbrev main_while0b_v172 : Ref sig .tc := ⟨.hbm, 122, rfl⟩
abbrev main_while0b_v173 : Ref sig .tc := ⟨.hbm, 123, rfl⟩
abbrev main_while0b_v174 : Ref sig .tc := ⟨.hbm, 124, rfl⟩
abbrev main_while0b_v175 : Ref sig .tc := ⟨.hbm, 125, rfl⟩
abbrev main_while0b_c_32 : Ref sig .tc := ⟨.hbm, 126, rfl⟩
abbrev main_while0b_v176 : Ref sig .tc := ⟨.hbm, 127, rfl⟩
abbrev main_while0b_v177 : Ref sig .tc := ⟨.hbm, 128, rfl⟩
abbrev main_while0b_v178 : Ref sig .tc := ⟨.hbm, 129, rfl⟩
abbrev main_while0b_v179 : Ref sig .tc := ⟨.hbm, 130, rfl⟩
abbrev main_while0b_v180 : Ref sig .tc := ⟨.hbm, 131, rfl⟩
abbrev main_while0b_v181 : Ref sig .tc := ⟨.hbm, 132, rfl⟩
abbrev main_while0b_v182 : Ref sig .tc := ⟨.hbm, 133, rfl⟩
abbrev main_while0b_v183 : Ref sig .tc := ⟨.hbm, 134, rfl⟩
abbrev main_while0b_v184 : Ref sig .tc := ⟨.hbm, 135, rfl⟩
abbrev main_while0b_cst_33 : Ref sig .tc := ⟨.hbm, 136, rfl⟩
abbrev main_while0b_v185 : Ref sig .tc := ⟨.hbm, 137, rfl⟩
abbrev main_while0b_v186 : Ref sig .tc := ⟨.hbm, 138, rfl⟩
abbrev main_while0b_v187 : Ref sig .tc := ⟨.hbm, 139, rfl⟩
abbrev main_while0b_v188 : Ref sig .tc := ⟨.hbm, 140, rfl⟩
abbrev main_while0b_call3_v0 : Ref sig .tc := ⟨.hbm, 141, rfl⟩
abbrev main_while0b_call3_c : Ref sig .tc := ⟨.hbm, 142, rfl⟩
abbrev main_while0b_call3_c_0 : Ref sig .tc := ⟨.hbm, 143, rfl⟩
abbrev main_while0b_call3_c_1 : Ref sig .tc := ⟨.hbm, 144, rfl⟩
abbrev main_while0b_v189 : Ref sig .tc := ⟨.hbm, 145, rfl⟩
abbrev main_while0b_call4_v0 : Ref sig .tc := ⟨.hbm, 146, rfl⟩
abbrev main_while0b_call4_c : Ref sig .tc := ⟨.hbm, 147, rfl⟩
abbrev main_while0b_call4_c_0 : Ref sig .tc := ⟨.hbm, 148, rfl⟩
abbrev main_while0b_v190 : Ref sig .tc := ⟨.hbm, 149, rfl⟩
abbrev main_while0b_c_34 : Ref sig .tc := ⟨.hbm, 150, rfl⟩
abbrev main_while0b_v191 : Ref sig .tc := ⟨.hbm, 151, rfl⟩
abbrev main_v19 : Ref sig .tc := ⟨.hbm, 152, rfl⟩
abbrev main_v20 : Ref sig .tc := ⟨.hbm, 153, rfl⟩
abbrev main_v21 : Ref sig .tc := ⟨.hbm, 154, rfl⟩
abbrev main_v22 : Ref sig .tc := ⟨.hbm, 155, rfl⟩
abbrev main_v23 : Ref sig .tc := ⟨.hbm, 156, rfl⟩
abbrev main_v24 : Ref sig .tc := ⟨.hbm, 157, rfl⟩
abbrev main_v25 : Ref sig .tc := ⟨.hbm, 158, rfl⟩
abbrev main_v26 : Ref sig .tc := ⟨.hbm, 159, rfl⟩
abbrev main_v27 : Ref sig .tc := ⟨.hbm, 160, rfl⟩
abbrev main_v28 : Ref sig .tc := ⟨.hbm, 161, rfl⟩
abbrev main_v29 : Ref sig .tc := ⟨.hbm, 162, rfl⟩
abbrev main_v30 : Ref sig .tc := ⟨.hbm, 163, rfl⟩
abbrev main_c_1 : Ref sig .tc := ⟨.hbm, 164, rfl⟩
abbrev main_c_2 : Ref sig .tc := ⟨.hbm, 165, rfl⟩
abbrev main_call5_v0 : Ref sig .tc := ⟨.hbm, 166, rfl⟩
abbrev main_call5_v1 : Ref sig .tc := ⟨.hbm, 167, rfl⟩
abbrev main_call5_v2 : Ref sig .tc := ⟨.hbm, 168, rfl⟩
abbrev main_call5_v3 : Ref sig .tc := ⟨.hbm, 169, rfl⟩
abbrev main_call5_v4 : Ref sig .tc := ⟨.hbm, 170, rfl⟩
abbrev main_v31 : Ref sig .tc := ⟨.hbm, 171, rfl⟩
abbrev main_v32 : Ref sig .tc := ⟨.hbm, 172, rfl⟩
abbrev main_v33 : Ref sig .tc := ⟨.hbm, 173, rfl⟩
abbrev main_cst_3 : Ref sig .tc := ⟨.hbm, 174, rfl⟩
abbrev main_v34 : Ref sig .tc := ⟨.hbm, 175, rfl⟩
abbrev main_v35 : Ref sig .tc := ⟨.hbm, 176, rfl⟩
abbrev main_c_4 : Ref sig .tc := ⟨.hbm, 177, rfl⟩
abbrev main_c_5 : Ref sig .tc := ⟨.hbm, 178, rfl⟩
abbrev main_call6_v0 : Ref sig .tc := ⟨.hbm, 179, rfl⟩
abbrev main_call6_v1 : Ref sig .tc := ⟨.hbm, 180, rfl⟩
abbrev main_call6_v2 : Ref sig .tc := ⟨.hbm, 181, rfl⟩
abbrev main_call6_v3 : Ref sig .tc := ⟨.hbm, 182, rfl⟩
abbrev main_call6_v4 : Ref sig .tc := ⟨.hbm, 183, rfl⟩
abbrev main_v36 : Ref sig .tc := ⟨.hbm, 184, rfl⟩
abbrev main_v37 : Ref sig .tc := ⟨.hbm, 185, rfl⟩
abbrev main_v38 : Ref sig .tc := ⟨.hbm, 186, rfl⟩
abbrev main_c_6 : Ref sig .tc := ⟨.hbm, 187, rfl⟩
abbrev main_c_7 : Ref sig .tc := ⟨.hbm, 188, rfl⟩
abbrev main_call7_v0 : Ref sig .tc := ⟨.hbm, 189, rfl⟩
abbrev main_call7_v1 : Ref sig .tc := ⟨.hbm, 190, rfl⟩
abbrev main_call7_v2 : Ref sig .tc := ⟨.hbm, 191, rfl⟩
abbrev main_call7_v3 : Ref sig .tc := ⟨.hbm, 192, rfl⟩
abbrev main_call7_v4 : Ref sig .tc := ⟨.hbm, 193, rfl⟩
abbrev main_v39 : Ref sig .tc := ⟨.hbm, 194, rfl⟩
abbrev main_v40 : Ref sig .tc := ⟨.hbm, 195, rfl⟩
abbrev main_v41 : Ref sig .tc := ⟨.hbm, 196, rfl⟩
abbrev main_cst_8 : Ref sig .tc := ⟨.hbm, 197, rfl⟩
abbrev main_v42 : Ref sig .tc := ⟨.hbm, 198, rfl⟩
abbrev main_v43 : Ref sig .tc := ⟨.hbm, 199, rfl⟩
abbrev main_c_9 : Ref sig .tc := ⟨.hbm, 200, rfl⟩
abbrev main_c_10 : Ref sig .tc := ⟨.hbm, 201, rfl⟩
abbrev main_call8_v0 : Ref sig .tc := ⟨.hbm, 202, rfl⟩
abbrev main_call8_v1 : Ref sig .tc := ⟨.hbm, 203, rfl⟩
abbrev main_call8_v2 : Ref sig .tc := ⟨.hbm, 204, rfl⟩
abbrev main_call8_v3 : Ref sig .tc := ⟨.hbm, 205, rfl⟩
abbrev main_call8_v4 : Ref sig .tc := ⟨.hbm, 206, rfl⟩
abbrev main_v44 : Ref sig .tc := ⟨.hbm, 207, rfl⟩
abbrev main_v45 : Ref sig .tc := ⟨.hbm, 208, rfl⟩
abbrev main_v46 : Ref sig .tc := ⟨.hbm, 209, rfl⟩
abbrev main_v47 : Ref sig .tc := ⟨.hbm, 210, rfl⟩
abbrev main_v48 : Ref sig .tc := ⟨.hbm, 211, rfl⟩
abbrev main_v49 : Ref sig .tc := ⟨.hbm, 212, rfl⟩
abbrev main_v50 : Ref sig .tc := ⟨.hbm, 213, rfl⟩
abbrev main_v51 : Ref sig .tc := ⟨.hbm, 214, rfl⟩
abbrev main_v52 : Ref sig .tc := ⟨.hbm, 215, rfl⟩
abbrev main_v53 : Ref sig .tc := ⟨.hbm, 216, rfl⟩
abbrev main_v54 : Ref sig .tc := ⟨.hbm, 217, rfl⟩
abbrev main_v55 : Ref sig .tc := ⟨.hbm, 218, rfl⟩
abbrev main_v56 : Ref sig .tc := ⟨.hbm, 219, rfl⟩
abbrev main_v57 : Ref sig .tc := ⟨.hbm, 220, rfl⟩
abbrev main_v58 : Ref sig .tc := ⟨.hbm, 221, rfl⟩
abbrev main_v59 : Ref sig .tc := ⟨.hbm, 222, rfl⟩
abbrev main_v60 : Ref sig .tc := ⟨.hbm, 223, rfl⟩
abbrev main_v61 : Ref sig .tc := ⟨.hbm, 224, rfl⟩
abbrev main_v62 : Ref sig .tc := ⟨.hbm, 225, rfl⟩
abbrev main_v63 : Ref sig .tc := ⟨.hbm, 226, rfl⟩
abbrev main_v64 : Ref sig .tc := ⟨.hbm, 227, rfl⟩
abbrev main_v65 : Ref sig .tc := ⟨.hbm, 228, rfl⟩
abbrev main_v66 : Ref sig .tc := ⟨.hbm, 229, rfl⟩
abbrev main_v67 : Ref sig .tc := ⟨.hbm, 230, rfl⟩
abbrev main_v68 : Ref sig .tc := ⟨.hbm, 231, rfl⟩
abbrev main_v69 : Ref sig .tc := ⟨.hbm, 232, rfl⟩
abbrev main_v70 : Ref sig .tc := ⟨.hbm, 233, rfl⟩
abbrev main_v71 : Ref sig .tc := ⟨.hbm, 234, rfl⟩
abbrev main_v72 : Ref sig .tc := ⟨.hbm, 235, rfl⟩
abbrev main_v73 : Ref sig .tc := ⟨.hbm, 236, rfl⟩
abbrev main_v74 : Ref sig .tc := ⟨.hbm, 237, rfl⟩
abbrev main_v75 : Ref sig .tc := ⟨.hbm, 238, rfl⟩
abbrev main_v76 : Ref sig .tc := ⟨.hbm, 239, rfl⟩
abbrev main_v77 : Ref sig .tc := ⟨.hbm, 240, rfl⟩
abbrev main_v78 : Ref sig .tc := ⟨.hbm, 241, rfl⟩
abbrev main_v79 : Ref sig .tc := ⟨.hbm, 242, rfl⟩
abbrev main_v80 : Ref sig .tc := ⟨.hbm, 243, rfl⟩
abbrev main_cst_11 : Ref sig .tc := ⟨.hbm, 244, rfl⟩
abbrev main_v81 : Ref sig .tc := ⟨.hbm, 245, rfl⟩
abbrev main_v82 : Ref sig .tc := ⟨.hbm, 246, rfl⟩
abbrev main_v83 : Ref sig .tc := ⟨.hbm, 247, rfl⟩
abbrev main_v84 : Ref sig .tc := ⟨.hbm, 248, rfl⟩
abbrev main_v85 : Ref sig .tc := ⟨.hbm, 249, rfl⟩
abbrev main_v86 : Ref sig .tc := ⟨.hbm, 250, rfl⟩
abbrev main_v87 : Ref sig .tc := ⟨.hbm, 251, rfl⟩
abbrev main_cst_12 : Ref sig .tc := ⟨.hbm, 252, rfl⟩
abbrev main_v88 : Ref sig .tc := ⟨.hbm, 253, rfl⟩
abbrev main_v89 : Ref sig .tc := ⟨.hbm, 254, rfl⟩
abbrev main_v90 : Ref sig .tc := ⟨.hbm, 255, rfl⟩
abbrev main_v91 : Ref sig .tc := ⟨.hbm, 256, rfl⟩
abbrev main_v92 : Ref sig .tc := ⟨.hbm, 257, rfl⟩
abbrev main_v93 : Ref sig .tc := ⟨.hbm, 258, rfl⟩
abbrev main_v94 : Ref sig .tc := ⟨.hbm, 259, rfl⟩
abbrev main_cst_13 : Ref sig .tc := ⟨.hbm, 260, rfl⟩
abbrev main_v95 : Ref sig .tc := ⟨.hbm, 261, rfl⟩
abbrev main_v96 : Ref sig .tc := ⟨.hbm, 262, rfl⟩
abbrev main_v97 : Ref sig .tc := ⟨.hbm, 263, rfl⟩
abbrev main_v98 : Ref sig .tc := ⟨.hbm, 264, rfl⟩
abbrev main_v99 : Ref sig .tc := ⟨.hbm, 265, rfl⟩
abbrev main_v100 : Ref sig .tc := ⟨.hbm, 266, rfl⟩
abbrev main_v101 : Ref sig .tc := ⟨.hbm, 267, rfl⟩

abbrev nD : Nat := 1
abbrev τ : Topo := Topo.v7x

variable {F : FTy → Type} [FloatOps F]

abbrev main_while0_count : Scf.Loop 32 := ⟨0#32, 100#32, 1#32⟩
-- ==== Proof.K.Tree.lean ====
module

public import proofs.«01_k».proof.Proof.Gen.KernelIdeal.Skeleton
public import Idealize.ShloMosaic.Lib.ValueIdx
public import Idealize.ShloMosaic.Lib.Routing.Words

/-! The tournament by which the kernel finds the greatest score of one image and its slot.

The 160 x 128 scores are taken as twenty blocks of eight rows.  Candidates (a value and the slot it came from) are
compared in pairs; the later one wins only when it is strictly greater.  Whatever the float numbers are, the pair that
comes out is always "the slot `n` below 20480 together with the score at slot `n`". -/

@[expose] public section

set_option maxRecDepth 16384

noncomputable section

namespace Cert.Proof.KernelIdeal

open Cert.KernelIdeal Cert.KernelIdeal.Gen
open Idealize.ShloMosaic Idealize.ShloMosaic.TcCoe Idealize.ShloMosaic.ValueIdx

variable {F : FTy → Type} [FloatOps F]

/-! A field of candidates is a field of values and a field of slot words.  Place by place the better of two candidates: the
second kept unless the first is strictly greater. -/

def selV {s : Shape} (hi lo : FVec F s .f32) : FVec F s .f32 := select (cmpf .ogt hi lo) hi lo
def selI {s : Shape} (hi lo : FVec F s .f32) (hiI loI : IVec s 32) : IVec s 32 := select (cmpf .ogt hi lo) hiI loI

/-- Eight rows of the scores. -/
def block (v : FVec F S160x128 .f32) (off : Fin 2 → Nat) (h : S160x128.Slices off S8x128) : FVec F S8x128 .f32 :=
  extractStridedSlice S8x128 off v h
/-- A block's number at every place of it. -/
def label (n : BitVec 32) : IVec S8x128 32 := broadcast S8x128 n

/-! The twenty blocks played off in pairs, block `n + 10` against block `n`, then ten, five, three and two fields. -/
def ten0V (v : FVec F S160x128 .f32) : FVec F S8x128 .f32 := selV (block v ![80, 0] slices_S160x128_o80_0_S8x128) (block v ![0, 0] slices_S160x128_o0_0_S8x128)
def ten0I (v : FVec F S160x128 .f32) : IVec S8x128 32 := selI (block v ![80, 0] slices_S160x128_o80_0_S8x128) (block v ![0, 0] slices_S160x128_o0_0_S8x128) (label 10#32) (label 0#32)
def ten1V (v : FVec F S160x128 .f32) : FVec F S8x128 .f32 := selV (block v ![88, 0] slices_S160x128_o88_0_S8x128) (block v ![8, 0] slices_S160x128_o8_0_S8x128)
def ten1I (v : FVec F S160x128 .f32) : IVec S8x128 32 := selI (block v ![88, 0] slices_S160x128_o88_0_S8x128) (block v ![8, 0] slices_S160x128_o8_0_S8x128) (label 11#32) (label 1#32)
def ten2V (v : FVec F S160x128 .f32) : FVec F S8x128 .f32 := selV (block v ![96, 0] slices_S160x128_o96_0_S8x128) (block v ![16, 0] slices_S160x128_o16_0_S8x128)
def ten2I (v : FVec F S160x128 .f32) : IVec S8x128 32 := selI (block v ![96, 0] slices_S160x128_o96_0_S8x128) (block v ![16, 0] slices_S160x128_o16_0_S8x128) (label 12#32) (label 2#32)
def ten3V (v : FVec F S160x128 .f32) : FVec F S8x128 .f32 := selV (block v ![104, 0] slices_S160x128_o104_0_S8x128) (block v ![24, 0] slices_S160x128_o24_0_S8x128)
def ten3I (v : FVec F S160x128 .f32) : IVec S8x128 32 := selI (block v ![104, 0] slices_S160x128_o104_0_S8x128) (block v ![24, 0] slices_S160x128_o24_0_S8x128) (label 13#32) (label 3#32)
def ten4V (v : FVec F S160x128 .f32) : FVec F S8x128 .f32 := selV (block v ![112, 0] slices_S160x128_o112_0_S8x128) (block v ![32, 0] slices_S160x128_o32_0_S8x128)
def ten4I (v : FVec F S160x128 .f32) : IVec S8x128 32 := selI (block v ![112, 0] slices_S160x128_o112_0_S8x128) (block v ![32, 0] slices_S160x128_o32_0_S8x128) (label 14#32) (label 4#32)
def ten5V (v : FVec F S160x128 .f32) : FVec F S8x128 .f32 := selV (block v ![120, 0] slices_S160x128_o120_0_S8x128) (block v ![40, 0] slices_S160x128_o40_0_S8x128)
def ten5I (v : FVec F S160x128 .f32) : IVec S8x128 32 := selI (block v ![120, 0] slices_S160x128_o120_0_S8x128) (block v ![40, 0] slices_S160x128_o40_0_S8x128) (label 15#32) (label 5#32)
def ten6V (v : FVec F S160x128 .f32) : FVec F S8x128 .f32 := selV (block v ![128, 0] slices_S160x128_o128_0_S8x128) (block v ![48, 0] slices_S160x128_o48_0_S8x128)
def ten6I (v : FVec F S160x128 .f32) : IVec S8x128 32 := selI (block v ![128, 0] slices_S160x128_o128_0_S8x128) (block v ![48, 0] slices_S160x128_o48_0_S8x128) (label 16#32) (label 6#32)
def ten7V (v : FVec F S160x128 .f32) : FVec F S8x128 .f32 := selV (block v ![136, 0] slices_S160x128_o136_0_S8x128) (block v ![56, 0] slices_S160x128_o56_0_S8x128)
def ten7I (v : FVec F S160x128 .f32) : IVec S8x128 32 := selI (block v ![136, 0] slices_S160x128_o136_0_S8x128) (block v ![56, 0] slices_S160x128_o56_0_S8x128) (label 17#32) (label 7#32)
def ten8V (v : FVec F S160x128 .f32) : FVec F S8x128 .f32 := selV (block v ![144, 0] slices_S160x128_o144_0_S8x128) (block v ![64, 0] slices_S160x128_o64_0_S8x128)
def ten8I (v : FVec F S160x128 .f32) : IVec S8x128 32 := selI (block v ![144, 0] slices_S160x128_o144_0_S8x128) (block v ![64, 0] slices_S160x128_o64_0_S8x128) (label 18#32) (label 8#32)
def ten9V (v : FVec F S160x128 .f32) : FVec F S8x128 .f32 := selV (block v ![152, 0] slices_S160x128_o152_0_S8x128) (block v ![72, 0] slices_S160x128_o72_0_S8x128)
def ten9I (v : FVec F S160x128 .f32) : IVec S8x128 32 := selI (block v ![152, 0] slices_S160x128_o152_0_S8x128) (block v ![72, 0] slices_S160x128_o72_0_S8x128) (label 19#32) (label 9#32)
def five0V (v : FVec F S160x128 .f32) : FVec F S8x128 .f32 := selV (ten5V v) (ten0V v)
def five0I (v : FVec F S160x128 .f32) : IVec S8x128 32 := selI (ten5V v) (ten0V v) (ten5I v) (ten0I v)
def five1V (v : FVec F S160x128 .f32) : FVec F S8x128 .f32 := selV (ten6V v) (ten1V v)
def five1I (v : FVec F S160x128 .f32) : IVec S8x128 32 := selI (ten6V v) (ten1V v) (ten6I v) (ten1I v)
def five2V (v : FVec F S160x128 .f32) : FVec F S8x128 .f32 := selV (ten7V v) (ten2V v)
def five2I (v : FVec F S160x128 .f32) : IVec S8x128 32 := selI (ten7V v) (ten2V v) (ten7I v) (ten2I v)
def five3V (v : FVec F S160x128 .f32) : FVec F S8x128 .f32 := selV (ten8V v) (ten3V v)
def five3I (v : FVec F S160x128 .f32) : IVec S8x128 32 := selI (ten8V v) (ten3V v) (ten8I v) (ten3I v)
def five4V (v : FVec F S160x128 .f32) : FVec F S8x128 .f32 := selV (ten9V v) (ten4V v)
def five4I (v : FVec F S160x128 .f32) : IVec S8x128 32 := selI (ten9V v) (ten4V v) (ten9I v) (ten4I v)
def three0V (v : FVec F S160x128 .f32) : FVec F S8x128 .f32 := selV (five3V v) (five0V v)
def three0I (v : FVec F S160x128 .f32) : IVec S8x128 32 := selI (five3V v) (five0V v) (five3I v) (five0I v)
def three1V (v : FVec F S160x128 .f32) : FVec F S8x128 .f32 := selV (five4V v) (five1V v)
def three1I (v : FVec F S160x128 .f32) : IVec S8x128 32 := selI (five4V v) (five1V v) (five4I v) (five1I v)
def two0V (v : FVec F S160x128 .f32) : FVec F S8x128 .f32 := selV (five2V v) (three0V v)
def two0I (v : FVec F S160x128 .f32) : IVec S8x128 32 := selI (five2V v) (three0V v) (five2I v) (three0I v)

/-! The best of the twenty blocks at every place of a block. -/
def blockV (v : FVec F S160x128 .f32) : FVec F S8x128 .f32 := selV (three1V v) (two0V v)
def blockI (v : FVec F S160x128 .f32) : IVec S8x128 32 := selI (three1V v) (two0V v) (three1I v) (two0I v)

/-- The block's number turned into the slot's: 1024 slots a block, then the place within the block. -/
def place (v4 : IVec S8x128 32) (i : IVec S8x128 32) : IVec S8x128 32 := addi (muli i (broadcast S8x128 1024#32)) v4

/-! Halving a block's rows and then its lanes, down to one candidate. -/
def rows4V (c : FVec F S8x128 .f32) : FVec F S4x128 .f32 :=
  selV (extractStridedSlice S4x128 ![4, 0] c slices_S8x128_o4_0_S4x128)
    (extractStridedSlice S4x128 ![0, 0] c slices_S8x128_o0_0_S4x128)
def rows4I (c : FVec F S8x128 .f32) (i : IVec S8x128 32) : IVec S4x128 32 :=
  selI (extractStridedSlice S4x128 ![4, 0] c slices_S8x128_o4_0_S4x128)
    (extractStridedSlice S4x128 ![0, 0] c slices_S8x128_o0_0_S4x128)
    (extractStridedSlice S4x128 ![4, 0] i slices_S8x128_o4_0_S4x128)
    (extractStridedSlice S4x128 ![0, 0] i slices_S8x128_o0_0_S4x128)
def rows2V (c : FVec F S8x128 .f32) : FVec F S2x128 .f32 :=
  selV (extractStridedSlice S2x128 ![2, 0] (rows4V c) slices_S4x128_o2_0_S2x128)
    (extractStridedSlice S2x128 ![0, 0] (rows4V c) slices_S4x128_o0_0_S2x128)
def rows2I (c : FVec F S8x128 .f32) (i : IVec S8x128 32) : IVec S2x128 32 :=
  selI (extractStridedSlice S2x128 ![2, 0] (rows4V c) slices_S4x128_o2_0_S2x128)
    (extractStridedSlice S2x128 ![0, 0] (rows4V c) slices_S4x128_o0_0_S2x128)
    (extractStridedSlice S2x128 ![2, 0] (rows4I c i) slices_S4x128_o2_0_S2x128)
    (extractStridedSlice S2x128 ![0, 0] (rows4I c i) slices_S4x128_o0_0_S2x128)
def rows1V (c : FVec F S8x128 .f32) : FVec F S1x128 .f32 :=
  selV (extractStridedSlice S1x128 ![1, 0] (rows2V c) slices_S2x128_o1_0_S1x128)
    (extractStridedSlice S1x128 ![0, 0] (rows2V c) slices_S2x128_o0_0_S1x128)
def rows1I (c : FVec F S8x128 .f32) (i : IVec S8x128 32) : IVec S1x128 32 :=
  selI (extractStridedSlice S1x128 ![1, 0] (rows2V c) slices_S2x128_o1_0_S1x128)
    (extractStridedSlice S1x128 ![0, 0] (rows2V c) slices_S2x128_o0_0_S1x128)
    (extractStridedSlice S1x128 ![1, 0] (rows2I c i) slices_S2x128_o1_0_S1x128)
    (extractStridedSlice S1x128 ![0, 0] (rows2I c i) slices_S2x128_o0_0_S1x128)
def lanes64V (c : FVec F S8x128 .f32) : FVec F S1x64 .f32 :=
  selV (extractStridedSlice S1x64 ![0, 64] (rows1V c) slices_S1x128_o0_64_S1x64)
    (extractStridedSlice S1x64 ![0, 0] (rows1V c) slices_S1x128_o0_0_S1x64)
def lanes64I (c : FVec F S8x128 .f32) (i : IVec S8x128 32) : IVec S1x64 32 :=
  selI (extractStridedSlice S1x64 ![0, 64] (rows1V c) slices_S1x128_o0_64_S1x64)
    (extractStridedSlice S1x64 ![0, 0] (rows1V c) slices_S1x128_o0_0_S1x64)
    (extractStridedSlice S1x64 ![0, 64] (rows1I c i) slices_S1x128_o0_64_S1x64)
    (extractStridedSlice S1x64 ![0, 0] (rows1I c i) slices_S1x128_o0_0_S1x64)
def lanes32V (c : FVec F S8x128 .f32) : FVec F S1x32 .f32 :=
  selV (extractStridedSlice S1x32 ![0, 32] (lanes64V c) slices_S1x64_o0_32_S1x32)
    (extractStridedSlice S1x32 ![0, 0] (lanes64V c) slices_S1x64_o0_0_S1x32)
def lanes32I (c : FVec F S8x128 .f32) (i : IVec S8x128 32) : IVec S1x32 32 :=
  selI (extractStridedSlice S1x32 ![0, 32] (lanes64V c) slices_S1x64_o0_32_S1x32)
    (extractStridedSlice S1x32 ![0, 0] (lanes64V c) slices_S1x64_o0_0_S1x32)
    (extractStridedSlice S1x32 ![0, 32] (lanes64I c i) slices_S1x64_o0_32_S1x32)
    (extractStridedSlice S1x32 ![0, 0] (lanes64I c i) slices_S1x64_o0_0_S1x32)
def lanes16V (c : FVec F S8x128 .f32) : FVec F S1x16 .f32 :=
  selV (extractStridedSlice S1x16 ![0, 16] (lanes32V c) slices_S1x32_o0_16_S1x16)
    (extractStridedSlice S1x16 ![0, 0] (lanes32V c) slices_S1x32_o0_0_S1x16)
def lanes16I (c : FVec F S8x128 .f32) (i : IVec S8x128 32) : IVec S1x16 32 :=
  selI (extractStridedSlice S1x16 ![0, 16] (lanes32V c) slices_S1x32_o0_16_S1x16)
    (extractStridedSlice S1x16 ![0, 0] (lanes32V c) slices_S1x32_o0_0_S1x16)
    (extractStridedSlice S1x16 ![0, 16] (lanes32I c i) slices_S1x32_o0_16_S1x16)
    (extractStridedSlice S1x16 ![0, 0] (lanes32I c i) slices_S1x32_o0_0_S1x16)
def lanes8V (c : FVec F S8x128 .f32) : FVec F S1x8 .f32 :=
  selV (extractStridedSlice S1x8 ![0, 8] (lanes16V c) slices_S1x16_o0_8_S1x8)
    (extractStridedSlice S1x8 ![0, 0] (lanes16V c) slices_S1x16_o0_0_S1x8)
def lanes8I (c : FVec F S8x128 .f32) (i : IVec S8x128 32) : IVec S1x8 32 :=
  selI (extractStridedSlice S1x8 ![0, 8] (lanes16V c) slices_S1x16_o0_8_S1x8)
    (extractStridedSlice S1x8 ![0, 0] (lanes16V c) slices_S1x16_o0_0_S1x8)
    (extractStridedSlice S1x8 ![0, 8] (lanes16I c i) slices_S1x16_o0_8_S1x8)
    (extractStridedSlice S1x8 ![0, 0] (lanes16I c i) slices_S1x16_o0_0_S1x8)
def lanes4V (c : FVec F S8x128 .f32) : FVec F S1x4 .f32 :=
  selV (extractStridedSlice S1x4 ![0, 4] (lanes8V c) slices_S1x8_o0_4_S1x4)
    (extractStridedSlice S1x4 ![0, 0] (lanes8V c) slices_S1x8_o0_0_S1x4)
def lanes4I (c : FVec F S8x128 .f32) (i : IVec S8x128 32) : IVec S1x4 32 :=
  selI (extractStridedSlice S1x4 ![0, 4] (lanes8V c) slices_S1x8_o0_4_S1x4)
    (extractStridedSlice S1x4 ![0, 0] (lanes8V c) slices_S1x8_o0_0_S1x4)
    (extractStridedSlice S1x4 ![0, 4] (lanes8I c i) slices_S1x8_o0_4_S1x4)
    (extractStridedSlice S1x4 ![0, 0] (lanes8I c i) slices_S1x8_o0_0_S1x4)
def lanes2V (c : FVec F S8x128 .f32) : FVec F S1x2 .f32 :=
  selV (extractStridedSlice S1x2 ![0, 2] (lanes4V c) slices_S1x4_o0_2_S1x2)
    (extractStridedSlice S1x2 ![0, 0] (lanes4V c) slices_S1x4_o0_0_S1x2)
def lanes2I (c : FVec F S8x128 .f32) (i : IVec S8x128 32) : IVec S1x2 32 :=
  selI (extractStridedSlice S1x2 ![0, 2] (lanes4V c) slices_S1x4_o0_2_S1x2)
    (extractStridedSlice S1x2 ![0, 0] (lanes4V c) slices_S1x4_o0_0_S1x2)
    (extractStridedSlice S1x2 ![0, 2] (lanes4I c i) slices_S1x4_o0_2_S1x2)
    (extractStridedSlice S1x2 ![0, 0] (lanes4I c i) slices_S1x4_o0_0_S1x2)
def lastV (c : FVec F S8x128 .f32) : FVec F S1x1 .f32 :=
  selV (extractStridedSlice S1x1 ![0, 1] (lanes2V c) slices_S1x2_o0_1_S1x1)
    (extractStridedSlice S1x1 ![0, 0] (lanes2V c) slices_S1x2_o0_0_S1x1)
def lastI (c : FVec F S8x128 .f32) (i : IVec S8x128 32) : IVec S1x1 32 :=
  selI (extractStridedSlice S1x1 ![0, 1] (lanes2V c) slices_S1x2_o0_1_S1x1)
    (extractStridedSlice S1x1 ![0, 0] (lanes2V c) slices_S1x2_o0_0_S1x1)
    (extractStridedSlice S1x1 ![0, 1] (lanes2I c i) slices_S1x2_o0_1_S1x1)
    (extractStridedSlice S1x1 ![0, 0] (lanes2I c i) slices_S1x2_o0_0_S1x1)

/-- The score the tournament returns. -/
def bestVal (v : FVec F S160x128 .f32) : F .f32 := extractAt ![0, 0] (lastV (blockV v)) inpos_S1x1_p0_0
/-- The slot the tournament returns. -/
def bestIdx (v4 : IVec S8x128 32) (v : FVec F S160x128 .f32) : BitVec 32 :=
  extractAt ![0, 0] (lastI (blockV v) (place v4 (blockI v))) inpos_S1x1_p0_0

/-- The score at a slot, slots counted along the rows. -/
def flat (v : FVec F S160x128 .f32) (n : ℕ) : F .f32 :=
  v (ix2 ⟨n / 128 % 160, Nat.mod_lt _ (by norm_num)⟩ ⟨n % 128, Nat.mod_lt _ (by norm_num)⟩)

/-- Every candidate is some slot below 20480 with its score. -/
def At {s : Shape} (v : FVec F S160x128 .f32) (c : FVec F s .f32) (w : IVec s 32) : Prop :=
  ∀ j, ∃ n, n < 20480 ∧ w j = BitVec.ofNat 32 n ∧ c j = flat v n

/-- Every candidate carries a block's number and that block's score at its own place. -/
def AtBlock (v : FVec F S160x128 .f32) (c : FVec F S8x128 .f32) (w : IVec S8x128 32) : Prop :=
  ∀ j, ∃ n, n < 20 ∧ w j = BitVec.ofNat 32 n ∧ c j = flat v (1024 * n + (128 * (j 0).val + (j 1).val))

theorem select_cases {α β : Type} (b : BitVec 1) (x y : α) (x' y' : β) :
    (Scalar.select b x y = x ∧ Scalar.select b x' y' = x') ∨ (Scalar.select b x y = y ∧ Scalar.select b x' y' = y') := by
  rcases (by decide : ∀ b : BitVec 1, b = 1#1 ∨ b = 0#1) b with rfl | rfl
  · exact Or.inl ⟨rfl, rfl⟩
  · exact Or.inr ⟨rfl, rfl⟩

theorem sel_cases {s : Shape} (hi lo : FVec F s .f32) (hiI loI : IVec s 32) (j : s.Idx) :
    (selV hi lo j = hi j ∧ selI hi lo hiI loI j = hiI j) ∨ (selV hi lo j = lo j ∧ selI hi lo hiI loI j = loI j) :=
  select_cases (FloatOps.cmpf .ogt (hi j) (lo j)) (hi j) (lo j) (hiI j) (loI j)

theorem At.sel {s : Shape} {v : FVec F S160x128 .f32} {hi lo : FVec F s .f32} {hiI loI : IVec s 32} (h : At v hi hiI) (l : At v lo loI) :
    At v (selV hi lo) (selI hi lo hiI loI) := by
  intro j
  rcases sel_cases hi lo hiI loI j with ⟨h1, h2⟩ | ⟨h1, h2⟩
  · obtain ⟨n, hn, e2, e1⟩ := h j
    exact ⟨n, hn, h2.trans e2, h1.trans e1⟩
  · obtain ⟨n, hn, e2, e1⟩ := l j
    exact ⟨n, hn, h2.trans e2, h1.trans e1⟩

theorem AtBlock.sel {v : FVec F S160x128 .f32} {hi lo : FVec F S8x128 .f32} {hiI loI : IVec S8x128 32} (h : AtBlock v hi hiI)
    (l : AtBlock v lo loI) : AtBlock v (selV hi lo) (selI hi lo hiI loI) := by
  intro j
  rcases sel_cases hi lo hiI loI j with ⟨h1, h2⟩ | ⟨h1, h2⟩
  · obtain ⟨n, hn, e2, e1⟩ := h j
    exact ⟨n, hn, h2.trans e2, h1.trans e1⟩
  · obtain ⟨n, hn, e2, e1⟩ := l j
    exact ⟨n, hn, h2.trans e2, h1.trans e1⟩

theorem At.cut {s : Shape} {v : FVec F S160x128 .f32} {c : FVec F s .f32} {w : IVec s 32} (hc : At v c w) (t : Shape)
    (off : Fin s.rank → Nat) (h : s.Slices off t) : At v (extractStridedSlice t off c h) (extractStridedSlice t off w h) := fun _ => hc _

theorem block_val (v : FVec F S160x128 .f32) (n : ℕ) (hn : n < 20) (h : S160x128.Slices ![8 * n, 0] S8x128)
    (j : S8x128.Idx) : block v ![8 * n, 0] h j = flat v (1024 * n + (128 * (j 0).val + (j 1).val)) := by
  have h0 : (j 0).val < 8 := (j 0).isLt
  have h1 : (j 1).val < 128 := (j 1).isLt
  refine congrArg v (funext fun a => Fin.ext ?_)
  fin_cases a
  · show 8 * n + (j 0).val = (1024 * n + (128 * (j 0).val + (j 1).val)) / 128 % 160
    omega
  · show 0 + (j 1).val = (1024 * n + (128 * (j 0).val + (j 1).val)) % 128
    omega

theorem atBlock_block (v : FVec F S160x128 .f32) (n : ℕ) (hn : n < 20) (h : S160x128.Slices ![8 * n, 0] S8x128) :
    AtBlock v (block v ![8 * n, 0] h) (label (BitVec.ofNat 32 n)) := fun j =>
  ⟨n, hn, rfl, block_val v n hn h j⟩

theorem atBlock_best (v : FVec F S160x128 .f32) : AtBlock v (blockV v) (blockI v) := by
  have B := fun (n : ℕ) (hn : n < 20) h => atBlock_block v n hn h
  have a0 := (B 10 (by norm_num) slices_S160x128_o80_0_S8x128).sel (B 0 (by norm_num) slices_S160x128_o0_0_S8x128)
  have a1 := (B 11 (by norm_num) slices_S160x128_o88_0_S8x128).sel (B 1 (by norm_num) slices_S160x128_o8_0_S8x128)
  have a2 := (B 12 (by norm_num) slices_S160x128_o96_0_S8x128).sel (B 2 (by norm_num) slices_S160x128_o16_0_S8x128)
  have a3 := (B 13 (by norm_num) slices_S160x128_o104_0_S8x128).sel (B 3 (by norm_num) slices_S160x128_o24_0_S8x128)
  have a4 := (B 14 (by norm_num) slices_S160x128_o112_0_S8x128).sel (B 4 (by norm_num) slices_S160x128_o32_0_S8x128)
  have a5 := (B 15 (by norm_num) slices_S160x128_o120_0_S8x128).sel (B 5 (by norm_num) slices_S160x128_o40_0_S8x128)
  have a6 := (B 16 (by norm_num) slices_S160x128_o128_0_S8x128).sel (B 6 (by norm_num) slices_S160x128_o48_0_S8x128)
  have a7 := (B 17 (by norm_num) slices_S160x128_o136_0_S8x128).sel (B 7 (by norm_num) slices_S160x128_o56_0_S8x128)
  have a8 := (B 18 (by norm_num) slices_S160x128_o144_0_S8x128).sel (B 8 (by norm_num) slices_S160x128_o64_0_S8x128)
  have a9 := (B 19 (by norm_num) slices_S160x128_o152_0_S8x128).sel (B 9 (by norm_num) slices_S160x128_o72_0_S8x128)
  exact ((a9.sel a4).sel (a6.sel a1)).sel ((a7.sel a2).sel ((a8.sel a3).sel (a5.sel a0)))

/-- The place within a block, as the kernel's words spell it. -/
theorem placeWord (j : S8x128.Idx) : (k0_pay732 : IVec S8x128 32) j = BitVec.ofNat 32 (128 * (j 0).val + (j 1).val) := by
  have h : (k0_pay732 : IVec S8x128 32) j =
      BitVec.ofNat 32 (0 * 8 + (j 0).val) * BitVec.ofNat 32 128 + BitVec.ofNat 32 (0 * 128 + (j 1).val) := rfl
  rw [h, ← BitVec.ofNat_mul, ← BitVec.ofNat_add]
  congr 1
  omega

theorem at_place (v : FVec F S160x128 .f32) {c : FVec F S8x128 .f32} {w : IVec S8x128 32} (h : AtBlock v c w) :
    At v c (place k0_pay732 w) := by
  intro j
  obtain ⟨n, hn, e2, e1⟩ := h j
  have h0 : (j 0).val < 8 := (j 0).isLt
  have h1 : (j 1).val < 128 := (j 1).isLt
  refine ⟨1024 * n + (128 * (j 0).val + (j 1).val), by omega, ?_, e1⟩
  show w j * BitVec.ofNat 32 1024 + (k0_pay732 : IVec S8x128 32) j = _
  rw [e2, placeWord, ← BitVec.ofNat_mul, ← BitVec.ofNat_add, Nat.mul_comm n]

theorem At.last {v : FVec F S160x128 .f32} {c : FVec F S8x128 .f32} {w : IVec S8x128 32} (h8 : At v c w) :
    At v (lastV c) (lastI c w) := by
  have h := (h8.cut S4x128 ![4, 0] slices_S8x128_o4_0_S4x128).sel (h8.cut S4x128 ![0, 0] slices_S8x128_o0_0_S4x128)
  have h := (h.cut S2x128 ![2, 0] slices_S4x128_o2_0_S2x128).sel (h.cut S2x128 ![0, 0] slices_S4x128_o0_0_S2x128)
  have h := (h.cut S1x128 ![1, 0] slices_S2x128_o1_0_S1x128).sel (h.cut S1x128 ![0, 0] slices_S2x128_o0_0_S1x128)
  have h := (h.cut S1x64 ![0, 64] slices_S1x128_o0_64_S1x64).sel (h.cut S1x64 ![0, 0] slices_S1x128_o0_0_S1x64)
  have h := (h.cut S1x32 ![0, 32] slices_S1x64_o0_32_S1x32).sel (h.cut S1x32 ![0, 0] slices_S1x64_o0_0_S1x32)
  have h := (h.cut S1x16 ![0, 16] slices_S1x32_o0_16_S1x16).sel (h.cut S1x16 ![0, 0] slices_S1x32_o0_0_S1x16)
  have h := (h.cut S1x8 ![0, 8] slices_S1x16_o0_8_S1x8).sel (h.cut S1x8 ![0, 0] slices_S1x16_o0_0_S1x8)
  have h := (h.cut S1x4 ![0, 4] slices_S1x8_o0_4_S1x4).sel (h.cut S1x4 ![0, 0] slices_S1x8_o0_0_S1x4)
  have h := (h.cut S1x2 ![0, 2] slices_S1x4_o0_2_S1x2).sel (h.cut S1x2 ![0, 0] slices_S1x4_o0_0_S1x2)
  have h := (h.cut S1x1 ![0, 1] slices_S1x2_o0_1_S1x1).sel (h.cut S1x1 ![0, 0] slices_S1x2_o0_0_S1x1)
  exact h

/-- What the tournament returns is a slot below 20480 with its score. -/
theorem best_at (v : FVec F S160x128 .f32) :
    ∃ n, n < 20480 ∧ bestIdx k0_pay732 v = BitVec.ofNat 32 n ∧ bestVal v = flat v n :=
  (at_place v (atBlock_best v)).last _

theorem bestIdx_lt (v : FVec F S160x128 .f32) : (bestIdx k0_pay732 v).toNat < 20480 := by
  obtain ⟨n, hn, e, -⟩ := best_at v
  rw [e, BitVec.toNat_ofNat]
  omega

/-! ### The rows a slot's coordinates are read from -/

/-- The kernel's floor division of a word by eight. -/
def floor8 (w : BitVec 32) : BitVec 32 :=
  Scalar.select
    (Scalar.andi
      (Scalar.cmpi .ne (Scalar.subi (Scalar.extui (Scalar.cmpi .sgt w 0#32) : BitVec 32) (Scalar.extui (Scalar.cmpi .slt w 0#32)))
        (Scalar.subi (Scalar.extui (Scalar.cmpi .sgt 8#32 0#32) : BitVec 32) (Scalar.extui (Scalar.cmpi .slt 8#32 0#32))))
      (Scalar.cmpi .ne (Scalar.remsi w 8#32) 0#32))
    (Scalar.subi (Scalar.divsi w 8#32) 1#32) (Scalar.divsi w 8#32)

theorem floor8_ofNat (n : ℕ) (hn : n < 2 ^ 31) : floor8 (BitVec.ofNat 32 n) = BitVec.ofNat 32 (n / 8) := by
  have hd : Scalar.divsi (BitVec.ofNat 32 n) 8#32 = BitVec.ofNat 32 (n / 8) :=
    Routing.divsi_word .scalar hn (by norm_num) (by norm_num)
  have hr : Scalar.remsi (BitVec.ofNat 32 n) 8#32 = BitVec.ofNat 32 (n % 8) :=
    Routing.remsi_word .scalar hn (by norm_num) (by norm_num)
  unfold floor8
  rw [hd, hr]
  rcases Nat.eq_zero_or_pos n with rfl | hp
  · rfl
  · have hi : (BitVec.ofNat 32 n).toInt = n := by
      rw [BitVec.toInt_eq_toNat_of_lt (by rw [BitVec.toNat_ofNat]; omega), BitVec.toNat_ofNat]
      omega
    have hg : Scalar.cmpi .sgt (BitVec.ofNat 32 n) 0#32 = 1#1 := by
      show BitVec.ofBool ((0#32).slt (BitVec.ofNat 32 n)) = 1#1
      rw [BitVec.slt, hi, decide_eq_true (by simpa using hp)]
      rfl
    have hl : Scalar.cmpi .slt (BitVec.ofNat 32 n) 0#32 = 0#1 := by
      show BitVec.ofBool ((BitVec.ofNat 32 n).slt 0#32) = 0#1
      rw [BitVec.slt, hi, decide_eq_false (by simp)]
      rfl
    rw [hg, hl]
    have : ∀ b : BitVec 1, Scalar.andi (Scalar.cmpi .ne (Scalar.subi (Scalar.extui (1#1) : BitVec 32) (Scalar.extui 0#1))
        (Scalar.subi (Scalar.extui (Scalar.cmpi .sgt 8#32 0#32) : BitVec 32) (Scalar.extui (Scalar.cmpi .slt 8#32 0#32)))) b = 0#1 := by
      decide
    rw [this]
    rfl

/-- The first of the eight rows that hold slot `n`'s coordinate. -/
theorem mult_ofNat (n : ℕ) (hn : n < 20480) : k0_mult1 (BitVec.ofNat 32 n) = BitVec.ofNat 32 (8 * (n / 64)) := by
  show Scalar.muli (floor8 (floor8 (BitVec.ofNat 32 n))) 8#32 = _
  rw [floor8_ofNat n (by omega), floor8_ofNat _ (by omega), Nat.div_div_eq_div_mul]
  show BitVec.ofNat 32 (n / 64) * BitVec.ofNat 32 8 = _
  rw [← BitVec.ofNat_mul, Nat.mul_comm]

theorem mult_toNat {w : BitVec 32} (hw : w.toNat < 20480) : (k0_mult1 w).toNat = 8 * (w.toNat / 64) := by
  have : w = BitVec.ofNat 32 w.toNat := by simp
  rw [this, mult_ofNat _ hw, BitVec.toNat_ofNat, ← this]
  omega

theorem inb_of {w : BitVec 32} (hw : w.toNat < 20480) (b q : ℕ) (hb : b < 4) (hq : q < 4) :
    ∀ a, (![b, q, (k0_mult1 w).toNat, 0] : Fin 4 → ℕ) a + S1x1x8x8.size a ≤ S4x4x2560x8.size a := by
  have := mult_toNat hw
  intro a
  fin_cases a
  · show b + 1 ≤ 4
    omega
  · show q + 1 ≤ 4
    omega
  · show (k0_mult1 w).toNat + 8 ≤ 2560
    omega
  · show 0 + 8 ≤ 8
    omega

theorem dvd_of {w : BitVec 32} (hw : w.toNat < 20480) : 8 ∣ (k0_mult1 w).toNat := by
  rw [mult_toNat hw]
  exact Nat.dvd_mul_right _ _

theorem chk1_of {w : BitVec 32} (hw : w.toNat < 20480) : k0_chk1 w :=
  ⟨dvd_of hw, inb_of hw 0 0 (by norm_num) (by norm_num), inb_of hw 0 1 (by norm_num) (by norm_num),
    inb_of hw 0 2 (by norm_num) (by norm_num), inb_of hw 0 3 (by norm_num) (by norm_num)⟩
theorem chk2_of {w : BitVec 32} (hw : w.toNat < 20480) : k0_chk2 w :=
  ⟨dvd_of hw, inb_of hw 1 0 (by norm_num) (by norm_num), inb_of hw 1 1 (by norm_num) (by norm_num),
    inb_of hw 1 2 (by norm_num) (by norm_num), inb_of hw 1 3 (by norm_num) (by norm_num)⟩
theorem chk3_of {w : BitVec 32} (hw : w.toNat < 20480) : k0_chk3 w :=
  ⟨dvd_of hw, inb_of hw 2 0 (by norm_num) (by norm_num), inb_of hw 2 1 (by norm_num) (by norm_num),
    inb_of hw 2 2 (by norm_num) (by norm_num), inb_of hw 2 3 (by norm_num) (by norm_num)⟩
theorem chk4_of {w : BitVec 32} (hw : w.toNat < 20480) : k0_chk4 w :=
  ⟨dvd_of hw, inb_of hw 3 0 (by norm_num) (by norm_num), inb_of hw 3 1 (by norm_num) (by norm_num),
    inb_of hw 3 2 (by norm_num) (by norm_num), inb_of hw 3 3 (by norm_num) (by norm_num)⟩

end Cert.Proof.KernelIdeal
end
-- ==== Proof.V.Cover.lean ====
module

public import proofs.«01_k».proof.Proof.K.Tree
public import Idealize.ShloMosaic.PureOps.Ideal.Laws

/-! Over the extended reals no score exceeds the one the tournament returns. The proof runs from the winner back to the
twenty blocks: a bound on the better of two fields is a bound on both. -/

@[expose] public section

set_option maxRecDepth 16384
set_option maxHeartbeats 400000

noncomputable section

namespace Cert.Proof.KernelIdeal

open Cert.KernelIdeal Cert.KernelIdeal.Gen
open Idealize.ShloMosaic

/-- A comparison that came out one way or the other. -/
theorem cmp_ogt_cases (x y : EReal) : (Ideal.cmp .ogt x y = 1#1 ∧ y < x) ∨ (Ideal.cmp .ogt x y = 0#1 ∧ x ≤ y) := by
  unfold Ideal.cmp
  by_cases h : y < x
  · exact Or.inl ⟨by simp [h], h⟩
  · exact Or.inr ⟨by simp [h], not_lt.1 h⟩

/-- Every candidate is at most `M`. -/
def Under {s : Shape} (M : EReal) (c : FVec Ideal s .f32) : Prop := ∀ j, (c j : EReal) ≤ M

theorem Under.of_sel {s : Shape} {M : EReal} {hi lo : FVec Ideal s .f32} (h : Under M (selV hi lo)) : Under M hi ∧ Under M lo := by
  have key : ∀ j, (hi j : EReal) ≤ M ∧ (lo j : EReal) ≤ M := by
    intro j
    have hj : (Scalar.select (Ideal.cmp .ogt (hi j) (lo j)) (hi j) (lo j) : EReal) ≤ M := h j
    rcases cmp_ogt_cases (hi j) (lo j) with ⟨e, hl⟩ | ⟨e, hl⟩
    · rw [e] at hj
      exact ⟨hj, le_trans hl.le hj⟩
    · rw [e] at hj
      exact ⟨le_trans hl hj, hj⟩
  exact ⟨fun j => (key j).1, fun j => (key j).2⟩

/-- A bound on both halves of the rows is a bound on all of them. -/
theorem Under.of_rows {a n : ℕ} {M : EReal} {c : FVec Ideal ⟨2, ![2 * a, n]⟩ .f32} {h1 : (⟨2, ![2 * a, n]⟩ : Shape).Slices ![a, 0] ⟨2, ![a, n]⟩}
    {h0 : (⟨2, ![2 * a, n]⟩ : Shape).Slices ![0, 0] ⟨2, ![a, n]⟩}
    (h : Under M (selV (extractStridedSlice ⟨2, ![a, n]⟩ ![a, 0] c h1) (extractStridedSlice ⟨2, ![a, n]⟩ ![0, 0] c h0))) : Under M c := by
  obtain ⟨hh, hl⟩ := h.of_sel
  intro j
  have j0 : (j 0).val < 2 * a := (j 0).isLt
  have j1 : (j 1).val < n := (j 1).isLt
  by_cases hj : (j 0).val < a
  · refine le_trans (le_of_eq (congrArg c (funext fun b => Fin.ext ?_))) (hl (ValueIdx.ix2 ⟨(j 0).val, hj⟩ ⟨(j 1).val, j1⟩))
    match b with
    | ⟨0, _⟩ => show (j 0).val = 0 + (j 0).val; omega
    | ⟨1, _⟩ => show (j 1).val = 0 + (j 1).val; omega
  · refine le_trans (le_of_eq (congrArg c (funext fun b => Fin.ext ?_))) (hh (ValueIdx.ix2 ⟨(j 0).val - a, by omega⟩ ⟨(j 1).val, j1⟩))
    match b with
    | ⟨0, _⟩ => show (j 0).val = a + ((j 0).val - a); omega
    | ⟨1, _⟩ => show (j 1).val = 0 + (j 1).val; omega

/-- The same for the lanes. -/
theorem Under.of_lanes {a n : ℕ} {M : EReal} {c : FVec Ideal ⟨2, ![n, 2 * a]⟩ .f32} {h1 : (⟨2, ![n, 2 * a]⟩ : Shape).Slices ![0, a] ⟨2, ![n, a]⟩}
    {h0 : (⟨2, ![n, 2 * a]⟩ : Shape).Slices ![0, 0] ⟨2, ![n, a]⟩}
    (h : Under M (selV (extractStridedSlice ⟨2, ![n, a]⟩ ![0, a] c h1) (extractStridedSlice ⟨2, ![n, a]⟩ ![0, 0] c h0))) : Under M c := by
  obtain ⟨hh, hl⟩ := h.of_sel
  intro j
  have j0 : (j 0).val < n := (j 0).isLt
  have j1 : (j 1).val < 2 * a := (j 1).isLt
  by_cases hj : (j 1).val < a
  · refine le_trans (le_of_eq (congrArg c (funext fun b => Fin.ext ?_))) (hl (ValueIdx.ix2 ⟨(j 0).val, j0⟩ ⟨(j 1).val, hj⟩))
    match b with
    | ⟨0, _⟩ => show (j 0).val = 0 + (j 0).val; omega
    | ⟨1, _⟩ => show (j 1).val = 0 + (j 1).val; omega
  · refine le_trans (le_of_eq (congrArg c (funext fun b => Fin.ext ?_))) (hh (ValueIdx.ix2 ⟨(j 0).val, j0⟩ ⟨(j 1).val - a, by omega⟩))
    match b with
    | ⟨0, _⟩ => show (j 0).val = 0 + (j 0).val; omega
    | ⟨1, _⟩ => show (j 1).val = a + ((j 1).val - a); omega

theorem under_last {M : EReal} {c : FVec Ideal S8x128 .f32} (h : Under M (lastV c)) : Under M c := by
  have h2 : Under M (lanes2V c) := Under.of_lanes (a := 1) (n := 1) h
  have h4 : Under M (lanes4V c) := Under.of_lanes (a := 2) (n := 1) h2
  have h8 : Under M (lanes8V c) := Under.of_lanes (a := 4) (n := 1) h4
  have h16 : Under M (lanes16V c) := Under.of_lanes (a := 8) (n := 1) h8
  have h32 : Under M (lanes32V c) := Under.of_lanes (a := 16) (n := 1) h16
  have h64 : Under M (lanes64V c) := Under.of_lanes (a := 32) (n := 1) h32
  have h128 : Under M (rows1V c) := Under.of_lanes (a := 64) (n := 1) h64
  have r2 : Under M (rows2V c) := Under.of_rows (a := 1) (n := 128) h128
  have r4 : Under M (rows4V c) := Under.of_rows (a := 2) (n := 128) r2
  exact Under.of_rows (a := 4) (n := 128) r4

/-- A bound on block `n` bounds its scores. -/
theorem Under.at {v : FVec Ideal S160x128 .f32} {M : EReal} (n : ℕ) (hn : n < 20) {off : Fin 2 → ℕ} (ho : off = ![8 * n, 0]) {h : S160x128.Slices off S8x128}
    (hu : Under M (block v off h)) (p : ℕ) (hp : p < 1024) : (flat v (1024 * n + p) : EReal) ≤ M := by
  subst ho
  refine le_trans (le_of_eq ?_) (hu (ValueIdx.ix2 ⟨p / 128, by omega⟩ ⟨p % 128, by omega⟩))
  rw [block_val v n hn h]
  show flat v (1024 * n + p) = flat v (1024 * n + (128 * (p / 128) + p % 128))
  congr 2
  omega

/-- A field of one place is bounded by what it holds. -/
theorem under_only (x : FVec Ideal S1x1 .f32) : Under (extractAt ![0, 0] x inpos_S1x1_p0_0) x := by
  intro j
  refine le_of_eq (congrArg x (funext fun b => Fin.ext ?_))
  have h0 : (j 0).val < 1 := (j 0).isLt
  have h1 : (j 1).val < 1 := (j 1).isLt
  match b with
  | ⟨0, _⟩ => show (j 0).val = 0; omega
  | ⟨1, _⟩ => show (j 1).val = 0; omega

/-- No score exceeds the tournament's. -/
theorem le_best (v : FVec Ideal S160x128 .f32) (n : ℕ) (hn : n < 20480) : (flat v n : EReal) ≤ bestVal v := by
  have hl : Under (bestVal v) (lastV (blockV v)) := under_only (lastV (blockV v))
  have hb := under_last hl
  obtain ⟨h31, h20⟩ := hb.of_sel
  obtain ⟨f2, h30⟩ := h20.of_sel
  obtain ⟨f4, f1⟩ := h31.of_sel
  obtain ⟨f3, f0⟩ := h30.of_sel
  obtain ⟨t5, t0⟩ := f0.of_sel
  obtain ⟨t6, t1⟩ := f1.of_sel
  obtain ⟨t7, t2⟩ := f2.of_sel
  obtain ⟨t8, t3⟩ := f3.of_sel
  obtain ⟨t9, t4⟩ := f4.of_sel
  have e : n = 1024 * (n / 1024) + n % 1024 := by omega
  have hp : n % 1024 < 1024 := by omega
  have hq : n / 1024 < 20 := by omega
  rw [e]
  generalize n % 1024 = p at hp
  generalize n / 1024 = q at hq
  interval_cases q
  · exact Under.at 0 (by decide) rfl t0.of_sel.2 p hp
  · exact Under.at 1 (by decide) rfl t1.of_sel.2 p hp
  · exact Under.at 2 (by decide) rfl t2.of_sel.2 p hp
  · exact Under.at 3 (by decide) rfl t3.of_sel.2 p hp
  · exact Under.at 4 (by decide) rfl t4.of_sel.2 p hp
  · exact Under.at 5 (by decide) rfl t5.of_sel.2 p hp
  · exact Under.at 6 (by decide) rfl t6.of_sel.2 p hp
  · exact Under.at 7 (by decide) rfl t7.of_sel.2 p hp
  · exact Under.at 8 (by decide) rfl t8.of_sel.2 p hp
  · exact Under.at 9 (by decide) rfl t9.of_sel.2 p hp
  · exact Under.at 10 (by decide) rfl t0.of_sel.1 p hp
  · exact Under.at 11 (by decide) rfl t1.of_sel.1 p hp
  · exact Under.at 12 (by decide) rfl t2.of_sel.1 p hp
  · exact Under.at 13 (by decide) rfl t3.of_sel.1 p hp
  · exact Under.at 14 (by decide) rfl t4.of_sel.1 p hp
  · exact Under.at 15 (by decide) rfl t5.of_sel.1 p hp
  · exact Under.at 16 (by decide) rfl t6.of_sel.1 p hp
  · exact Under.at 17 (by decide) rfl t7.of_sel.1 p hp
  · exact Under.at 18 (by decide) rfl t8.of_sel.1 p hp
  · exact Under.at 19 (by decide) rfl t9.of_sel.1 p hp

end Cert.Proof.KernelIdeal
-- ==== Proof.K.Trip.lean ====
module

public import proofs.«01_k».proof.Proof.K.Tree
public import proofs.«01_k».proof.Proof.Gen.KernelIdeal.Loops

/-! One trip of the selection loop, run once at a symbolic trip number: the four carried score fields it hands on, the
rows it writes into the selected boxes, and the words it leaves for the crops. -/

@[expose] public section

set_option maxRecDepth 65536
set_option maxHeartbeats 40000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The four carried score fields. -/
abbrev Carry (F : FTy → Type) : Type := FVec F S160x128 .f32 × FVec F S160x128 .f32 × FVec F S160x128 .f32 × FVec F S160x128 .f32

/-- The coordinates of the places of an 8 x 8 window and of a row of eight, as the body makes them. -/
abbrev rowOf8 : IVec S8x8 32 := iota .tc S8x8 32 [0] iota_S8x8_d0_w32
abbrev laneOf8 : IVec S8x8 32 := iota .tc S8x8 32 [1] iota_S8x8_d1_w32
abbrev slotOf8 : IVec S1x8 32 := iota .tc S1x8 32 [1] iota_S1x8_d1_w32

/-- What a trip of the selection loop holds: the boxes in both layouts and the areas, which it reads, and the two buffers it
    writes. -/
abbrev Held (c : Dev nD) (arg1 : Memref sig .tc .vmem S4x5x160x128 .f32) (arg2 : Memref sig .tc .vmem S4x4x2560x8 .f32)
    (arg7 : Memref sig .tc .vmem S4x160x128 .f32) (arg5 : Memref sig .tc .vmem S4x100x5 .f32) (arg6 : Memref sig .tc .smem S4x100x8 .f32)
    (X1 : BufTy.Contents (Elt F) arg1.view.ty) (X2 : BufTy.Contents (Elt F) arg2.view.ty) (X7 : BufTy.Contents (Elt F) arg7.view.ty)
    (f5 : BufTy.Contents (Elt F) arg5.view.ty) (f6 : BufTy.Contents (Elt F) arg6.view.ty) : sProp 𝕄 :=
  iprop((arg1.view.loc (c : Thread nD τ) ↦[arg1.view.set]{fullShare} X1) ∗ (arg2.view.loc (c : Thread nD τ) ↦[arg2.view.set]{fullShare} X2) ∗ (arg7.view.loc (c : Thread nD τ) ↦[arg7.view.set]{fullShare} X7) ∗ (arg5.view.loc (c : Thread nD τ) ↦[arg5.view.set]{fullShare} f5) ∗ (arg6.view.loc (c : Thread nD τ) ↦[arg6.view.set]{fullShare} f6))

/-- One trip at number `k` from the carried fields `(a0, a1, a2, a3)`. -/
@[irreducible] def tripSel (𝒱 : Variants) (c : Dev nD) (bd : Option 𝒱.V) (i : grid0.Coords) (arg1 : Memref sig .tc .vmem S4x5x160x128 .f32) (harg1 : arg1.IsWhole) (arg2 : Memref sig .tc .vmem S4x4x2560x8 .f32) (harg2 : arg2.IsWhole) (arg3 : Memref sig .tc .vmem S4x3x512x512 .bf16) (harg3 : arg3.IsWhole) (arg4 : Memref sig .tc .vmem S4x3x100x24x24 .f32) (harg4 : arg4.IsWhole) (arg5 : Memref sig .tc .vmem S4x100x5 .f32) (harg5 : arg5.IsWhole) (arg6 : Memref sig .tc .smem S4x100x8 .f32) (harg6 : arg6.IsWhole) (arg7 : Memref sig .tc .vmem S4x160x128 .f32) (harg7 : arg7.IsWhole) (v51 : FVec F S160x128 .f32)
    (X1 : BufTy.Contents (Elt F) arg1.view.ty) (X2 : BufTy.Contents (Elt F) arg2.view.ty) (X7 : BufTy.Contents (Elt F) arg7.view.ty)
    (k : Fin k0_t1_loop.trips) (a0 a1 a2 a3 : FVec F S160x128 .f32) :
    { R : Carry F × List (View.Piece (Elt F) S4x100x5 .f32) × List (View.Piece (Elt F) S4x100x8 .f32) //
      ∀ (E : Set ℕ) (f5 : BufTy.Contents (Elt F) arg5.view.ty) (f6 : BufTy.Contents (Elt F) arg6.view.ty),
        Held (F := F) c arg1 arg2 arg7 arg5 arg6 X1 X2 X7 f5 f6
        ⊢ wp frame (wpE (defs₀ (F := F)) 𝒱 (c : Thread nD τ) bd) E
            (k0_t1_body (F := F) i arg1 harg1 arg2 harg2 arg3 harg3 arg4 harg4 arg5 harg5 arg6 harg6 arg7 harg7 k0_pay732 rowOf8 laneOf8 slotOf8 v51 k (a0, a1, a2, a3))
            (fun yld => iprop(⌜yld = R.1⌝ ∗ Held (F := F) c arg1 arg2 arg7 arg5 arg6 X1 X2 X7
              (arg5.view.writes (Elt F) f5 R.2.1) (arg6.view.writes (Elt F) f6 R.2.2))) } := by
  have hk : k.val < 100 := Nat.lt_of_lt_of_le k.isLt k0_t1_abs.2.1
  refine ⟨(?R, ?L5, ?L6), fun E f5 f6 => ?run⟩
  case run =>
    dsimp only
    unfold k0_t1_body
    iintro ⟨H1, H2, H7, W5, W6⟩
    sl_exec (disch := first
      | (with_reducible refine chk1_of ?_); exact bestIdx_lt a0
      | (with_reducible refine chk2_of ?_); exact bestIdx_lt a1
      | (with_reducible refine chk3_of ?_); exact bestIdx_lt a2
      | (with_reducible refine chk4_of ?_); exact bestIdx_lt a3)
    sl_step
    sl_close

end Cert.Proof.KernelIdeal
end
-- ==== Proof.K.Tidy.lean ====
module

public import proofs.«01_k».proof.Proof.K.Trip

/-! What one trip of the selection loop does to one image, written once for all four images: the chosen slot, its four
coordinates, the test of validity, the scores handed on, the row of the result and the four words left for the crops. -/

@[expose] public section

set_option maxRecDepth 65536
set_option maxHeartbeats 40000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The numbers the body writes as words: zero, minus infinity, and the overlap above which a box goes. -/
abbrev zeroF : F .f32 := Scalar.ofBits .f32 0x00000000#32
abbrev lowF : F .f32 := Scalar.ofBits .f32 0xFF800000#32
abbrev thrF : F .f32 := Scalar.ofBits .f32 0x3F333333#32

/-- Where slot `w` stands in its window of eight rows of eight. -/
def pick (w : BitVec 32) : IVec S8x8 1 :=
  andi (cmpi .eq rowOf8 (broadcast S8x8 (Scalar.subi (floor8 w) (k0_mult1 w))))
    (cmpi .eq laneOf8 (broadcast S8x8 (Scalar.subi w (Scalar.muli (floor8 w) 8#32))))

/-- The one entry of a window at the picked place, read as the sum of the window with everything else put to zero. -/
def pickSum (p : IVec S8x8 1) (win : Vec F S1x1x8x8 .f32) : F .f32 :=
  extractAt ![0, 0, 0]
    (shapeCast S1x1x1
      (multiReduction .add [1, 2] S1
        (shapeCast S1x8x8 (select p (shapeCast S8x8 win shapeCasts_S1x1x8x8_S8x8) (broadcast S8x8 (zeroF (F := F))))
          shapeCasts_S8x8_S1x8x8)
        0x00000000#32 reduces_S1x8x8_S1 (.inl rfl) rfl)
      shapeCasts_S1_S1x1x1)
    inpos_S1x1x1_p0_0_0

/-- The slot chosen from the scores `a`. -/
def slotOf (a : FVec F S160x128 .f32) : BitVec 32 := bestIdx k0_pay732 a
theorem slotOf_lt (a : FVec F S160x128 .f32) : (slotOf a).toNat < 20480 := bestIdx_lt a

/-- Coordinate `q` of the chosen box of image `b`. -/
def corner (arg2 : Memref sig .tc .vmem S4x4x2560x8 .f32) (X2 : BufTy.Contents (Elt F) arg2.view.ty) (b q : Fin 4)
    (a : FVec F S160x128 .f32) : F .f32 :=
  pickSum (pick (slotOf a))
    (View.readAt (Elt F) arg2.view (Rect.unit (s := S4x4x2560x8) ![b.val, q.val, (k0_mult1 (slotOf a)).toNat, 0] S1x1x8x8.size
      (inb_of (slotOf_lt a) b.val q.val b.isLt q.isLt)).toLoadRect X2)

/-- Whether a box was left to choose. -/
def valid (a : FVec F S160x128 .f32) : BitVec 1 := Scalar.cmpf .ogt (bestVal a) (lowF (F := F))

/-- Coordinate `q` of the chosen box, zero when none was left. -/
def kept (arg2 : Memref sig .tc .vmem S4x4x2560x8 .f32) (X2 : BufTy.Contents (Elt F) arg2.view.ty) (b : Fin 4)
    (a : FVec F S160x128 .f32) (q : Fin 4) : F .f32 := Scalar.select (valid a) (corner arg2 X2 b q a) (zeroF (F := F))
/-- The chosen score, zero when none was left. -/
def keptScore (a : FVec F S160x128 .f32) : F .f32 := Scalar.select (valid a) (bestVal a) (zeroF (F := F))

/-- A number at one place of a row of eight, zero elsewhere. -/
def lane (n : BitVec 32) (x : F .f32) : FVec F S1x8 .f32 :=
  select (cmpi .eq slotOf8 (broadcast S1x8 n)) (broadcast S1x8 x) (broadcast S1x8 (zeroF (F := F)))

/-- The row of the result. -/
def rowOut (arg2 : Memref sig .tc .vmem S4x4x2560x8 .f32) (X2 : BufTy.Contents (Elt F) arg2.view.ty) (b : Fin 4)
    (a : FVec F S160x128 .f32) : FVec F S1x1x5 .f32 :=
  shapeCast S1x1x5
    (extractStridedSlice S1x5 ![0, 0]
      (addf (addf (addf (addf (lane 0#32 (kept arg2 X2 b a 0)) (lane 1#32 (kept arg2 X2 b a 1))) (lane 2#32 (kept arg2 X2 b a 2)))
        (lane 3#32 (kept arg2 X2 b a 3))) (lane 4#32 (keptScore a)))
      slices_S1x8_o0_0_S1x5)
    shapeCasts_S1x5_S1x1x5

theorem inb_plane (b q : ℕ) (hb : b < 4) (hq : q < 5) :
    ∀ a, (![b, q, 0, 0] : Fin 4 → ℕ) a + S1x1x160x128.size a ≤ S4x5x160x128.size a := by
  intro a
  fin_cases a
  · show b + 1 ≤ 4
    omega
  · show q + 1 ≤ 5
    omega
  · show 0 + 160 ≤ 160
    omega
  · show 0 + 128 ≤ 128
    omega

theorem inb_area (b : ℕ) (hb : b < 4) : ∀ a, (![b, 0, 0] : Fin 3 → ℕ) a + S1x160x128.size a ≤ S4x160x128.size a := by
  intro a
  fin_cases a
  · show b + 1 ≤ 4
    omega
  · show 0 + 160 ≤ 160
    omega
  · show 0 + 128 ≤ 128
    omega

/-- Coordinate `q` of all boxes of image `b`. -/
def plane (arg1 : Memref sig .tc .vmem S4x5x160x128 .f32) (X1 : BufTy.Contents (Elt F) arg1.view.ty) (b : Fin 4) (q : Fin 5) :
    FVec F S160x128 .f32 :=
  shapeCast S160x128 (View.readAt (Elt F) arg1.view (Rect.unit (s := S4x5x160x128) ![b.val, q.val, 0, 0] S1x1x160x128.size
    (inb_plane b.val q.val b.isLt q.isLt)).toLoadRect X1) shapeCasts_S1x1x160x128_S160x128
/-- The areas of all boxes of image `b`. -/
def areas (arg7 : Memref sig .tc .vmem S4x160x128 .f32) (X7 : BufTy.Contents (Elt F) arg7.view.ty) (b : Fin 4) : FVec F S160x128 .f32 :=
  shapeCast S160x128 (View.readAt (Elt F) arg7.view (Rect.unit (s := S4x160x128) ![b.val, 0, 0] S1x160x128.size
    (inb_area b.val b.isLt)).toLoadRect X7) shapeCasts_S1x160x128_S160x128

/-- The common area of one box with each of the others. -/
def common (c0 c1 c2 c3 : F .f32) (p0 p1 p2 p3 : FVec F S160x128 .f32) : FVec F S160x128 .f32 :=
  mulf (maximumf (subf (minimumf (broadcast S160x128 c2) p2) (maximumf (broadcast S160x128 c0) p0)) (broadcast S160x128 (zeroF (F := F))))
    (maximumf (subf (minimumf (broadcast S160x128 c3) p3) (maximumf (broadcast S160x128 c1) p1)) (broadcast S160x128 (zeroF (F := F))))

/-- The scores handed on: minus infinity where the overlap with the chosen box is too great. -/
def drop (v : BitVec 1) (areaB : F .f32) (inter area a : FVec F S160x128 .f32) : FVec F S160x128 .f32 :=
  select (andi (cmpf .ogt (divf inter (subf (addf (broadcast S160x128 areaB) area) inter)) (broadcast S160x128 (thrF (F := F))))
    (broadcast S160x128 v)) (broadcast S160x128 (lowF (F := F))) a

/-- The scores of image `b` handed on to the next trip. -/
def next (arg1 : Memref sig .tc .vmem S4x5x160x128 .f32) (arg2 : Memref sig .tc .vmem S4x4x2560x8 .f32)
    (arg7 : Memref sig .tc .vmem S4x160x128 .f32) (X1 : BufTy.Contents (Elt F) arg1.view.ty) (X2 : BufTy.Contents (Elt F) arg2.view.ty)
    (X7 : BufTy.Contents (Elt F) arg7.view.ty) (b : Fin 4) (a : FVec F S160x128 .f32) : FVec F S160x128 .f32 :=
  drop (valid a)
    (Scalar.mulf (Scalar.subf (corner arg2 X2 b 2 a) (corner arg2 X2 b 0 a)) (Scalar.subf (corner arg2 X2 b 3 a) (corner arg2 X2 b 1 a)))
    (common (corner arg2 X2 b 0 a) (corner arg2 X2 b 1 a) (corner arg2 X2 b 2 a) (corner arg2 X2 b 3 a)
      (plane arg1 X1 b 0) (plane arg1 X1 b 1) (plane arg1 X1 b 2) (plane arg1 X1 b 3))
    (areas arg7 X7 b) a

section
variable (𝒱 : Variants) (c : Dev nD) (bd : Option 𝒱.V) (i : grid0.Coords) (arg1 : Memref sig .tc .vmem S4x5x160x128 .f32) (harg1 : arg1.IsWhole) (arg2 : Memref sig .tc .vmem S4x4x2560x8 .f32) (harg2 : arg2.IsWhole) (arg3 : Memref sig .tc .vmem S4x3x512x512 .bf16) (harg3 : arg3.IsWhole) (arg4 : Memref sig .tc .vmem S4x3x100x24x24 .f32) (harg4 : arg4.IsWhole) (arg5 : Memref sig .tc .vmem S4x100x5 .f32) (harg5 : arg5.IsWhole) (arg6 : Memref sig .tc .smem S4x100x8 .f32) (harg6 : arg6.IsWhole) (arg7 : Memref sig .tc .vmem S4x160x128 .f32) (harg7 : arg7.IsWhole) (v51 : FVec F S160x128 .f32)
    (X1 : BufTy.Contents (Elt F) arg1.view.ty) (X2 : BufTy.Contents (Elt F) arg2.view.ty) (X7 : BufTy.Contents (Elt F) arg7.view.ty)
    (k : Fin k0_t1_loop.trips) (a0 a1 a2 a3 : FVec F S160x128 .f32)

/-- The trip hands on each image's scores by the one rule. -/
theorem tripSel_carry : (tripSel (F := F) 𝒱 c bd i arg1 harg1 arg2 harg2 arg3 harg3 arg4 harg4 arg5 harg5 arg6 harg6 arg7 harg7 v51 X1 X2 X7 k a0 a1 a2 a3).1.1 =
    (next arg1 arg2 arg7 X1 X2 X7 0 a0, next arg1 arg2 arg7 X1 X2 X7 1 a1, next arg1 arg2 arg7 X1 X2 X7 2 a2,
      next arg1 arg2 arg7 X1 X2 X7 3 a3) := by
  unfold tripSel
  rfl

/-- The trip writes one row of each image's result. -/
theorem tripSel_rows : (tripSel (F := F) 𝒱 c bd i arg1 harg1 arg2 harg2 arg3 harg3 arg4 harg4 arg5 harg5 arg6 harg6 arg7 harg7 v51 X1 X2 X7 k a0 a1 a2 a3).1.2.1 =
      [⟨Rect.unit (k0_off32 k) S1x1x5.size (k0_off32_inb k), rowOut (F := F) arg2 X2 3 a3⟩,
       ⟨Rect.unit (k0_off23 k) S1x1x5.size (k0_off23_inb k), rowOut (F := F) arg2 X2 2 a2⟩,
       ⟨Rect.unit (k0_off14 k) S1x1x5.size (k0_off14_inb k), rowOut (F := F) arg2 X2 1 a1⟩,
       ⟨Rect.unit (k0_off5 k) S1x1x5.size (k0_off5_inb k), rowOut (F := F) arg2 X2 0 a0⟩] := by
  unfold tripSel
  rfl

/-- The trip leaves four words for each image. -/
theorem tripSel_words : (tripSel (F := F) 𝒱 c bd i arg1 harg1 arg2 harg2 arg3 harg3 arg4 harg4 arg5 harg5 arg6 harg6 arg7 harg7 v51 X1 X2 X7 k a0 a1 a2 a3).1.2.2 =
      [⟨Rect.unit (k0_off36 k) S1x1x1.size (k0_off36_inb k), fun _ => kept (F := F) arg2 X2 3 a3 3⟩,
       ⟨Rect.unit (k0_off35 k) S1x1x1.size (k0_off35_inb k), fun _ => kept (F := F) arg2 X2 3 a3 2⟩,
       ⟨Rect.unit (k0_off34 k) S1x1x1.size (k0_off34_inb k), fun _ => kept (F := F) arg2 X2 3 a3 1⟩,
       ⟨Rect.unit (k0_off33 k) S1x1x1.size (k0_off33_inb k), fun _ => kept (F := F) arg2 X2 3 a3 0⟩,
       ⟨Rect.unit (k0_off27 k) S1x1x1.size (k0_off27_inb k), fun _ => kept (F := F) arg2 X2 2 a2 3⟩,
       ⟨Rect.unit (k0_off26 k) S1x1x1.size (k0_off26_inb k), fun _ => kept (F := F) arg2 X2 2 a2 2⟩,
       ⟨Rect.unit (k0_off25 k) S1x1x1.size (k0_off25_inb k), fun _ => kept (F := F) arg2 X2 2 a2 1⟩,
       ⟨Rect.unit (k0_off24 k) S1x1x1.size (k0_off24_inb k), fun _ => kept (F := F) arg2 X2 2 a2 0⟩,
       ⟨Rect.unit (k0_off18 k) S1x1x1.size (k0_off18_inb k), fun _ => kept (F := F) arg2 X2 1 a1 3⟩,
       ⟨Rect.unit (k0_off17 k) S1x1x1.size (k0_off17_inb k), fun _ => kept (F := F) arg2 X2 1 a1 2⟩,
       ⟨Rect.unit (k0_off16 k) S1x1x1.size (k0_off16_inb k), fun _ => kept (F := F) arg2 X2 1 a1 1⟩,
       ⟨Rect.unit (k0_off15 k) S1x1x1.size (k0_off15_inb k), fun _ => kept (F := F) arg2 X2 1 a1 0⟩,
       ⟨Rect.unit (k0_off9 k) S1x1x1.size (k0_off9_inb k), fun _ => kept (F := F) arg2 X2 0 a0 3⟩,
       ⟨Rect.unit (k0_off8 k) S1x1x1.size (k0_off8_inb k), fun _ => kept (F := F) arg2 X2 0 a0 2⟩,
       ⟨Rect.unit (k0_off7 k) S1x1x1.size (k0_off7_inb k), fun _ => kept (F := F) arg2 X2 0 a0 1⟩,
       ⟨Rect.unit (k0_off6 k) S1x1x1.size (k0_off6_inb k), fun _ => kept (F := F) arg2 X2 0 a0 0⟩] := by
  unfold tripSel
  rfl
end

end Cert.Proof.KernelIdeal
end
-- ==== Proof.K.Loop.lean ====
module

public import proofs.«01_k».proof.Proof.K.Tidy

/-! The selection loop: the scores before each trip, and what the two written buffers hold by then. -/

@[expose] public section

set_option maxRecDepth 65536
set_option maxHeartbeats 40000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.ValueIdx

/-- The rows one trip writes, the last image first. -/
abbrev rowPieces (arg2 : Memref sig .tc .vmem S4x4x2560x8 .f32) (X2 : BufTy.Contents (Elt F) arg2.view.ty) (k : Fin k0_t1_loop.trips)
    (a0 a1 a2 a3 : FVec F S160x128 .f32) : List (View.Piece (Elt F) S4x100x5 .f32) :=
  [⟨Rect.unit (k0_off32 k) S1x1x5.size (k0_off32_inb k), rowOut (F := F) arg2 X2 3 a3⟩,
    ⟨Rect.unit (k0_off23 k) S1x1x5.size (k0_off23_inb k), rowOut (F := F) arg2 X2 2 a2⟩,
    ⟨Rect.unit (k0_off14 k) S1x1x5.size (k0_off14_inb k), rowOut (F := F) arg2 X2 1 a1⟩,
    ⟨Rect.unit (k0_off5 k) S1x1x5.size (k0_off5_inb k), rowOut (F := F) arg2 X2 0 a0⟩]

/-- The words one trip leaves, the last image first. -/
abbrev wordPieces (arg2 : Memref sig .tc .vmem S4x4x2560x8 .f32) (X2 : BufTy.Contents (Elt F) arg2.view.ty) (k : Fin k0_t1_loop.trips)
    (a0 a1 a2 a3 : FVec F S160x128 .f32) : List (View.Piece (Elt F) S4x100x8 .f32) :=
  [⟨Rect.unit (k0_off36 k) S1x1x1.size (k0_off36_inb k), fun _ => kept (F := F) arg2 X2 3 a3 3⟩,
    ⟨Rect.unit (k0_off35 k) S1x1x1.size (k0_off35_inb k), fun _ => kept (F := F) arg2 X2 3 a3 2⟩,
    ⟨Rect.unit (k0_off34 k) S1x1x1.size (k0_off34_inb k), fun _ => kept (F := F) arg2 X2 3 a3 1⟩,
    ⟨Rect.unit (k0_off33 k) S1x1x1.size (k0_off33_inb k), fun _ => kept (F := F) arg2 X2 3 a3 0⟩,
    ⟨Rect.unit (k0_off27 k) S1x1x1.size (k0_off27_inb k), fun _ => kept (F := F) arg2 X2 2 a2 3⟩,
    ⟨Rect.unit (k0_off26 k) S1x1x1.size (k0_off26_inb k), fun _ => kept (F := F) arg2 X2 2 a2 2⟩,
    ⟨Rect.unit (k0_off25 k) S1x1x1.size (k0_off25_inb k), fun _ => kept (F := F) arg2 X2 2 a2 1⟩,
    ⟨Rect.unit (k0_off24 k) S1x1x1.size (k0_off24_inb k), fun _ => kept (F := F) arg2 X2 2 a2 0⟩,
    ⟨Rect.unit (k0_off18 k) S1x1x1.size (k0_off18_inb k), fun _ => kept (F := F) arg2 X2 1 a1 3⟩,
    ⟨Rect.unit (k0_off17 k) S1x1x1.size (k0_off17_inb k), fun _ => kept (F := F) arg2 X2 1 a1 2⟩,
    ⟨Rect.unit (k0_off16 k) S1x1x1.size (k0_off16_inb k), fun _ => kept (F := F) arg2 X2 1 a1 1⟩,
    ⟨Rect.unit (k0_off15 k) S1x1x1.size (k0_off15_inb k), fun _ => kept (F := F) arg2 X2 1 a1 0⟩,
    ⟨Rect.unit (k0_off9 k) S1x1x1.size (k0_off9_inb k), fun _ => kept (F := F) arg2 X2 0 a0 3⟩,
    ⟨Rect.unit (k0_off8 k) S1x1x1.size (k0_off8_inb k), fun _ => kept (F := F) arg2 X2 0 a0 2⟩,
    ⟨Rect.unit (k0_off7 k) S1x1x1.size (k0_off7_inb k), fun _ => kept (F := F) arg2 X2 0 a0 1⟩,
    ⟨Rect.unit (k0_off6 k) S1x1x1.size (k0_off6_inb k), fun _ => kept (F := F) arg2 X2 0 a0 0⟩]

section
variable (arg2 : Memref sig .tc .vmem S4x4x2560x8 .f32) (X2 : BufTy.Contents (Elt F) arg2.view.ty) (k : Fin k0_t1_loop.trips)

theorem row_emb (b k : ℕ) {off : Fin 3 → ℕ} (ho : off = ![b, k, 0]) (inb) (x : S1x1x5.Idx) :
    ((Rect.unit (s := S4x100x5) off S1x1x5.size inb).emb x 0).val = b ∧ ((Rect.unit (s := S4x100x5) off S1x1x5.size inb).emb x 1).val = k
      ∧ ((Rect.unit (s := S4x100x5) off S1x1x5.size inb).emb x 2).val = (x 2).val := by
  subst ho
  have h0 : (x 0).val < 1 := (x 0).isLt
  have h1 : (x 1).val < 1 := (x 1).isLt
  refine ⟨?_, ?_, ?_⟩
  · rw [Rect.emb_apply]; show b + 1 * (x 0).val = _; omega
  · rw [Rect.emb_apply]; show k + 1 * (x 1).val = _; omega
  · rw [Rect.emb_apply]; show 0 + 1 * (x 2).val = _; omega

theorem row_mem (b k : ℕ) {off : Fin 3 → ℕ} (ho : off = ![b, k, 0]) (inb) (y : S4x100x5.Idx) :
    y ∈ (Rect.unit (s := S4x100x5) off S1x1x5.size inb).set ↔ (y 0).val = b ∧ (y 1).val = k := by
  subst ho
  rw [Rect.mem_set_unit]
  have h2 : (y 2).val < 5 := (y 2).isLt
  constructor
  · intro h
    have e0 : b ≤ (y 0).val ∧ (y 0).val < b + 1 := h 0
    have e1 : k ≤ (y 1).val ∧ (y 1).val < k + 1 := h 1
    omega
  · rintro ⟨e0, e1⟩ a
    fin_cases a
    · show b ≤ (y 0).val ∧ (y 0).val < b + 1
      omega
    · show k ≤ (y 1).val ∧ (y 1).val < k + 1
      omega
    · show 0 ≤ (y 2).val ∧ (y 2).val < 0 + 5
      omega

theorem word_emb (b k q : ℕ) {off : Fin 3 → ℕ} (ho : off = ![b, k, q]) (inb) (x : S1x1x1.Idx) :
    ((Rect.unit (s := S4x100x8) off S1x1x1.size inb).emb x 0).val = b ∧ ((Rect.unit (s := S4x100x8) off S1x1x1.size inb).emb x 1).val = k
      ∧ ((Rect.unit (s := S4x100x8) off S1x1x1.size inb).emb x 2).val = q := by
  subst ho
  have h0 : (x 0).val < 1 := (x 0).isLt
  have h1 : (x 1).val < 1 := (x 1).isLt
  have h2 : (x 2).val < 1 := (x 2).isLt
  refine ⟨?_, ?_, ?_⟩
  · rw [Rect.emb_apply]; show b + 1 * (x 0).val = _; omega
  · rw [Rect.emb_apply]; show k + 1 * (x 1).val = _; omega
  · rw [Rect.emb_apply]; show q + 1 * (x 2).val = _; omega

theorem word_mem (b k q : ℕ) {off : Fin 3 → ℕ} (ho : off = ![b, k, q]) (inb) (y : S4x100x8.Idx) :
    y ∈ (Rect.unit (s := S4x100x8) off S1x1x1.size inb).set ↔ (y 0).val = b ∧ (y 1).val = k ∧ (y 2).val = q := by
  subst ho
  rw [Rect.mem_set_unit]
  constructor
  · intro h
    have e0 : b ≤ (y 0).val ∧ (y 0).val < b + 1 := h 0
    have e1 : k ≤ (y 1).val ∧ (y 1).val < k + 1 := h 1
    have e2 : q ≤ (y 2).val ∧ (y 2).val < q + 1 := h 2
    omega
  · rintro ⟨e0, e1, e2⟩ a
    fin_cases a
    · show b ≤ (y 0).val ∧ (y 0).val < b + 1
      omega
    · show k ≤ (y 1).val ∧ (y 1).val < k + 1
      omega
    · show q ≤ (y 2).val ∧ (y 2).val < q + 1
      omega

/-- What a trip puts at one place of the result, the four images' scores given. -/
def rowAt (A : Fin 4 → FVec F S160x128 .f32) (y : S4x100x5.Idx) : F .f32 := rowOut (F := F) arg2 X2 (y 0) (A (y 0)) (ix3 0 0 (y 2))
/-- What a trip puts at one of the first four words of a line. -/
def wordAt (A : Fin 4 → FVec F S160x128 .f32) (y : S4x100x8.Idx) : F .f32 :=
  if h : (y 2).val < 4 then kept (F := F) arg2 X2 (y 0) (A (y 0)) ⟨(y 2).val, h⟩ else zeroF

theorem row_piece (A : Fin 4 → FVec F S160x128 .f32) (b : Fin 4) {off : Fin 3 → ℕ} {n : ℕ} (ho : off = ![b.val, n, 0]) (inb) (x : S1x1x5.Idx) :
    rowOut (F := F) arg2 X2 b (A b) x = rowAt arg2 X2 A ((Rect.unit (s := S4x100x5) off S1x1x5.size inb).emb x) := by
  obtain ⟨h0, _, h2⟩ := row_emb b.val n ho inb x
  have e0 : (Rect.unit (s := S4x100x5) off S1x1x5.size inb).emb x 0 = b := Fin.ext h0
  have e2 : (Rect.unit (s := S4x100x5) off S1x1x5.size inb).emb x 2 = x 2 := Fin.ext h2
  unfold rowAt
  rw [e0, e2]
  have hx : x = ix3 0 0 (x 2) := by
    have h0 : (x 0).val < 1 := (x 0).isLt
    have h1 : (x 1).val < 1 := (x 1).isLt
    funext a
    fin_cases a
    · exact Fin.ext (by show (x 0).val = 0; omega)
    · exact Fin.ext (by show (x 1).val = 0; omega)
    · rfl
  exact congrArg _ hx

theorem word_piece (A : Fin 4 → FVec F S160x128 .f32) (b q : Fin 4) {off : Fin 3 → ℕ} {n : ℕ} (ho : off = ![b.val, n, q.val]) (inb) (x : S1x1x1.Idx) :
    kept (F := F) arg2 X2 b (A b) q = wordAt arg2 X2 A ((Rect.unit (s := S4x100x8) off S1x1x1.size inb).emb x) := by
  obtain ⟨h0, _, h2⟩ := word_emb b.val n q.val ho inb x
  have e0 : (Rect.unit (s := S4x100x8) off S1x1x1.size inb).emb x 0 = b := Fin.ext h0
  unfold wordAt
  rw [e0, dif_pos (h2 ▸ q.isLt)]
  exact congrArg _ (Fin.ext h2.symm)

theorem rows_pieces (A : Fin 4 → FVec F S160x128 .f32) :
    ∀ p ∈ rowPieces arg2 X2 k (A 0) (A 1) (A 2) (A 3), ∀ x, p.2 x = rowAt arg2 X2 A (p.1.emb x) := by
  simp only [List.forall_mem_cons, List.not_mem_nil, false_imp_iff, implies_true, and_true]
  refine ⟨?_, ?_, ?_, ?_⟩
  · exact row_piece arg2 X2 A 3 (k0_off32_eq k) _
  · exact row_piece arg2 X2 A 2 (k0_off23_eq k) _
  · exact row_piece arg2 X2 A 1 (k0_off14_eq k) _
  · exact row_piece arg2 X2 A 0 (k0_off5_eq k) _

theorem words_pieces (A : Fin 4 → FVec F S160x128 .f32) :
    ∀ p ∈ wordPieces arg2 X2 k (A 0) (A 1) (A 2) (A 3), ∀ x, p.2 x = wordAt arg2 X2 A (p.1.emb x) := by
  simp only [List.forall_mem_cons, List.not_mem_nil, false_imp_iff, implies_true, and_true]
  refine ⟨?_, ?_, ?_, ?_, ?_, ?_, ?_, ?_, ?_, ?_, ?_, ?_, ?_, ?_, ?_, ?_⟩
  · exact word_piece arg2 X2 A 3 3 (k0_off36_eq k) _
  · exact word_piece arg2 X2 A 3 2 (k0_off35_eq k) _
  · exact word_piece arg2 X2 A 3 1 (k0_off34_eq k) _
  · exact word_piece arg2 X2 A 3 0 (k0_off33_eq k) _
  · exact word_piece arg2 X2 A 2 3 (k0_off27_eq k) _
  · exact word_piece arg2 X2 A 2 2 (k0_off26_eq k) _
  · exact word_piece arg2 X2 A 2 1 (k0_off25_eq k) _
  · exact word_piece arg2 X2 A 2 0 (k0_off24_eq k) _
  · exact word_piece arg2 X2 A 1 3 (k0_off18_eq k) _
  · exact word_piece arg2 X2 A 1 2 (k0_off17_eq k) _
  · exact word_piece arg2 X2 A 1 1 (k0_off16_eq k) _
  · exact word_piece arg2 X2 A 1 0 (k0_off15_eq k) _
  · exact word_piece arg2 X2 A 0 3 (k0_off9_eq k) _
  · exact word_piece arg2 X2 A 0 2 (k0_off8_eq k) _
  · exact word_piece arg2 X2 A 0 1 (k0_off7_eq k) _
  · exact word_piece arg2 X2 A 0 0 (k0_off6_eq k) _

/-- A trip writes its own line of the result, whole, and no other. -/
theorem rows_cover (a0 a1 a2 a3 : FVec F S160x128 .f32) (y : S4x100x5.Idx) :
    (∃ p ∈ rowPieces arg2 X2 k a0 a1 a2 a3, y ∈ p.1.set) ↔ (y 1).val = k.val := by
  have hy : (y 0).val < 4 := (y 0).isLt
  simp only [List.mem_cons, List.not_mem_nil, or_false, exists_eq_or_imp, exists_eq_left]
  rw [row_mem 3 k.val (k0_off32_eq k), row_mem 2 k.val (k0_off23_eq k), row_mem 1 k.val (k0_off14_eq k), row_mem 0 k.val (k0_off5_eq k)]
  omega

theorem words_cover (a0 a1 a2 a3 : FVec F S160x128 .f32) (y : S4x100x8.Idx) :
    (∃ p ∈ wordPieces arg2 X2 k a0 a1 a2 a3, y ∈ p.1.set) ↔ (y 1).val = k.val ∧ (y 2).val < 4 := by
  have hy : (y 0).val < 4 := (y 0).isLt
  simp only [List.mem_cons, List.not_mem_nil, or_false, exists_eq_or_imp, exists_eq_left]
  rw [word_mem 3 k.val 3 (k0_off36_eq k), word_mem 3 k.val 2 (k0_off35_eq k), word_mem 3 k.val 1 (k0_off34_eq k), word_mem 3 k.val 0 (k0_off33_eq k), word_mem 2 k.val 3 (k0_off27_eq k), word_mem 2 k.val 2 (k0_off26_eq k), word_mem 2 k.val 1 (k0_off25_eq k), word_mem 2 k.val 0 (k0_off24_eq k), word_mem 1 k.val 3 (k0_off18_eq k), word_mem 1 k.val 2 (k0_off17_eq k), word_mem 1 k.val 1 (k0_off16_eq k), word_mem 1 k.val 0 (k0_off15_eq k), word_mem 0 k.val 3 (k0_off9_eq k), word_mem 0 k.val 2 (k0_off8_eq k), word_mem 0 k.val 1 (k0_off7_eq k), word_mem 0 k.val 0 (k0_off6_eq k)]
  constructor
  · rintro (h | h | h | h | h | h | h | h | h | h | h | h | h | h | h | h) <;> omega
  · rintro ⟨h1, h2⟩
    have c0 : (y 0).val = 0 ∨ (y 0).val = 1 ∨ (y 0).val = 2 ∨ (y 0).val = 3 := by omega
    have c2 : (y 2).val = 0 ∨ (y 2).val = 1 ∨ (y 2).val = 2 ∨ (y 2).val = 3 := by omega
    rcases c0 with e | e | e | e <;> rcases c2 with e' | e' | e' | e' <;> simp [e, e', h1]
end

section
variable (arg1 : Memref sig .tc .vmem S4x5x160x128 .f32) (arg2 : Memref sig .tc .vmem S4x4x2560x8 .f32)
    (arg7 : Memref sig .tc .vmem S4x160x128 .f32) (X1 : BufTy.Contents (Elt F) arg1.view.ty) (X2 : BufTy.Contents (Elt F) arg2.view.ty)
    (X7 : BufTy.Contents (Elt F) arg7.view.ty)

/-- The four fields a carried value is made of. -/
def start (init : Carry F) : Fin 4 → FVec F S160x128 .f32 := ![init.1, init.2.1, init.2.2.1, init.2.2.2]

/-- The scores of image `b` before trip `k`. -/
def field (A : Fin 4 → FVec F S160x128 .f32) : ℕ → Fin 4 → FVec F S160x128 .f32
  | 0 => A
  | k + 1 => fun b => next arg1 arg2 arg7 X1 X2 X7 b (field A k b)

/-- The carried value before trip `k`. -/
def carried (A : Fin 4 → FVec F S160x128 .f32) (k : ℕ) : Carry F :=
  (field arg1 arg2 arg7 X1 X2 X7 A k 0, field arg1 arg2 arg7 X1 X2 X7 A k 1, field arg1 arg2 arg7 X1 X2 X7 A k 2,
    field arg1 arg2 arg7 X1 X2 X7 A k 3)

/-- The lines of the result before trip `k` are written. -/
def RowsDone (arg5 : Memref sig .tc .vmem S4x100x5 .f32) (A : Fin 4 → FVec F S160x128 .f32) (k : ℕ)
    (f5 : BufTy.Contents (Elt F) arg5.view.ty) : Prop :=
  ∀ y : S4x100x5.Idx, (y 1).val < k → arg5.view.read (Elt F) f5 y = rowAt arg2 X2 (field arg1 arg2 arg7 X1 X2 X7 A (y 1).val) y
/-- The words before trip `k` are written. -/
def WordsDone (arg6 : Memref sig .tc .smem S4x100x8 .f32) (A : Fin 4 → FVec F S160x128 .f32) (k : ℕ)
    (f6 : BufTy.Contents (Elt F) arg6.view.ty) : Prop :=
  ∀ y : S4x100x8.Idx, (y 1).val < k → (y 2).val < 4 →
    arg6.view.read (Elt F) f6 y = wordAt arg2 X2 (field arg1 arg2 arg7 X1 X2 X7 A (y 1).val) y

theorem RowsDone.succ {arg5 : Memref sig .tc .vmem S4x100x5 .f32} {A : Fin 4 → FVec F S160x128 .f32} {k : Fin k0_t1_loop.trips}
    {f5 : BufTy.Contents (Elt F) arg5.view.ty} (h : RowsDone arg1 arg2 arg7 X1 X2 X7 arg5 A k.val f5) :
    RowsDone arg1 arg2 arg7 X1 X2 X7 arg5 A (k.val + 1) (arg5.view.writes (Elt F) f5
      (rowPieces arg2 X2 k (field arg1 arg2 arg7 X1 X2 X7 A k.val 0) (field arg1 arg2 arg7 X1 X2 X7 A k.val 1)
        (field arg1 arg2 arg7 X1 X2 X7 A k.val 2) (field arg1 arg2 arg7 X1 X2 X7 A k.val 3))) := by
  intro y hy
  by_cases hk : (y 1).val = k.val
  · rw [hk]
    exact View.read_writes_apply_of_pieces _ _ (rowAt arg2 X2 (field arg1 arg2 arg7 X1 X2 X7 A k.val)) _
      (rows_pieces arg2 X2 k _) y ((rows_cover arg2 X2 k _ _ _ _ y).2 hk)
  · rw [View.read_writes_apply_of_forall_not_mem _ _ y _ fun p hp hm => hk ((rows_cover arg2 X2 k _ _ _ _ y).1 ⟨p, hp, hm⟩)]
    exact h y (by omega)

theorem WordsDone.succ {arg6 : Memref sig .tc .smem S4x100x8 .f32} {A : Fin 4 → FVec F S160x128 .f32} {k : Fin k0_t1_loop.trips}
    {f6 : BufTy.Contents (Elt F) arg6.view.ty} (h : WordsDone arg1 arg2 arg7 X1 X2 X7 arg6 A k.val f6) :
    WordsDone arg1 arg2 arg7 X1 X2 X7 arg6 A (k.val + 1) (arg6.view.writes (Elt F) f6
      (wordPieces arg2 X2 k (field arg1 arg2 arg7 X1 X2 X7 A k.val 0) (field arg1 arg2 arg7 X1 X2 X7 A k.val 1)
        (field arg1 arg2 arg7 X1 X2 X7 A k.val 2) (field arg1 arg2 arg7 X1 X2 X7 A k.val 3))) := by
  intro y hy hq
  by_cases hk : (y 1).val = k.val
  · rw [hk]
    exact View.read_writes_apply_of_pieces _ _ (wordAt arg2 X2 (field arg1 arg2 arg7 X1 X2 X7 A k.val)) _
      (words_pieces arg2 X2 k _) y ((words_cover arg2 X2 k _ _ _ _ y).2 ⟨hk, hq⟩)
  · rw [View.read_writes_apply_of_forall_not_mem _ _ y _ fun p hp hm => hk ((words_cover arg2 X2 k _ _ _ _ y).1 ⟨p, hp, hm⟩).1]
    exact h y (by omega) hq
end

section
variable (arg1 : Memref sig .tc .vmem S4x5x160x128 .f32) (arg2 : Memref sig .tc .vmem S4x4x2560x8 .f32)
    (arg7 : Memref sig .tc .vmem S4x160x128 .f32) (X1 : BufTy.Contents (Elt F) arg1.view.ty) (X2 : BufTy.Contents (Elt F) arg2.view.ty)
    (X7 : BufTy.Contents (Elt F) arg7.view.ty) (A : Fin 4 → FVec F S160x128 .f32)

/-- The rows written before trip `k`, the last first. -/
def rowsUpto : ℕ → List (View.Piece (Elt F) S4x100x5 .f32)
  | 0 => []
  | k + 1 => if h : k < k0_t1_loop.trips then
      rowPieces arg2 X2 ⟨k, h⟩ (field arg1 arg2 arg7 X1 X2 X7 A k 0) (field arg1 arg2 arg7 X1 X2 X7 A k 1)
        (field arg1 arg2 arg7 X1 X2 X7 A k 2) (field arg1 arg2 arg7 X1 X2 X7 A k 3) ++ rowsUpto k
    else rowsUpto k
/-- The words left before trip `k`, the last first. -/
def wordsUpto : ℕ → List (View.Piece (Elt F) S4x100x8 .f32)
  | 0 => []
  | k + 1 => if h : k < k0_t1_loop.trips then
      wordPieces arg2 X2 ⟨k, h⟩ (field arg1 arg2 arg7 X1 X2 X7 A k 0) (field arg1 arg2 arg7 X1 X2 X7 A k 1)
        (field arg1 arg2 arg7 X1 X2 X7 A k 2) (field arg1 arg2 arg7 X1 X2 X7 A k 3) ++ wordsUpto k
    else wordsUpto k

theorem rowsUpto_succ (k : Fin k0_t1_loop.trips) : rowsUpto arg1 arg2 arg7 X1 X2 X7 A (k.val + 1) =
    rowPieces arg2 X2 k (field arg1 arg2 arg7 X1 X2 X7 A k.val 0) (field arg1 arg2 arg7 X1 X2 X7 A k.val 1)
        (field arg1 arg2 arg7 X1 X2 X7 A k.val 2) (field arg1 arg2 arg7 X1 X2 X7 A k.val 3) ++ rowsUpto arg1 arg2 arg7 X1 X2 X7 A k.val := by
  rw [rowsUpto, dif_pos k.isLt]
theorem wordsUpto_succ (k : Fin k0_t1_loop.trips) : wordsUpto arg1 arg2 arg7 X1 X2 X7 A (k.val + 1) =
    wordPieces arg2 X2 k (field arg1 arg2 arg7 X1 X2 X7 A k.val 0) (field arg1 arg2 arg7 X1 X2 X7 A k.val 1)
        (field arg1 arg2 arg7 X1 X2 X7 A k.val 2) (field arg1 arg2 arg7 X1 X2 X7 A k.val 3) ++ wordsUpto arg1 arg2 arg7 X1 X2 X7 A k.val := by
  rw [wordsUpto, dif_pos k.isLt]

/-- After `k` trips the rows of these trips are written. -/
theorem rowsDone (arg5 : Memref sig .tc .vmem S4x100x5 .f32) (g : BufTy.Contents (Elt F) arg5.view.ty) :
    ∀ k, k ≤ k0_t1_loop.trips → RowsDone arg1 arg2 arg7 X1 X2 X7 arg5 A k (arg5.view.writes (Elt F) g (rowsUpto arg1 arg2 arg7 X1 X2 X7 A k))
  | 0, _ => fun y hy => absurd hy (Nat.not_lt_zero _)
  | k + 1, hk => by
    have h := (rowsDone arg5 g k (by omega)).succ (k := ⟨k, hk⟩)
    rw [← View.writes_append, ← rowsUpto_succ] at h
    exact h
/-- After `k` trips the words of these trips are left. -/
theorem wordsDone (arg6 : Memref sig .tc .smem S4x100x8 .f32) (g : BufTy.Contents (Elt F) arg6.view.ty) :
    ∀ k, k ≤ k0_t1_loop.trips → WordsDone arg1 arg2 arg7 X1 X2 X7 arg6 A k (arg6.view.writes (Elt F) g (wordsUpto arg1 arg2 arg7 X1 X2 X7 A k))
  | 0, _ => fun y hy => absurd hy (Nat.not_lt_zero _)
  | k + 1, hk => by
    have h := (wordsDone arg6 g k (by omega)).succ (k := ⟨k, hk⟩)
    rw [← View.writes_append, ← wordsUpto_succ] at h
    exact h
end

/-- The invariant of the selection loop. -/
@[sl_loop, implicit_reducible] noncomputable def loopInv_k0_t1 (𝒱 : Variants) (c : Dev nD) (bd : Option 𝒱.V) (E : Set ℕ) (i : grid0.Coords) (arg1 : Memref sig .tc .vmem S4x5x160x128 .f32) (harg1 : arg1.IsWhole) (arg2 : Memref sig .tc .vmem S4x4x2560x8 .f32) (harg2 : arg2.IsWhole) (arg3 : Memref sig .tc .vmem S4x3x512x512 .bf16) (harg3 : arg3.IsWhole) (arg4 : Memref sig .tc .vmem S4x3x100x24x24 .f32) (harg4 : arg4.IsWhole) (arg5 : Memref sig .tc .vmem S4x100x5 .f32) (harg5 : arg5.IsWhole) (arg6 : Memref sig .tc .smem S4x100x8 .f32) (harg6 : arg6.IsWhole) (arg7 : Memref sig .tc .vmem S4x160x128 .f32) (harg7 : arg7.IsWhole) (v51 : FVec F S160x128 .f32) (init : Carry F)
    (X1 : BufTy.Contents (Elt F) arg1.view.ty) (X2 : BufTy.Contents (Elt F) arg2.view.ty) (X7 : BufTy.Contents (Elt F) arg7.view.ty)
    (G5 : BufTy.Contents (Elt F) arg5.view.ty) (G6 : BufTy.Contents (Elt F) arg6.view.ty) :
    Cert.KernelIdeal.Gen.LoopInvTy_k0_t1 (F := F) Unit ℕ (UR sig nD τ) ℕ 𝒱 c bd E i arg1 harg1 arg2 harg2 arg3 harg3 arg4 harg4 arg5 harg5 arg6 harg6 arg7 harg7 k0_pay732 rowOf8 laneOf8 slotOf8 v51 init where
  inv := fun k acc => iprop((arg1.view.loc (c : Thread nD τ) ↦[arg1.view.set]{fullShare} X1) ∗ (arg2.view.loc (c : Thread nD τ) ↦[arg2.view.set]{fullShare} X2)
    ∗ (arg7.view.loc (c : Thread nD τ) ↦[arg7.view.set]{fullShare} X7)
    ∗ (∃ f5, (arg5.view.loc (c : Thread nD τ) ↦[arg5.view.set]{fullShare} f5) ∗ ⌜f5 = arg5.view.writes (Elt F) G5 (rowsUpto arg1 arg2 arg7 X1 X2 X7 (start init) k)⌝)
    ∗ (∃ f6, (arg6.view.loc (c : Thread nD τ) ↦[arg6.view.set]{fullShare} f6) ∗ ⌜f6 = arg6.view.writes (Elt F) G6 (wordsUpto arg1 arg2 arg7 X1 X2 X7 (start init) k)⌝)
    ∗ ⌜acc = carried arg1 arg2 arg7 X1 X2 X7 (start init) k⌝)
  step := fun k acc => by
    iintro ⟨H1, H2, H7, ⟨%f5, W5, %h5⟩, ⟨%f6, W6, %h6⟩, %hacc⟩
    subst hacc
    iapply (wp_wand_r Idealize.ShloMosaic.frame (wpE (defs₀ (F := F)) 𝒱 (c : Thread nD τ) bd) E)
    isplitl [H1 H2 H7 W5 W6]
    · iapply ((tripSel (F := F) 𝒱 c bd i arg1 harg1 arg2 harg2 arg3 harg3 arg4 harg4 arg5 harg5 arg6 harg6 arg7 harg7 v51 X1 X2 X7 k (field arg1 arg2 arg7 X1 X2 X7 (start init) k.val 0)
        (field arg1 arg2 arg7 X1 X2 X7 (start init) k.val 1) (field arg1 arg2 arg7 X1 X2 X7 (start init) k.val 2)
        (field arg1 arg2 arg7 X1 X2 X7 (start init) k.val 3)).2 E f5 f6)
      isplitl [H1]; · iexact H1
      isplitl [H2]; · iexact H2
      isplitl [H7]; · iexact H7
      isplitl [W5]; · iexact W5
      iexact W6
    · iintro %yld ⟨%hy, H1, H2, H7, W5, W6⟩
      isplitl [H1]; · iexact H1
      isplitl [H2]; · iexact H2
      isplitl [H7]; · iexact H7
      isplitl [W5]
      · iexists _; isplitl [W5]; · iexact W5
        ipureintro; rw [tripSel_rows, rowsUpto_succ, View.writes_append, h5]
      isplitl [W6]
      · iexists _; isplitl [W6]; · iexact W6
        ipureintro; rw [tripSel_words, wordsUpto_succ, View.writes_append, h6]
      ipureintro; rw [hy, tripSel_carry]; rfl

end Cert.Proof.KernelIdeal
end
-- ==== Proof.K.Crops.lean ====
module

public import proofs.«01_k».proof.Proof.Gen.KernelIdeal.Loops

/-! One trip of the crop loop, written once for the ten boxes, the four images and the three colours: the rows and columns
sampled, their hat weights, the two products, and the twenty-four by twenty-four block each piece stores. -/

@[expose] public section

set_option maxRecDepth 65536
set_option maxHeartbeats 40000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The twenty-four sample places along one side of a box from `lo` to `hi`, not below zero. -/
def places (v75 : FVec F S24x1 .f32) (lo hi : F .f32) : FVec F S24x1 .f32 :=
  maximumf
    (addf (broadcast S24x1 (Scalar.sitofp (F := F) .f32 (Scalar.subi (Scalar.fptosi (F := F) 32 lo) 1#32)))
      (divf (mulf v75 (broadcast S24x1 (Scalar.sitofp (F := F) .f32 (Scalar.subi (Scalar.fptosi (F := F) 32 hi) (Scalar.fptosi (F := F) 32 lo)))))
        (broadcast S24x1 (Scalar.ofBits (F := F) .f32 0x41C00000#32))))
    (broadcast S24x1 (Scalar.ofBits (F := F) .f32 0x00000000#32))

/-- Ten columns of places, one under the other. -/
def stack (col : Fin 10 → FVec F S24x1 .f32) : FVec F S240x1 .f32 :=
  concatenate S240x1 0 [⟨S24x1, col 0⟩, ⟨S24x1, col 1⟩, ⟨S24x1, col 2⟩, ⟨S24x1, col 3⟩, ⟨S24x1, col 4⟩, ⟨S24x1, col 5⟩, ⟨S24x1, col 6⟩, ⟨S24x1, col 7⟩, ⟨S24x1, col 8⟩, ⟨S24x1, col 9⟩]
    concatenates_S24x1_S24x1_S24x1_S24x1_S24x1_S24x1_S24x1_S24x1_S24x1_S24x1_S240x1_d0

/-- The hat weight of every place against every line of the image. -/
def hats (v77 : FVec F S240x512 .f32) (col : Fin 10 → FVec F S24x1 .f32) : FVec F S240x512 .bf16 :=
  truncf .bf16
    (maximumf
      (subf (broadcast S240x512 (Scalar.ofBits (F := F) .f32 0x3F800000#32))
        (absf (subf v77 (broadcastTo S240x512 (stack col) broadcasts_S240x1_S240x512))))
      (broadcast S240x512 (Scalar.ofBits (F := F) .f32 0x00000000#32)))
    bitsLt_bf16_f32

/-- The image weighted along its columns. -/
def across (im : Vec F S1x1x512x512 .bf16) (w : FVec F S240x512 .bf16) : FVec F S512x240 .bf16 :=
  truncf .bf16
    (matmul dot_S512x512_S240x512_S512x240_1_1_0_0_n_n none (shapeCast S512x512 im shapeCasts_S1x1x512x512_S512x512) w
      (constant S512x240 .f32 0x00000000#32))
    bitsLt_bf16_f32

/-- And along its rows. -/
def both (w : FVec F S240x512 .bf16) (p : FVec F S512x240 .bf16) : FVec F S240x240 .f32 :=
  matmul dot_S240x512_S512x240_S240x240_1_0_0_1_n_n none w p (constant S240x240 .f32 0x00000000#32)

theorem slice_at (g : Fin 10) : S240x240.Slices ![24 * g.val, 24 * g.val] S24x24 :=
  match g with
  | 0 => slices_S240x240_o0_0_S24x24
  | 1 => slices_S240x240_o24_24_S24x24
  | 2 => slices_S240x240_o48_48_S24x24
  | 3 => slices_S240x240_o72_72_S24x24
  | 4 => slices_S240x240_o96_96_S24x24
  | 5 => slices_S240x240_o120_120_S24x24
  | 6 => slices_S240x240_o144_144_S24x24
  | 7 => slices_S240x240_o168_168_S24x24
  | 8 => slices_S240x240_o192_192_S24x24
  | 9 => slices_S240x240_o216_216_S24x24

/-- The block of box `g`, on the diagonal of the product. -/
def cropBlock (m : FVec F S240x240 .f32) (g : Fin 10) : FVec F S1x1x1x24x24 .f32 :=
  shapeCast S1x1x1x24x24
    (shapeCast S1x24x24 (extractStridedSlice S24x24 ![24 * g.val, 24 * g.val] m (slice_at g)) shapeCasts_S24x24_S1x24x24)
    shapeCasts_S1x24x24_S1x1x1x24x24

/-- Box `g` of trip `k`, as the body counts. -/
abbrev boxNo (k : Fin k0_t2_loop.trips) (g : BitVec 32) : ℕ :=
  (Scalar.indexCast (Scalar.addi (Scalar.muli (Scf.iv 0#32 1#32 k) 10#32) g)).toNat

theorem boxNo_eq (k : Fin k0_t2_loop.trips) (g : Fin 10) : boxNo k (BitVec.ofNat 32 g.val) = 10 * k.val + g.val :=
  congrFun (k0_off37_eq k g) 1

theorem boxNo_lt (k : Fin k0_t2_loop.trips) (g : Fin 10) : boxNo k (BitVec.ofNat 32 g.val) < 100 := by
  have hk : k.val < 10 := Nat.lt_of_lt_of_le k.isLt k0_t2_abs.2.1
  rw [boxNo_eq]; omega

theorem word_inb (k : Fin k0_t2_loop.trips) (b q : Fin 4) (g : Fin 10) :
    ∀ a, ![b.val, boxNo k (BitVec.ofNat 32 g.val), q.val] a + S1x1x1.size a ≤ S4x100x8.size a := by
  have h := boxNo_lt k g
  have hb := b.isLt
  have hq := q.isLt
  intro a
  match a with
  | 0 => show b.val + 1 ≤ 4; omega
  | 1 => show boxNo k (BitVec.ofNat 32 g.val) + 1 ≤ 100; omega
  | 2 => show q.val + 1 ≤ 8; omega

theorem crop_inb (k : Fin k0_t2_loop.trips) (b : Fin 4) (c : Fin 3) (g : Fin 10) :
    ∀ a, ![b.val, c.val, boxNo k (BitVec.ofNat 32 g.val), 0, 0] a + S1x1x1x24x24.size a ≤ S4x3x100x24x24.size a := by
  have h := boxNo_lt k g
  have hb := b.isLt
  have hc := c.isLt
  intro a
  match a with
  | 0 => show b.val + 1 ≤ 4; omega
  | 1 => show c.val + 1 ≤ 3; omega
  | 2 => show boxNo k (BitVec.ofNat 32 g.val) + 1 ≤ 100; omega
  | 3 => show 0 + 24 ≤ 24; omega
  | 4 => show 0 + 24 ≤ 24; omega

theorem image_inb (b : Fin 4) (c : Fin 3) : ∀ a, ![b.val, c.val, 0, 0] a + S1x1x512x512.size a ≤ S4x3x512x512.size a := by
  have hb := b.isLt
  have hc := c.isLt
  intro a
  match a with
  | 0 => show b.val + 1 ≤ 4; omega
  | 1 => show c.val + 1 ≤ 3; omega
  | 2 => show 0 + 512 ≤ 512; omega
  | 3 => show 0 + 512 ≤ 512; omega

/-- Word `q` left for box `g` of trip `k` in image `b`. -/
def word (arg6 : Memref sig .tc .smem S4x100x8 .f32) (X6 : BufTy.Contents (Elt F) arg6.view.ty) (k : Fin k0_t2_loop.trips)
    (b q : Fin 4) (g : Fin 10) : F .f32 :=
  View.readAt (Elt F) arg6.view
    (Rect.unit (s := S4x100x8) ![b.val, boxNo k (BitVec.ofNat 32 g.val), q.val] S1x1x1.size (word_inb k b q g)).toLoadRect X6
    (Shape.Idx.first (numel1_S1x1x1.symm ▸ Nat.one_pos))

/-- Colour `c` of image `b`. -/
def image (arg3 : Memref sig .tc .vmem S4x3x512x512 .bf16) (X3 : BufTy.Contents (Elt F) arg3.view.ty) (b : Fin 4) (c : Fin 3) :
    Vec F S1x1x512x512 .bf16 :=
  View.readAt (Elt F) arg3.view
    (Rect.unit (s := S4x3x512x512) ![b.val, c.val, 0, 0] S1x1x512x512.size (image_inb b c)).toLoadRect X3

/-- The block stored for box `g` of colour `c` of image `b`, from an image and the words of the ten boxes. -/
def cropOf (v75 : FVec F S24x1 .f32) (v77 : FVec F S240x512 .f32) (im : Vec F S1x1x512x512 .bf16)
    (w : Fin 4 → Fin 10 → F .f32) (g : Fin 10) : FVec F S1x1x1x24x24 .f32 :=
  cropBlock (both (hats v77 fun n => places v75 (w 1 n) (w 3 n))
    (across im (hats k0_pay1 fun n => places v75 (w 0 n) (w 2 n)))) g

/-- One stored piece. -/
def cropPiece (arg3 : Memref sig .tc .vmem S4x3x512x512 .bf16) (arg6 : Memref sig .tc .smem S4x100x8 .f32)
    (v75 : FVec F S24x1 .f32) (v77 : FVec F S240x512 .f32)
    (X3 : BufTy.Contents (Elt F) arg3.view.ty) (X6 : BufTy.Contents (Elt F) arg6.view.ty) (k : Fin k0_t2_loop.trips)
    (b : Fin 4) (c : Fin 3) (g : Fin 10) : View.Piece (Elt F) S4x3x100x24x24 .f32 :=
  ⟨Rect.unit (s := S4x3x100x24x24) ![b.val, c.val, boxNo k (BitVec.ofNat 32 g.val), 0, 0] S1x1x1x24x24.size (crop_inb k b c g),
    cropOf v75 v77 (image arg3 X3 b c) (fun q n => word arg6 X6 k b q n) g⟩

/-- All the pieces of one trip, the last store first. -/
def cropPieces (arg3 : Memref sig .tc .vmem S4x3x512x512 .bf16) (arg6 : Memref sig .tc .smem S4x100x8 .f32)
    (v75 : FVec F S24x1 .f32) (v77 : FVec F S240x512 .f32)
    (X3 : BufTy.Contents (Elt F) arg3.view.ty) (X6 : BufTy.Contents (Elt F) arg6.view.ty) (k : Fin k0_t2_loop.trips) :
    List (View.Piece (Elt F) S4x3x100x24x24 .f32) :=
  [3, 2, 1, 0].flatMap fun b => [2, 1, 0].flatMap fun c => [9, 8, 7, 6, 5, 4, 3, 2, 1, 0].map fun g =>
    cropPiece arg3 arg6 v75 v77 X3 X6 k b c g

theorem trip_crops (𝒱 : Variants) (c : Dev nD) (bd : Option 𝒱.V) (i : grid0.Coords) (arg1 : Memref sig .tc .vmem S4x5x160x128 .f32) (harg1 : arg1.IsWhole) (arg2 : Memref sig .tc .vmem S4x4x2560x8 .f32) (harg2 : arg2.IsWhole) (arg3 : Memref sig .tc .vmem S4x3x512x512 .bf16) (harg3 : arg3.IsWhole) (arg4 : Memref sig .tc .vmem S4x3x100x24x24 .f32) (harg4 : arg4.IsWhole) (arg5 : Memref sig .tc .vmem S4x100x5 .f32) (harg5 : arg5.IsWhole) (arg6 : Memref sig .tc .smem S4x100x8 .f32) (harg6 : arg6.IsWhole) (arg7 : Memref sig .tc .vmem S4x160x128 .f32) (harg7 : arg7.IsWhole) (v75 : FVec F S24x1 .f32) (v77 : FVec F S240x512 .f32) (X3 : BufTy.Contents (Elt F) arg3.view.ty)
    (X6 : BufTy.Contents (Elt F) arg6.view.ty) (k : Fin k0_t2_loop.trips) :
    (trip_k0_t2 𝒱 c bd i arg1 harg1 arg2 harg2 arg3 harg3 arg4 harg4 arg5 harg5 arg6 harg6 arg7 harg7 v75 v77 X3 X6 k).1 = cropPieces arg3 arg6 v75 v77 X3 X6 k := by
  unfold trip_k0_t2
  rfl

end Cert.Proof.KernelIdeal
-- ==== Proof.K.Spec.lean ====
module

public import proofs.«01_k».proof.Proof.K.Loop
public import proofs.«01_k».proof.Proof.K.Crops
public import Idealize.ShloMosaic.Lib.Pipeline.FrameBody
public import Idealize.ShloMosaic.Lib.Pipeline.Value
public import Idealize.ShloMosaic.Lib.Pointwise.Reshape

/-! What the body computes, as functions of the three blocks it reads: the planes `x1` of the boxes and scores, the same
coordinates `x2` in rows of eight, and the image `x3`. -/

@[expose] public section

set_option maxRecDepth 65536
set_option maxHeartbeats 40000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable (x1 : S4x5x160x128.Idx → F .f32) (x2 : S4x4x2560x8.Idx → F .f32) (x3 : S4x3x512x512.Idx → F .bf16)

/-- Coordinate `q` of all boxes of image `b`. -/
def planeS (b : Fin 4) (q : Fin 5) : FVec F S160x128 .f32 :=
  shapeCast S160x128 (View.ld (Val := Elt F) (e' := .f32) x1 (Rect.unit (s := S4x5x160x128) ![b.val, q.val, 0, 0] S1x1x160x128.size
    (inb_plane b.val q.val b.isLt q.isLt))) shapeCasts_S1x1x160x128_S160x128
/-- Their areas. -/
def areaS (b : Fin 4) : FVec F S160x128 .f32 :=
  mulf (subf (planeS x1 b 2) (planeS x1 b 0)) (subf (planeS x1 b 3) (planeS x1 b 1))

/-- Coordinate `q` of the chosen box. -/
def cornerS (b q : Fin 4) (a : FVec F S160x128 .f32) : F .f32 :=
  pickSum (pick (slotOf a))
    (View.ld (Val := Elt F) (e' := .f32) x2 (Rect.unit (s := S4x4x2560x8) ![b.val, q.val, (k0_mult1 (slotOf a)).toNat, 0] S1x1x8x8.size
      (inb_of (slotOf_lt a) b.val q.val b.isLt q.isLt)))
def keptS (b : Fin 4) (a : FVec F S160x128 .f32) (q : Fin 4) : F .f32 := Scalar.select (valid a) (cornerS x2 b q a) (zeroF (F := F))
/-- A row of the result, from the four coordinates and the score kept. -/
def rowOfKept (k : Fin 4 → F .f32) (s : F .f32) : FVec F S1x1x5 .f32 :=
  shapeCast S1x1x5
    (extractStridedSlice S1x5 ![0, 0]
      (addf (addf (addf (addf (lane 0#32 (k 0)) (lane 1#32 (k 1))) (lane 2#32 (k 2))) (lane 3#32 (k 3))) (lane 4#32 s))
      slices_S1x8_o0_0_S1x5)
    shapeCasts_S1x5_S1x1x5
/-- The scores handed on. -/
def nextS (b : Fin 4) (a : FVec F S160x128 .f32) : FVec F S160x128 .f32 :=
  drop (valid a)
    (Scalar.mulf (Scalar.subf (cornerS x2 b 2 a) (cornerS x2 b 0 a)) (Scalar.subf (cornerS x2 b 3 a) (cornerS x2 b 1 a)))
    (common (cornerS x2 b 0 a) (cornerS x2 b 1 a) (cornerS x2 b 2 a) (cornerS x2 b 3 a)
      (planeS x1 b 0) (planeS x1 b 1) (planeS x1 b 2) (planeS x1 b 3))
    (areaS x1 b) a
/-- The scores of image `b` before trip `k`. -/
def fieldS (b : Fin 4) : ℕ → FVec F S160x128 .f32
  | 0 => planeS x1 b 4
  | k + 1 => nextS x1 x2 b (fieldS b k)

/-- The rows of the result. -/
def rowS (y : S4x100x5.Idx) : F .f32 :=
  rowOfKept (keptS x2 (y 0) (fieldS x1 x2 (y 0) (y 1).val)) (keptScore (fieldS x1 x2 (y 0) (y 1).val)) (ValueIdx.ix3 0 0 (y 2))
/-- The words left for the crops. -/
def wordS (b q : Fin 4) (n : ℕ) : F .f32 := keptS x2 b (fieldS x1 x2 b n) q
/-- One colour of one image. -/
def imageS (b : Fin 4) (c : Fin 3) : Vec F S1x1x512x512 .bf16 :=
  View.ld (Val := Elt F) (e' := .bf16) x3 (Rect.unit (s := S4x3x512x512) ![b.val, c.val, 0, 0] S1x1x512x512.size (image_inb b c))
/-- The crops. -/
def cropS (y : S4x3x100x24x24.Idx) : F .f32 :=
  cropOf k0_pay743 k0_pay744 (imageS x3 (y 0) (y 1)) (fun q n => wordS x1 x2 (y 0) q (10 * ((y 2).val / 10) + n.val))
    ⟨(y 2).val % 10, Nat.mod_lt _ (by decide)⟩ (ValueIdx.ix5 0 0 0 (y 3) (y 4))
end

section
variable (arg1 : Memref sig .tc .vmem S4x5x160x128 .f32) (arg2 : Memref sig .tc .vmem S4x4x2560x8 .f32) (arg3 : Memref sig .tc .vmem S4x3x512x512 .bf16)
    (arg7 : Memref sig .tc .vmem S4x160x128 .f32) (X1 : BufTy.Contents (Elt F) arg1.view.ty) (X2 : BufTy.Contents (Elt F) arg2.view.ty)
    (X3 : BufTy.Contents (Elt F) arg3.view.ty) (X7 : BufTy.Contents (Elt F) arg7.view.ty)

theorem plane_eq (b : Fin 4) (q : Fin 5) : plane arg1 X1 b q = planeS (arg1.view.read (Elt F) X1) b q := rfl
theorem corner_eq (b q : Fin 4) (a : FVec F S160x128 .f32) : corner arg2 X2 b q a = cornerS (arg2.view.read (Elt F) X2) b q a := rfl
theorem kept_eq (b q : Fin 4) (a : FVec F S160x128 .f32) : kept arg2 X2 b a q = keptS (arg2.view.read (Elt F) X2) b a q := rfl
theorem image_eq (b : Fin 4) (c : Fin 3) : image arg3 X3 b c = imageS (arg3.view.read (Elt F) X3) b c := rfl
theorem rowOut_eq (b : Fin 4) (a : FVec F S160x128 .f32) :
    rowOut arg2 X2 b a = rowOfKept (keptS (arg2.view.read (Elt F) X2) b a) (keptScore a) := rfl

/-- The four stores of the areas. -/
def areaPieces : List (View.Piece (Elt F) S4x160x128 .f32) :=
  [⟨Rect.unit (s := S4x160x128) ![3, 0, 0] S1x160x128.size inb_S4x160x128_S1x160x128_3_0_0,
      shapeCast S1x160x128 (areaS (arg1.view.read (Elt F) X1) 3) shapeCasts_S160x128_S1x160x128⟩,
    ⟨Rect.unit (s := S4x160x128) ![2, 0, 0] S1x160x128.size inb_S4x160x128_S1x160x128_2_0_0,
      shapeCast S1x160x128 (areaS (arg1.view.read (Elt F) X1) 2) shapeCasts_S160x128_S1x160x128⟩,
    ⟨Rect.unit (s := S4x160x128) ![1, 0, 0] S1x160x128.size inb_S4x160x128_S1x160x128_1_0_0,
      shapeCast S1x160x128 (areaS (arg1.view.read (Elt F) X1) 1) shapeCasts_S160x128_S1x160x128⟩,
    ⟨Rect.unit (s := S4x160x128) ![0, 0, 0] S1x160x128.size inb_S4x160x128_S1x160x128_0_0_0,
      shapeCast S1x160x128 (areaS (arg1.view.read (Elt F) X1) 0) shapeCasts_S160x128_S1x160x128⟩]

/-- What an area piece holds, place by place. -/
def areaAt (y : S4x160x128.Idx) : F .f32 :=
  shapeCast S1x160x128 (areaS (arg1.view.read (Elt F) X1) (y 0)) shapeCasts_S160x128_S1x160x128 (ValueIdx.ix3 0 (y 1) (y 2))

theorem area_emb (b : Fin 4) {off : Fin 3 → ℕ} (ho : off = ![b.val, 0, 0]) (inb) (x : S1x160x128.Idx) :
    (Rect.unit (s := S4x160x128) off S1x160x128.size inb).emb x = ValueIdx.ix3 b (x 1) (x 2) := by
  subst ho
  have h0 : (x 0).val < 1 := (x 0).isLt
  funext a
  fin_cases a
  · apply Fin.ext; rw [Rect.emb_apply]; show b.val + 1 * (x 0).val = b.val; omega
  · apply Fin.ext; rw [Rect.emb_apply]; show 0 + 1 * (x 1).val = (x 1).val; omega
  · apply Fin.ext; rw [Rect.emb_apply]; show 0 + 1 * (x 2).val = (x 2).val; omega

theorem ix3_one (x : S1x160x128.Idx) : x = ValueIdx.ix3 0 (x 1) (x 2) := by
  have h0 : (x 0).val < 1 := (x 0).isLt
  funext a
  fin_cases a
  · exact Fin.ext (by show (x 0).val = 0; omega)
  · rfl
  · rfl

theorem area_piece (b : Fin 4) {off : Fin 3 → ℕ} (ho : off = ![b.val, 0, 0]) (inb) (x : S1x160x128.Idx) :
    shapeCast S1x160x128 (areaS (arg1.view.read (Elt F) X1) b) shapeCasts_S160x128_S1x160x128 x
      = areaAt arg1 X1 ((Rect.unit (s := S4x160x128) off S1x160x128.size inb).emb x) := by
  rw [area_emb b ho inb x]
  exact congrArg _ (ix3_one x)

theorem areas_pieces : ∀ p ∈ areaPieces arg1 X1, ∀ x, p.2 x = areaAt arg1 X1 (p.1.emb x) := by
  unfold areaPieces
  simp only [List.forall_mem_cons, List.not_mem_nil, false_imp_iff, implies_true, and_true]
  refine ⟨?_, ?_, ?_, ?_⟩
  · exact area_piece arg1 X1 3 rfl _
  · exact area_piece arg1 X1 2 rfl _
  · exact area_piece arg1 X1 1 rfl _
  · exact area_piece arg1 X1 0 rfl _

theorem area_mem (b : ℕ) {off : Fin 3 → ℕ} (ho : off = ![b, 0, 0]) (inb) (y : S4x160x128.Idx) :
    y ∈ (Rect.unit (s := S4x160x128) off S1x160x128.size inb).set ↔ (y 0).val = b := by
  subst ho
  rw [Rect.mem_set_unit]
  have h1 : (y 1).val < 160 := (y 1).isLt
  have h2 : (y 2).val < 128 := (y 2).isLt
  constructor
  · intro h
    have e0 : b ≤ (y 0).val ∧ (y 0).val < b + 1 := h 0
    omega
  · intro e0 a
    fin_cases a
    · show b ≤ (y 0).val ∧ (y 0).val < b + 1
      omega
    · show 0 ≤ (y 1).val ∧ (y 1).val < 0 + 160
      omega
    · show 0 ≤ (y 2).val ∧ (y 2).val < 0 + 128
      omega

theorem areas_cover (y : S4x160x128.Idx) : ∃ p ∈ areaPieces arg1 X1, y ∈ p.1.set := by
  have hy : (y 0).val < 4 := (y 0).isLt
  unfold areaPieces
  simp only [List.mem_cons, List.not_mem_nil, or_false, exists_eq_or_imp, exists_eq_left]
  rw [area_mem 3 rfl, area_mem 2 rfl, area_mem 1 rfl, area_mem 0 rfl]
  omega

theorem areas_read (g : BufTy.Contents (Elt F) arg7.view.ty) (y : S4x160x128.Idx) :
    arg7.view.read (Elt F) (arg7.view.writes (Elt F) g (areaPieces arg1 X1)) y = areaAt arg1 X1 y :=
  View.read_writes_apply_of_pieces _ _ (areaAt arg1 X1) _ (areas_pieces arg1 X1) y (areas_cover arg1 X1 y)

/-- The areas read back are the areas. -/
theorem areas_eq (g : BufTy.Contents (Elt F) arg7.view.ty) (b : Fin 4) :
    areas arg7 (arg7.view.writes (Elt F) g (areaPieces arg1 X1)) b = areaS (arg1.view.read (Elt F) X1) b := by
  have h : View.readAt (Elt F) arg7.view (Rect.unit (s := S4x160x128) ![b.val, 0, 0] S1x160x128.size (inb_area b.val b.isLt)).toLoadRect
      (arg7.view.writes (Elt F) g (areaPieces arg1 X1))
      = shapeCast S1x160x128 (areaS (arg1.view.read (Elt F) X1) b) shapeCasts_S160x128_S1x160x128 := by
    funext x
    refine (areas_read arg1 arg7 X1 g ((Rect.unit (s := S4x160x128) ![b.val, 0, 0] S1x160x128.size (inb_area b.val b.isLt)).emb x)).trans ?_
    exact (area_piece arg1 X1 b rfl _ x).symm
  unfold areas
  rw [h]
  exact shapeCast_shapeCast _ _ _

/-- The scores handed on depend on what is read alone. -/
theorem next_eq (g : BufTy.Contents (Elt F) arg7.view.ty) (b : Fin 4) (a : FVec F S160x128 .f32) :
    next arg1 arg2 arg7 X1 X2 (arg7.view.writes (Elt F) g (areaPieces arg1 X1)) b a
      = nextS (arg1.view.read (Elt F) X1) (arg2.view.read (Elt F) X2) b a := by
  unfold next
  rw [areas_eq]
  rfl

theorem field_eq (g : BufTy.Contents (Elt F) arg7.view.ty) (A : Fin 4 → FVec F S160x128 .f32)
    (hA : ∀ b, A b = planeS (arg1.view.read (Elt F) X1) b 4) (b : Fin 4) : ∀ k,
    field arg1 arg2 arg7 X1 X2 (arg7.view.writes (Elt F) g (areaPieces arg1 X1)) A k b
      = fieldS (arg1.view.read (Elt F) X1) (arg2.view.read (Elt F) X2) b k
  | 0 => hA b
  | k + 1 => by
    show next _ _ _ _ _ _ b (field arg1 arg2 arg7 X1 X2 _ A k b) = _
    rw [field_eq g A hA b k, next_eq]
    rfl

theorem sel_trips : k0_t1_loop.trips = 100 := by decide +kernel
theorem crop_trips : k0_t2_loop.trips = 10 := by decide +kernel

set_option backward.isDefEq.respectTransparency false in
/-- The rows read back after the selection. -/
theorem rows_read (g : BufTy.Contents (Elt F) arg7.view.ty) (A : Fin 4 → FVec F S160x128 .f32)
    (hA : ∀ b, A b = planeS (arg1.view.read (Elt F) X1) b 4) (arg5 : Memref sig .tc .vmem S4x100x5 .f32)
    (g5 : BufTy.Contents (Elt F) arg5.view.ty) :
    arg5.view.read (Elt F) (arg5.view.writes (Elt F) g5
      (rowsUpto arg1 arg2 arg7 X1 X2 (arg7.view.writes (Elt F) g (areaPieces arg1 X1)) A k0_t1_loop.trips))
      = rowS (arg1.view.read (Elt F) X1) (arg2.view.read (Elt F) X2) := by
  funext y
  have hy : (y 1).val < 100 := (y 1).isLt
  rw [rowsDone arg1 arg2 arg7 X1 X2 _ A arg5 g5 k0_t1_loop.trips le_rfl y (by rw [sel_trips]; exact hy)]
  unfold rowAt
  rw [field_eq arg1 arg2 arg7 X1 X2 g A hA, rowOut_eq]
  rfl

set_option backward.isDefEq.respectTransparency false in
/-- The words read back after the selection. -/
theorem words_read (g : BufTy.Contents (Elt F) arg7.view.ty) (A : Fin 4 → FVec F S160x128 .f32)
    (hA : ∀ b, A b = planeS (arg1.view.read (Elt F) X1) b 4) (arg6 : Memref sig .tc .smem S4x100x8 .f32)
    (g6 : BufTy.Contents (Elt F) arg6.view.ty) (k : Fin k0_t2_loop.trips) (b q : Fin 4) (n : Fin 10) :
    word arg6 (arg6.view.writes (Elt F) g6
      (wordsUpto arg1 arg2 arg7 X1 X2 (arg7.view.writes (Elt F) g (areaPieces arg1 X1)) A k0_t1_loop.trips)) k b q n
      = wordS (arg1.view.read (Elt F) X1) (arg2.view.read (Elt F) X2) b q (10 * k.val + n.val) := by
  have hb := boxNo_eq k n
  have hlt := boxNo_lt k n
  have e := word_emb b.val (boxNo k (BitVec.ofNat 32 n.val)) q.val rfl (word_inb k b q n)
    (Shape.Idx.first (numel1_S1x1x1.symm ▸ Nat.one_pos))
  unfold word
  rw [View.readAt_apply]
  show arg6.view.read (Elt F) _ ((Rect.unit (s := S4x100x8) ![b.val, boxNo k (BitVec.ofNat 32 n.val), q.val] S1x1x1.size
    (word_inb k b q n)).emb _) = _
  generalize (Rect.unit (s := S4x100x8) ![b.val, boxNo k (BitVec.ofNat 32 n.val), q.val] S1x1x1.size
    (word_inb k b q n)).emb (Shape.Idx.first (numel1_S1x1x1.symm ▸ Nat.one_pos)) = y at e
  obtain ⟨e0, e1, e2⟩ := e
  have hq := q.isLt
  rw [wordsDone arg1 arg2 arg7 X1 X2 _ A arg6 g6 k0_t1_loop.trips le_rfl y (by rw [sel_trips]; omega) (by omega)]
  unfold wordAt
  rw [dif_pos (by omega), field_eq arg1 arg2 arg7 X1 X2 g A hA, kept_eq, e1, hb]
  have e0' : y 0 = b := Fin.ext e0
  have e2' : (⟨(y 2).val, by omega⟩ : Fin 4) = q := Fin.ext e2
  unfold wordS
  rw [e0', e2']
end

end Cert.Proof.KernelIdeal
-- ==== Proof.K.Read.lean ====
module

public import proofs.«01_k».proof.Proof.K.Spec

/-! The crops read back after the crop loop. -/

@[expose] public section

set_option maxRecDepth 65536
set_option maxHeartbeats 40000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem crop_emb (b : Fin 4) (c : Fin 3) (n : Fin 100) {off : Fin 5 → ℕ} (ho : off = ![b.val, c.val, n.val, 0, 0]) (inb)
    (x : S1x1x1x24x24.Idx) :
    (Rect.unit (s := S4x3x100x24x24) off S1x1x1x24x24.size inb).emb x = ValueIdx.ix5 b c n (x 3) (x 4) := by
  subst ho
  have h0 : (x 0).val < 1 := (x 0).isLt
  have h1 : (x 1).val < 1 := (x 1).isLt
  have h2 : (x 2).val < 1 := (x 2).isLt
  funext a
  fin_cases a
  · apply Fin.ext; rw [Rect.emb_apply]; show b.val + 1 * (x 0).val = b.val; omega
  · apply Fin.ext; rw [Rect.emb_apply]; show c.val + 1 * (x 1).val = c.val; omega
  · apply Fin.ext; rw [Rect.emb_apply]; show n.val + 1 * (x 2).val = n.val; omega
  · apply Fin.ext; rw [Rect.emb_apply]; show 0 + 1 * (x 3).val = (x 3).val; omega
  · apply Fin.ext; rw [Rect.emb_apply]; show 0 + 1 * (x 4).val = (x 4).val; omega

theorem ix5_one (x : S1x1x1x24x24.Idx) : x = ValueIdx.ix5 0 0 0 (x 3) (x 4) := by
  have h0 : (x 0).val < 1 := (x 0).isLt
  have h1 : (x 1).val < 1 := (x 1).isLt
  have h2 : (x 2).val < 1 := (x 2).isLt
  funext a
  fin_cases a
  · exact Fin.ext (by show (x 0).val = 0; omega)
  · exact Fin.ext (by show (x 1).val = 0; omega)
  · exact Fin.ext (by show (x 2).val = 0; omega)
  · rfl
  · rfl

theorem crop_mem (b c n : ℕ) {off : Fin 5 → ℕ} (ho : off = ![b, c, n, 0, 0]) (inb) (y : S4x3x100x24x24.Idx) :
    y ∈ (Rect.unit (s := S4x3x100x24x24) off S1x1x1x24x24.size inb).set ↔ (y 0).val = b ∧ (y 1).val = c ∧ (y 2).val = n := by
  subst ho
  rw [Rect.mem_set_unit]
  have h3 : (y 3).val < 24 := (y 3).isLt
  have h4 : (y 4).val < 24 := (y 4).isLt
  constructor
  · intro h
    have e0 : b ≤ (y 0).val ∧ (y 0).val < b + 1 := h 0
    have e1 : c ≤ (y 1).val ∧ (y 1).val < c + 1 := h 1
    have e2 : n ≤ (y 2).val ∧ (y 2).val < n + 1 := h 2
    omega
  · rintro ⟨e0, e1, e2⟩ a
    fin_cases a
    · show b ≤ (y 0).val ∧ (y 0).val < b + 1
      omega
    · show c ≤ (y 1).val ∧ (y 1).val < c + 1
      omega
    · show n ≤ (y 2).val ∧ (y 2).val < n + 1
      omega
    · show 0 ≤ (y 3).val ∧ (y 3).val < 0 + 24
      omega
    · show 0 ≤ (y 4).val ∧ (y 4).val < 0 + 24
      omega

section
variable (x1 : S4x5x160x128.Idx → F .f32) (x2 : S4x4x2560x8.Idx → F .f32)
    (arg3 : Memref sig .tc .vmem S4x3x512x512 .bf16) (arg6 : Memref sig .tc .smem S4x100x8 .f32)
    (X3 : BufTy.Contents (Elt F) arg3.view.ty) (X6 : BufTy.Contents (Elt F) arg6.view.ty)

/-- The words held are the words the selection left. -/
def Words : Prop := ∀ (k : Fin k0_t2_loop.trips) (b q : Fin 4) (n : Fin 10), word arg6 X6 k b q n = wordS x1 x2 b q (10 * k.val + n.val)

theorem crop_piece (hw : Words x1 x2 arg6 X6) (k : Fin k0_t2_loop.trips) (b : Fin 4) (c : Fin 3) (g : Fin 10) (x : S1x1x1x24x24.Idx) :
    (cropPiece arg3 arg6 k0_pay743 k0_pay744 X3 X6 k b c g).2 x
      = cropS x1 x2 (arg3.view.read (Elt F) X3) ((cropPiece arg3 arg6 k0_pay743 k0_pay744 X3 X6 k b c g).1.emb x) := by
  have hn := boxNo_eq k g
  have hlt := boxNo_lt k g
  have hg := g.isLt
  show cropOf k0_pay743 k0_pay744 (image arg3 X3 b c) (fun q n => word arg6 X6 k b q n) g x
    = cropS x1 x2 (arg3.view.read (Elt F) X3) ((Rect.unit (s := S4x3x100x24x24) ![b.val, c.val, boxNo k (BitVec.ofNat 32 g.val), 0, 0]
        S1x1x1x24x24.size (crop_inb k b c g)).emb x)
  rw [crop_emb b c ⟨boxNo k (BitVec.ofNat 32 g.val), hlt⟩ rfl]
  have hd : boxNo k (BitVec.ofNat 32 g.val) / 10 = k.val := by omega
  have hm : boxNo k (BitVec.ofNat 32 g.val) % 10 = g.val := by omega
  show _ = cropOf k0_pay743 k0_pay744 (imageS (arg3.view.read (Elt F) X3) b c)
    (fun q n => wordS x1 x2 b q (10 * (boxNo k (BitVec.ofNat 32 g.val) / 10) + n.val))
    ⟨boxNo k (BitVec.ofNat 32 g.val) % 10, Nat.mod_lt _ (by decide)⟩ (ValueIdx.ix5 0 0 0 (x 3) (x 4))
  rw [hd, show (⟨boxNo k (BitVec.ofNat 32 g.val) % 10, Nat.mod_lt _ (by decide)⟩ : Fin 10) = g from Fin.ext hm,
    show (fun q n => word arg6 X6 k b q n) = fun q (n : Fin 10) => wordS x1 x2 b q (10 * k.val + n.val) from
      funext fun q => funext fun n => hw k b q n]
  exact congrArg _ (ix5_one x)

theorem crops_pieces (hw : Words x1 x2 arg6 X6) (k : Fin k0_t2_loop.trips) :
    ∀ p ∈ cropPieces arg3 arg6 k0_pay743 k0_pay744 X3 X6 k, ∀ x, p.2 x = cropS x1 x2 (arg3.view.read (Elt F) X3) (p.1.emb x) := by
  intro p hp
  unfold cropPieces at hp
  obtain ⟨b, -, hp⟩ := List.mem_flatMap.1 hp
  obtain ⟨c, -, hp⟩ := List.mem_flatMap.1 hp
  obtain ⟨g, -, rfl⟩ := List.mem_map.1 hp
  exact crop_piece x1 x2 arg3 arg6 X3 X6 hw k b c g

theorem mem4 (b : Fin 4) : b ∈ ([3, 2, 1, 0] : List (Fin 4)) := by revert b; decide
theorem mem3 (b : Fin 3) : b ∈ ([2, 1, 0] : List (Fin 3)) := by revert b; decide
theorem mem10 (b : Fin 10) : b ∈ ([9, 8, 7, 6, 5, 4, 3, 2, 1, 0] : List (Fin 10)) := by revert b; decide

/-- A trip writes its own ten boxes, whole, and no other. -/
theorem crops_cover (k : Fin k0_t2_loop.trips) (y : S4x3x100x24x24.Idx) :
    (∃ p ∈ cropPieces arg3 arg6 k0_pay743 k0_pay744 X3 X6 k, y ∈ p.1.set) ↔ (y 2).val / 10 = k.val := by
  constructor
  · rintro ⟨p, hp, hy⟩
    unfold cropPieces at hp
    obtain ⟨b, -, hp⟩ := List.mem_flatMap.1 hp
    obtain ⟨c, -, hp⟩ := List.mem_flatMap.1 hp
    obtain ⟨g, -, rfl⟩ := List.mem_map.1 hp
    obtain ⟨-, -, h2⟩ := (crop_mem b.val c.val (boxNo k (BitVec.ofNat 32 g.val)) rfl (crop_inb k b c g) y).1 hy
    have hn := boxNo_eq k g
    have hg := g.isLt
    omega
  · intro h
    have h0 : (y 0).val < 4 := (y 0).isLt
    have h1 : (y 1).val < 3 := (y 1).isLt
    refine ⟨cropPiece arg3 arg6 k0_pay743 k0_pay744 X3 X6 k ⟨(y 0).val, h0⟩ ⟨(y 1).val, h1⟩ ⟨(y 2).val % 10, Nat.mod_lt _ (by decide)⟩, ?_, ?_⟩
    · unfold cropPieces
      exact List.mem_flatMap.2 ⟨_, mem4 _, List.mem_flatMap.2 ⟨_, mem3 _, List.mem_map.2 ⟨_, mem10 _, rfl⟩⟩⟩
    · have hn := boxNo_eq k ⟨(y 2).val % 10, Nat.mod_lt _ (by decide)⟩
      refine (crop_mem (y 0).val (y 1).val _ rfl (crop_inb k ⟨(y 0).val, h0⟩ ⟨(y 1).val, h1⟩ ⟨(y 2).val % 10, Nat.mod_lt _ (by decide)⟩) y).2 ⟨rfl, rfl, ?_⟩
      rw [hn]
      show (y 2).val = 10 * k.val + (y 2).val % 10
      omega
end

section
variable (𝒱 : Variants) (c : Dev nD) (bd : Option 𝒱.V) (i : grid0.Coords) (arg1 : Memref sig .tc .vmem S4x5x160x128 .f32) (harg1 : arg1.IsWhole) (arg2 : Memref sig .tc .vmem S4x4x2560x8 .f32) (harg2 : arg2.IsWhole) (arg3 : Memref sig .tc .vmem S4x3x512x512 .bf16) (harg3 : arg3.IsWhole) (arg4 : Memref sig .tc .vmem S4x3x100x24x24 .f32) (harg4 : arg4.IsWhole) (arg5 : Memref sig .tc .vmem S4x100x5 .f32) (harg5 : arg5.IsWhole) (arg6 : Memref sig .tc .smem S4x100x8 .f32) (harg6 : arg6.IsWhole) (arg7 : Memref sig .tc .vmem S4x160x128 .f32) (harg7 : arg7.IsWhole) (x1 : S4x5x160x128.Idx → F .f32) (x2 : S4x4x2560x8.Idx → F .f32)
    (X3 : BufTy.Contents (Elt F) arg3.view.ty) (X6 : BufTy.Contents (Elt F) arg6.view.ty)

/-- After `k` trips the boxes of these trips are written. -/
theorem cropsDone (hw : Words x1 x2 arg6 X6) (g : BufTy.Contents (Elt F) arg4.view.ty) : ∀ k, k ≤ k0_t2_loop.trips →
    ∀ y : S4x3x100x24x24.Idx, (y 2).val < 10 * k →
      arg4.view.read (Elt F) (arg4.view.writes (Elt F) g (pb_k0_t2 𝒱 c bd i arg1 harg1 arg2 harg2 arg3 harg3 arg4 harg4 arg5 harg5 arg6 harg6 arg7 harg7 k0_pay743 k0_pay744 X3 X6 k)) y
        = cropS x1 x2 (arg3.view.read (Elt F) X3) y
  | 0, _, y, hy => absurd hy (by omega)
  | k + 1, hk, y, hy => by
    rw [pb_k0_t2_succ 𝒱 c bd i arg1 harg1 arg2 harg2 arg3 harg3 arg4 harg4 arg5 harg5 arg6 harg6 arg7 harg7 k0_pay743 k0_pay744 X3 X6 ⟨k, hk⟩, View.writes_append]
    show arg4.view.read (Elt F) (arg4.view.writes (Elt F) _ (trip_k0_t2 𝒱 c bd i arg1 harg1 arg2 harg2 arg3 harg3 arg4 harg4 arg5 harg5 arg6 harg6 arg7 harg7 k0_pay743 k0_pay744 X3 X6 ⟨k, hk⟩).1) y = _
    rw [trip_crops]
    by_cases h : (y 2).val / 10 = k
    · exact View.read_writes_apply_of_pieces _ _ _ _ (crops_pieces x1 x2 arg3 arg6 X3 X6 hw ⟨k, hk⟩) y
        ((crops_cover arg3 arg6 X3 X6 ⟨k, hk⟩ y).2 h)
    · rw [View.read_writes_apply_of_forall_not_mem _ _ y _ fun p hp hm => h ((crops_cover arg3 arg6 X3 X6 ⟨k, hk⟩ y).1 ⟨p, hp, hm⟩)]
      exact cropsDone hw g k (by omega) y (by omega)

/-- The crops read back. -/
theorem crops_read (hw : Words x1 x2 arg6 X6) (g : BufTy.Contents (Elt F) arg4.view.ty) :
    arg4.view.read (Elt F) (arg4.view.writes (Elt F) g (pb_k0_t2 𝒱 c bd i arg1 harg1 arg2 harg2 arg3 harg3 arg4 harg4 arg5 harg5 arg6 harg6 arg7 harg7 k0_pay743 k0_pay744 X3 X6 k0_t2_loop.trips))
      = cropS x1 x2 (arg3.view.read (Elt F) X3) := by
  funext y
  have hy : (y 2).val < 100 := (y 2).isLt
  exact cropsDone 𝒱 c bd i arg1 harg1 arg2 harg2 arg3 harg3 arg4 harg4 arg5 harg5 arg6 harg6 arg7 harg7 x1 x2 X3 X6 hw g _ le_rfl y (by rw [crop_trips]; omega)
end

end Cert.Proof.KernelIdeal
-- ==== Proof.K.Body.lean ====
module

public import proofs.«01_k».proof.Proof.K.Read
public import proofs.«01_k».proof.Proof.Gen.KernelIdeal.Frame
public import proofs.«01_k».proof.Proof.Gen.KernelIdeal.Points
public import Idealize.ShloMosaic.Lib.Tactic

/-! The body run once, from the three blocks it reads to the two it writes. -/

@[expose] public section

set_option maxRecDepth 65536
set_option maxHeartbeats 40000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's triple, for any continuation: the inputs are left as they are, the crops and the rows are written whole. -/
theorem kernelRun (c : Dev nD) (i : grid0.Coords) (arg1 : Memref sig .tc .vmem S4x5x160x128 .f32) (harg1 : arg1.IsWhole) (arg2 : Memref sig .tc .vmem S4x4x2560x8 .f32) (harg2 : arg2.IsWhole) (arg3 : Memref sig .tc .vmem S4x3x512x512 .bf16) (harg3 : arg3.IsWhole) (arg4 : Memref sig .tc .vmem S4x3x100x24x24 .f32) (harg4 : arg4.IsWhole) (arg5 : Memref sig .tc .vmem S4x100x5 .f32) (harg5 : arg5.IsWhole) (arg6 : Memref sig .tc .smem S4x100x8 .f32) (harg6 : arg6.IsWhole) (arg7 : Memref sig .tc .vmem S4x160x128 .f32) (harg7 : arg7.IsWhole)
    (x1 : S4x5x160x128.Idx → F .f32) (x2 : S4x4x2560x8.Idx → F .f32) (x3 : S4x3x512x512.Idx → F .bf16) (K : PUnit → sProp 𝕄) :
    iprop(owns (c : Thread nD τ) arg1 fullShare x1 ∗ owns (c : Thread nD τ) arg2 fullShare x2 ∗ owns (c : Thread nD τ) arg3 fullShare x3
      ∗ (∃ d, owns (c : Thread nD τ) arg4 fullShare d) ∗ (∃ d, owns (c : Thread nD τ) arg5 fullShare d)
      ∗ (∃ d, owns (c : Thread nD τ) arg6 fullShare d) ∗ (∃ d, owns (c : Thread nD τ) arg7 fullShare d)
      ∗ (iprop(owns (c : Thread nD τ) arg1 fullShare x1 ∗ owns (c : Thread nD τ) arg2 fullShare x2 ∗ owns (c : Thread nD τ) arg3 fullShare x3
          ∗ owns (c : Thread nD τ) arg4 fullShare (cropS x1 x2 x3) ∗ owns (c : Thread nD τ) arg5 fullShare (rowS x1 x2)
          ∗ (∃ d, owns (c : Thread nD τ) arg6 fullShare d) ∗ (∃ d, owns (c : Thread nD τ) arg7 fullShare d)) -∗ K ⟨⟩))
      ⊢ wp frame (wpE (defs₀ (F := F)) Variants.none c none) Set.univ (cc0__body i arg1 harg1 arg2 harg2 arg3 harg3 arg4 harg4 arg5 harg5 arg6 harg6 arg7 harg7) K := by
  simp only [cc0__body_eq_skeleton]; unfold cc0__body_skel
  unfold owns
  iintro ⟨⟨%f1, %e1, H1⟩, ⟨%f2, %e2, H2⟩, ⟨%f3, %e3, H3⟩, ⟨%d4, %f4, -, H4⟩, ⟨%d5, %f5, -, H5⟩, ⟨%d6, %f6, -, H6⟩, ⟨%d7, %f7, -, H7⟩, Hk⟩
  subst e1; subst e2; subst e3
  sl_exec
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro
    exact crops_read Variants.none c none i arg1 harg1 arg2 harg2 arg3 harg3 arg4 harg4 arg5 harg5 arg6 harg6 arg7 harg7 _ _ f3 _ (fun k b q n => words_read arg1 arg2 arg7 f1 f2 _ _
      (fun b => match b with | 0 => rfl | 1 => rfl | 2 => rfl | 3 => rfl) arg6 _ k b q n) _
  isplitl [H5]
  · iexists _; isplitr; swap; · iexact H5
    ipureintro
    exact rows_read arg1 arg2 arg7 f1 f2 _ _ (fun b => match b with | 0 => rfl | 1 => rfl | 2 => rfl | 3 => rfl) arg5 _
  isplitl [H6]
  · iexists _, _; isplitr; swap; · iexact H6
    ipureintro; rfl
  · iexists _, _; isplitr; swap; · iexact H7
    ipureintro; rfl

end Cert.Proof.KernelIdeal
-- ==== Proof.K.Run.lean ====
module

public import proofs.«01_k».proof.Proof.K.Body
public import Idealize.ShloMosaic.Lib.Pipeline.Frame
public import Idealize.ShloMosaic.Lib.Pipeline.FrameSuffix
public import Idealize.ShloMosaic.Lib.Pipeline.Value
public import Idealize.ShloMosaic.Lib.Quiescent

/-! The launch: what the region holds before and after its one point, and the run of the whole program. -/

@[expose] public section

set_option maxRecDepth 16384
set_option maxHeartbeats 40000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks the body finds. -/
abbrev blk1 (c : Dev nD) (t : Fin cfg0.N) : S4x5x160x128.Idx → F .f32 := iblk m c 0 t
abbrev blk2 (c : Dev nD) (t : Fin cfg0.N) : S4x4x2560x8.Idx → F .f32 := iblk m c 1 t
abbrev blk3 (c : Dev nD) (t : Fin cfg0.N) : S4x3x512x512.Idx → F .bf16 := iblk m c 2 t

/-- The proof data: the inputs left in place, the crops and the rows written. -/
def dats (_ : Fin 1) (c : Dev nD) : Dat τ (Elt F) Unit ℕ (UR sig nD τ) ℕ cfg0 c where
  A w := V m c (Pipeline.arrRef spec0 w)
  after
    | ⟨0, _⟩ => fun t => iblk m c 0 t
    | ⟨1, _⟩ => fun t => iblk m c 1 t
    | ⟨2, _⟩ => fun t => iblk m c 2 t
    | ⟨3, _⟩ => fun t => cropS (blk1 m c t) (blk2 m c t) (blk3 m c t)
    | ⟨4, _⟩ => fun t => rowS (blk1 m c t) (blk2 m c t)
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d

abbrev ms0 (t : Fin cfg0.N) : Memref sig .tc .vmem S4x5x160x128 .f32 := win0_0.stage (cfg0.slots t 0)
abbrev ms1 (t : Fin cfg0.N) : Memref sig .tc .vmem S4x4x2560x8 .f32 := win0_1.stage (cfg0.slots t 1)
abbrev ms2 (t : Fin cfg0.N) : Memref sig .tc .vmem S4x3x512x512 .bf16 := win0_2.stage (cfg0.slots t 2)
abbrev ms3 (t : Fin cfg0.N) : Memref sig .tc .vmem S4x3x100x24x24 .f32 := win0_3.stage (cfg0.slots t 3)
abbrev ms4 (t : Fin cfg0.N) : Memref sig .tc .vmem S4x100x5 .f32 := win0_4.stage (cfg0.slots t 4)

/-- What the body is called with, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (cropS (blk1 m c t) (blk2 m c t) (blk3 m c t))
    ∗ owns (c : Thread nD τ) (ms4 t) fullShare (rowS (blk1 m c t) (blk2 m c t)))

/-- The invariant between the point's ends: the two scratch buffers at some contents, the generator register at some state. -/
theorem inv_eq (c : Dev nD) :
    (Pipeline.ΦA spec0 c : sProp 𝕄)
      = iprop(iprop((∃ d, owns (c : Thread nD τ) (Memref.whole cc0_scratch1) fullShare d) ∗ (∃ d, owns (c : Thread nD τ) (Memref.whole cc0_scratch0) fullShare d))
          ∗ (∃ r, prngReg c r)) := by
  unfold Pipeline.ΦA
  rw [scopedRest0_eq]; simp only [owns_whole]; try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, inv_eq]
  simp only [before_0, before_1, before_2]
  iintro ⟨⟨⟨Hs1, Hs0⟩, Hg⟩, HO, ⟨%d0, H0⟩, ⟨%d1, H1⟩, ⟨%d2, H2⟩, ⟨%d3, H3⟩, ⟨%d4, H4⟩⟩
  iapply (kernelRun c (grid0.coords t) (ms0 t) _ (ms1 t) _ (ms2 t) _ (ms3 t) _ (ms4 t) _ (Memref.whole cc0_scratch0) _ (Memref.whole cc0_scratch1) _
    (blk1 m c t) (blk2 m c t) (blk3 m c t) _)
  isplitl [H0]; · iexact H0
  isplitl [H1]; · iexact H1
  isplitl [H2]; · iexact H2
  isplitl [H3]; · iexists _; iexact H3
  isplitl [H4]; · iexists _; iexact H4
  isplitl [Hs0]; · iexact Hs0
  isplitl [Hs1]; · iexact Hs1
  iintro ⟨H0, H1, H2, H3, H4, Hs0, Hs1⟩
  isplitl [Hs0 Hs1 Hg]
  · isplitl [Hs0 Hs1]
    · isplitl [Hs1]; · iexact Hs1
      iexact Hs0
    iexact Hg
  isplitl [HO]; · iexact HO
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the program: every core's arrays end as the data say, and every counter at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.Proof.KernelIdeal
-- ==== Proof.V.Prep.lean ====
module

public import proofs.«01_k».proof.Proof.K.Run
public import Idealize.ShloMosaic.Lib.ValueIdxCore
public import Idealize.ShloMosaic.Lib.Pointwise
public import Idealize.ShloMosaic.Lib.Pointwise.Reshape
public import Idealize.ShloMosaic.Lib.StableHlo.RunRead

/-! What the host prepares for the kernel, read element by element: the boxes and scores padded with minus infinity to 160
rows of 128, and the coordinates in rows of eight. -/

@[expose] public section

set_option maxRecDepth 16384
set_option maxHeartbeats 400000

noncomputable section

namespace Cert.Proof.KernelIdeal

open Cert.KernelIdeal Cert.KernelIdeal.Gen
open Idealize.ShloMosaic Idealize.ShloMosaic.TcCoe Idealize.SL.Sem

/-- The boxes and scores as the kernel is handed them. -/
def planesH (R : FVec Ideal S4x20000x5 .f32) : FVec Ideal S4x5x160x128 .f32 :=
  shapeCast S4x5x160x128 (pad S4x5x20480 ![0, 0, 0] ![0, 0, 480] ![0, 0, 0] (transpose S4x5x20000 [0, 2, 1] R transposes_S4x20000x5_S4x5x20000_0_2_1)
    (constant S_ .f32 0xFF800000#32) pads_S4x5x20000_S4x5x20480_000_000_04800 h_S_) shapeCasts_S4x5x20480_S4x5x160x128
/-- The coordinates in rows of eight. -/
def coordsH (R : FVec Ideal S4x20000x5 .f32) : FVec Ideal S4x4x2560x8 .f32 :=
  shapeCast S4x4x2560x8 (pad S4x4x20480 ![0, 0, 0] ![0, 0, 480] ![0, 0, 0] (transpose S4x4x20000 [0, 2, 1]
      (extractStridedSlice S4x20000x4 ![0, 0, 0] R slices_S4x20000x5_S4x20000x4_0_0_0) transposes_S4x20000x4_S4x4x20000_0_2_1)
    (sitofp .f32 (constantI S_ 32 0#32)) pads_S4x4x20000_S4x4x20480_000_000_04800 h_S_) shapeCasts_S4x4x20480_S4x4x2560x8

theorem planesH_at (R : FVec Ideal S4x20000x5 .f32) (b : Fin 4) (q : Fin 5) (r : Fin 160) (l : Fin 128) :
    planesH R (ix4 b q r l) = if h : r.val * 128 + l.val < 20000 then R (ix3 b ⟨r.val * 128 + l.val, h⟩ q) else Ideal.ofBits .f32 0xFF800000#32 := by
  unfold planesH
  pointwise

theorem coordsH_at (R : FVec Ideal S4x20000x5 .f32) (b q : Fin 4) (r : Fin 2560) (l : Fin 8) (h : r.val * 8 + l.val < 20000) :
    coordsH R (ix4 b q r l) = R (ix3 b ⟨r.val * 8 + l.val, h⟩ q.castSucc) := by
  unfold coordsH
  pointwise
  rw [dif_pos h]
  rfl

variable (m : (ℓ : Loc nD τ sig) → Buf (Elt Ideal) ℓ) (c : Dev nD)

abbrev rectsK : FVec Ideal S4x20000x5 .f32 := m ((c.tc : Thread nD τ).loc main_arg0)

theorem planes_eq : V m c main_v2 = planesH (rectsK m c) := by
  show StableHlo.after (hostOps0 ++ hostOps0_1 ++ hostOps0_2 ++ hostOps0_3 ++ hostOps0_4) _ _ = _
  simp only [hostOps0, hostOps0_1, hostOps0_2, hostOps0_3, hostOps0_4, List.cons_append, List.nil_append, List.append_assoc]
  after_results
  rfl

theorem coords_eq : V m c main_v6 = coordsH (rectsK m c) := by
  show StableHlo.after (hostOps0 ++ hostOps0_1 ++ hostOps0_2 ++ hostOps0_3 ++ hostOps0_4) _ _ = _
  simp only [hostOps0, hostOps0_1, hostOps0_2, hostOps0_3, hostOps0_4, List.cons_append, List.nil_append, List.append_assoc]
  after_results
  rfl

/-- The kernel reads each prepared array whole. -/
theorem blk1_eq (t : Fin cfg0.N) : blk1 m c t = planesH (rectsK m c) := by
  obtain rfl : t = t0_0 := fin_N0 t
  have hz : (fun a => win0_0.index t0_0 a * main_v2.ty.shape.size a) = fun _ => 0 := funext fun a => by fin_cases a <;> decide
  exact (Memref.read_access_unit_zero (Elt Ideal) main_v2 hz (fun a => by rw [congrFun hz a]; simp) (V m c main_v2)).trans (planes_eq m c)

theorem blk2_eq (t : Fin cfg0.N) : blk2 m c t = coordsH (rectsK m c) := by
  obtain rfl : t = t0_0 := fin_N0 t
  have hz : (fun a => win0_1.index t0_0 a * main_v6.ty.shape.size a) = fun _ => 0 := funext fun a => by fin_cases a <;> decide
  exact (Memref.read_access_unit_zero (Elt Ideal) main_v6 hz (fun a => by rw [congrFun hz a]; simp) (V m c main_v6)).trans (coords_eq m c)

/-- The rows the kernel leaves. -/
def rowsK : FVec Ideal S4x100x5 .f32 := rowS (planesH (rectsK m c)) (coordsH (rectsK m c))

theorem flushed_rows (t : Fin cfg0.N) (hf : (cfg0.win 4).flush t = true) :
    (dats m 0 c).flushed 4 t = ((cfg0.win 4).blk t).view.read (Elt Ideal) (rowsK m c) := by
  have e : (dats m 0 c).after 4 t = rowsK m c := by
    show rowS (blk1 m c t) (blk2 m c t) = _
    rw [blk1_eq, blk2_eq]
    rfl
  obtain rfl : t = t0_0 := fin_N0 t
  show (cfg0.win 4).cut (grid0.coords t0_0) ((dats m 0 c).after 4 t0_0) = _
  rw [e]
  have hz : (fun a => win0_4.index t0_0 a * main_v9_1.ty.shape.size a) = fun _ => 0 := funext fun a => by fin_cases a <;> decide
  exact (Memref.read_access_unit_zero (Elt Ideal) main_v9_1 hz (fun a => by rw [congrFun hz a]; simp) (rowsK m c)).symm

theorem final_rows : (dats m 0 c).arrAt 4 cfg0.N = rowsK m c :=
  (dats m 0 c).arrAt_eq_of_cover 4 (rowsK m c) (flushed_rows m c) fun i =>
    ⟨t0_0, flush0_4 t0_0, by
      show i ∈ ((View.whole main_v9_1).slice (win0_4.rect t0_0)).set
      rw [View.set_slice_whole, Rect.mem_set_unit]
      intro a
      have h0 : (i 0 : Nat) < 4 := (i 0).isLt
      have h1 : (i 1 : Nat) < 100 := (i 1).isLt
      have h2 : (i 2 : Nat) < 5 := (i 2).isLt
      match a with
      | ⟨0, _⟩ => show win0_4.index t0_0 0 * win0_4.size 0 ≤ (i 0 : Nat) ∧ (i 0 : Nat) < win0_4.index t0_0 0 * win0_4.size 0 + win0_4.xsize (grid0.coords t0_0) 0
                  rw [show win0_4.index t0_0 0 * win0_4.size 0 = 0 from by decide +kernel, show win0_4.xsize (grid0.coords t0_0) 0 = 4 from by decide +kernel]; omega
      | ⟨1, _⟩ => show win0_4.index t0_0 1 * win0_4.size 1 ≤ (i 1 : Nat) ∧ (i 1 : Nat) < win0_4.index t0_0 1 * win0_4.size 1 + win0_4.xsize (grid0.coords t0_0) 1
                  rw [show win0_4.index t0_0 1 * win0_4.size 1 = 0 from by decide +kernel, show win0_4.xsize (grid0.coords t0_0) 1 = 100 from by decide +kernel]; omega
      | ⟨2, _⟩ => show win0_4.index t0_0 2 * win0_4.size 2 ≤ (i 2 : Nat) ∧ (i 2 : Nat) < win0_4.index t0_0 2 * win0_4.size 2 + win0_4.xsize (grid0.coords t0_0) 2
                  rw [show win0_4.index t0_0 2 * win0_4.size 2 = 0 from by decide +kernel, show win0_4.xsize (grid0.coords t0_0) 2 = 5 from by decide +kernel]; omega⟩

end Cert.Proof.KernelIdeal
-- ==== Proof.V.KerStep.lean ====
module

public import proofs.«01_k».proof.Proof.K.Spec
public import proofs.«01_k».proof.Proof.V.Cover
public import Idealize.ShloMosaic.Lib.ValueIdxCore
public import Idealize.ShloMosaic.Lib.Pointwise

/-! One trip of the kernel's loop, read element by element over the extended reals. -/

@[expose] public section

set_option maxRecDepth 16384
set_option maxHeartbeats 400000

noncomputable section

namespace Cert.Proof.KernelIdeal

open Cert.KernelIdeal Cert.KernelIdeal.Gen
open Idealize.ShloMosaic Idealize.ShloMosaic.TcCoe

variable (x1 : S4x5x160x128.Idx → Ideal .f32) (x2 : S4x4x2560x8.Idx → Ideal .f32)

theorem cast_plane (x : S1x1x160x128.Idx → Ideal .f32) (r : Fin 160) (l : Fin 128) :
    shapeCast S160x128 x shapeCasts_S1x1x160x128_S160x128 (ix2 r l) = x (ix4 0 0 r l) := by
  pointwise

theorem plane_at (b : Fin 4) (q : Fin 5) (r : Fin 160) (l : Fin 128) : planeS x1 b q (ix2 r l) = x1 (ix4 b q r l) := by
  unfold planeS
  rw [cast_plane]
  refine congrArg x1 (funext fun a => Fin.ext ?_)
  match a with
  | ⟨0, _⟩ => show b.val + 1 * 0 = b.val; omega
  | ⟨1, _⟩ => show q.val + 1 * 0 = q.val; omega
  | ⟨2, _⟩ => show 0 + 1 * r.val = r.val; omega
  | ⟨3, _⟩ => show 0 + 1 * l.val = l.val; omega

theorem area_at (b : Fin 4) (y : S160x128.Idx) : areaS x1 b y = ((planeS x1 b 2 y - planeS x1 b 0 y) * (planeS x1 b 3 y - planeS x1 b 1 y) : EReal) := rfl

/-- The overlap of two boxes given by their corners. -/
def meet (c0 c1 c2 c3 p0 p1 p2 p3 : EReal) : EReal := max (min c2 p2 - max c0 p0) 0 * max (min c3 p3 - max c1 p1) 0
/-- Whether the overlap takes more than the threshold of the union: the test both programs make. -/
def over (c0 c1 c2 c3 p0 p1 p2 p3 : EReal) : BitVec 1 :=
  Ideal.cmp .ogt (Ideal.div (meet c0 c1 c2 c3 p0 p1 p2 p3)
    ((c2 - c0) * (c3 - c1) + (p2 - p0) * (p3 - p1) - meet c0 c1 c2 c3 p0 p1 p2 p3)) (Ideal.ofBits .f32 0x3F333333#32)

/-- The scores handed on. -/
theorem next_at (b : Fin 4) (a : FVec Ideal S160x128 .f32) (y : S160x128.Idx) : nextS x1 x2 b a y =
    Scalar.select (IntOp.andi (over (cornerS x2 b 0 a) (cornerS x2 b 1 a) (cornerS x2 b 2 a) (cornerS x2 b 3 a)
      (planeS x1 b 0 y) (planeS x1 b 1 y) (planeS x1 b 2 y) (planeS x1 b 3 y)) (valid a)) (Ideal.ofBits .f32 0xFF800000#32) (a y) := by
  unfold nextS drop common over meet
  rw [← area_at]
  pointwise

theorem pick_at (w : ℕ) (hw : w < 20480) (r l : Fin 8) :
    pick (BitVec.ofNat 32 w) (ix2 r l) = if r.val = w / 8 % 8 ∧ l.val = w % 8 then 1#1 else 0#1 := by
  have hr := r.isLt
  have hl := l.isLt
  have e1 : Scalar.subi (floor8 (BitVec.ofNat 32 w)) (k0_mult1 (BitVec.ofNat 32 w)) = BitVec.ofNat 32 (w / 8 % 8) := by
    rw [mult_ofNat w hw, floor8_ofNat w (by omega)]
    apply BitVec.eq_of_toNat_eq
    show (BitVec.ofNat 32 (w / 8) - BitVec.ofNat 32 (8 * (w / 64))).toNat = _
    rw [BitVec.toNat_sub_of_le (by rw [BitVec.le_def, BitVec.toNat_ofNat, BitVec.toNat_ofNat]; omega)]
    simp only [BitVec.toNat_ofNat]
    omega
  have e2 : Scalar.subi (BitVec.ofNat 32 w) (Scalar.muli (floor8 (BitVec.ofNat 32 w)) 8#32) = BitVec.ofNat 32 (w % 8) := by
    rw [floor8_ofNat w (by omega)]
    apply BitVec.eq_of_toNat_eq
    show (BitVec.ofNat 32 w - BitVec.ofNat 32 (w / 8) * BitVec.ofNat 32 8).toNat = _
    rw [← BitVec.ofNat_mul, BitVec.toNat_sub_of_le (by rw [BitVec.le_def, BitVec.toNat_ofNat, BitVec.toNat_ofNat]; omega)]
    simp only [BitVec.toNat_ofNat]
    omega
  unfold pick
  rw [e1, e2]
  unfold rowOf8 laneOf8
  pointwise
  show IntOp.andi (IntOp.cmpi .eq (BitVec.ofNat 32 r.val) (BitVec.ofNat 32 (w / 8 % 8))) (IntOp.cmpi .eq (BitVec.ofNat 32 l.val) (BitVec.ofNat 32 (w % 8))) = _
  have key : ∀ m < 8, ∀ n < 8, IntOp.cmpi .eq (BitVec.ofNat 32 m) (BitVec.ofNat 32 n) = if m = n then 1#1 else 0#1 := by decide
  rw [key _ hr _ (by omega), key _ hl _ (by omega)]
  by_cases h1 : r.val = w / 8 % 8 <;> by_cases h2 : l.val = w % 8 <;> simp [h1, h2] <;> rfl

theorem pickSum_at (p : IVec S8x8 1) (win : Vec Ideal S1x1x8x8 .f32) :
    pickSum p win = (∑ r : Fin 8, ∑ l : Fin 8, Scalar.select (p (ix2 r l)) (win (ix4 0 0 r l)) 0 : EReal) := by
  unfold pickSum
  pointwise

/-- The sum over the window is its entry at the slot. -/
theorem pickSum_one (w : ℕ) (hw : w < 20480) (win : Vec Ideal S1x1x8x8 .f32) :
    pickSum (pick (BitVec.ofNat 32 w)) win = win (ix4 0 0 ⟨w / 8 % 8, by omega⟩ ⟨w % 8, by omega⟩) := by
  rw [pickSum_at, Finset.sum_eq_single ⟨w / 8 % 8, by omega⟩, Finset.sum_eq_single ⟨w % 8, by omega⟩]
  · rw [pick_at w hw, if_pos ⟨rfl, rfl⟩]
    rfl
  · intro l _ hl
    rw [pick_at w hw, if_neg (fun h => hl (Fin.ext h.2))]
    rfl
  · intro h; exact absurd (Finset.mem_univ _) h
  · intro r _ hr
    refine Finset.sum_eq_zero fun l _ => ?_
    rw [pick_at w hw, if_neg (fun h => hr (Fin.ext h.1))]
    rfl
  · intro h; exact absurd (Finset.mem_univ _) h

theorem pickSum_slot (s : BitVec 32) (w : ℕ) (hw : w < 20480) (e : s = BitVec.ofNat 32 w) (win : Vec Ideal S1x1x8x8 .f32) :
    pickSum (pick s) win = win (ix4 0 0 ⟨w / 8 % 8, by omega⟩ ⟨w % 8, by omega⟩) := by
  subst e
  exact pickSum_one w hw win

theorem corner_at (b q : Fin 4) (a : FVec Ideal S160x128 .f32) (w : ℕ) (hw : w < 20480) (e : slotOf a = BitVec.ofNat 32 w) :
    cornerS x2 b q a = x2 (ix4 b q ⟨w / 8, by omega⟩ ⟨w % 8, by omega⟩) := by
  have hm : (k0_mult1 (slotOf a)).toNat = 8 * (w / 64) := by
    rw [mult_toNat (slotOf_lt a), e, BitVec.toNat_ofNat]
    omega
  unfold cornerS
  rw [pickSum_slot (slotOf a) w hw e]
  refine congrArg x2 (funext fun d => Fin.ext ?_)
  match d with
  | ⟨0, _⟩ => show b.val + 1 * 0 = b.val; omega
  | ⟨1, _⟩ => show q.val + 1 * 0 = q.val; omega
  | ⟨2, _⟩ =>
    show (k0_mult1 (slotOf a)).toNat + 1 * (w / 8 % 8) = w / 8
    rw [hm]
    omega
  | ⟨3, _⟩ => show 0 + 1 * (w % 8) = w % 8; omega

theorem row_at (k : Fin 4 → Ideal .f32) (s : Ideal .f32) :
    (∀ q : Fin 4, rowOfKept k s (ValueIdx.ix3 0 0 q.castSucc) = k q) ∧ rowOfKept k s (ValueIdx.ix3 0 0 4) = s := by
  have key : ∀ q : Fin 5, rowOfKept k s (ValueIdx.ix3 0 0 q) =
      (Scalar.select (IntOp.cmpi .eq (BitVec.ofNat 32 q.val) 0#32) (k 0) 0 + Scalar.select (IntOp.cmpi .eq (BitVec.ofNat 32 q.val) 1#32) (k 1) 0
        + Scalar.select (IntOp.cmpi .eq (BitVec.ofNat 32 q.val) 2#32) (k 2) 0 + Scalar.select (IntOp.cmpi .eq (BitVec.ofNat 32 q.val) 3#32) (k 3) 0
        + Scalar.select (IntOp.cmpi .eq (BitVec.ofNat 32 q.val) 4#32) s 0 : EReal) := by
    intro q
    unfold rowOfKept lane
    show shapeCast _ _ _ (ix3 0 0 q) = _
    pointwise
  refine ⟨fun q => ?_, ?_⟩
  · rw [key]
    fin_cases q
    · show (k 0 + 0 + 0 + 0 + 0 : EReal) = k 0; simp
    · show (0 + k 1 + 0 + 0 + 0 : EReal) = k 1; simp
    · show (0 + 0 + k 2 + 0 + 0 : EReal) = k 2; simp
    · show (0 + 0 + 0 + k 3 + 0 : EReal) = k 3; simp
  · rw [key]
    show (0 + 0 + 0 + 0 + s : EReal) = s
    simp

end Cert.Proof.KernelIdeal
-- ==== Proof.V.Twice.lean ====
module

public import proofs.«01_k».proof.Proof.V.KerStep

/-! A proper box overlaps itself by more than the threshold. -/

@[expose] public section

set_option maxRecDepth 16384
set_option maxHeartbeats 400000

noncomputable section

namespace Cert.Proof.KernelIdeal

open Cert.KernelIdeal Cert.KernelIdeal.Gen
open Idealize.ShloMosaic Idealize.ShloMosaic.TcCoe Idealize.SL.Sem

theorem threshold_lt_one : Ideal.ofBits .f32 0x3F333333#32 < 1 := by
  simp [Ideal.ofBits, Ideal.ieee]
  rw [← EReal.coe_mul, ← EReal.coe_one, EReal.coe_lt_coe_iff]
  norm_num

theorem over_self (c0 c1 c2 c3 : EReal) (h0 : ⊥ < c0) (h02 : c0 < c2) (h2 : c2 < ⊤) (h1 : ⊥ < c1) (h13 : c1 < c3) (h3 : c3 < ⊤) :
    over c0 c1 c2 c3 c0 c1 c2 c3 = 1#1 := by
  lift c0 to ℝ using ⟨(h02.trans h2).ne, h0.ne'⟩
  lift c2 to ℝ using ⟨h2.ne, (h0.trans h02).ne'⟩
  lift c1 to ℝ using ⟨(h13.trans h3).ne, h1.ne'⟩
  lift c3 to ℝ using ⟨h3.ne, (h1.trans h13).ne'⟩
  have a : 0 < c2 - c0 := by have := EReal.coe_lt_coe_iff.1 h02; linarith
  have b : 0 < c3 - c1 := by have := EReal.coe_lt_coe_iff.1 h13; linarith
  unfold over meet
  simp only [max_self, min_self]
  have ea : (c2 : EReal) - c0 = ((c2 - c0 : ℝ) : EReal) := rfl
  have eb : (c3 : EReal) - c1 = ((c3 - c1 : ℝ) : EReal) := rfl
  rw [ea, eb]
  generalize c2 - c0 = u at a
  generalize c3 - c1 = v at b
  have hu : max (u : EReal) 0 = u := max_eq_left (by exact_mod_cast a.le)
  have hv : max (v : EReal) 0 = v := max_eq_left (by exact_mod_cast b.le)
  rw [hu, hv]
  have p : 0 < u * v := mul_pos a b
  have es : (u : EReal) * v + u * v - u * v = ((u * v : ℝ) : EReal) := by
    rw [← EReal.coe_mul, ← EReal.coe_add, ← EReal.coe_sub]; congr 1; ring
  have one : Ideal.div ((u : EReal) * v) ((u * v : ℝ) : EReal) = 1 := by
    have n0 : ((u * v : ℝ) : EReal) ≠ 0 := by exact_mod_cast p.ne'
    unfold Ideal.div
    rw [if_neg n0, ← EReal.coe_mul, ← EReal.coe_inv, ← EReal.coe_mul, mul_inv_cancel₀ p.ne', EReal.coe_one]
  rw [es, one]
  show BitVec.ofBool (decide (Ideal.ofBits .f32 0x3F333333#32 < (1 : EReal))) = 1#1
  rw [decide_eq_true threshold_lt_one]
  rfl

end Cert.Proof.KernelIdeal
-- ==== Proof.V.RefStep.lean ====
module

public import proofs.«01_k».proof.Proof.Gen.ReferenceIdeal.Run
public import Idealize.ShloMosaic.PureOps.Ideal.Laws
public import Idealize.ShloMosaic.Lib.ValueIdxCore
public import Idealize.ShloMosaic.Lib.Pointwise
public import Idealize.ShloMosaic.Lib.Pointwise.Reshape
public import Idealize.ShloMosaic.Lib.WordCmp

/-! One trip of the reference's loop, read element by element over the extended reals. -/

@[expose] public section

set_option maxRecDepth 16384
set_option maxHeartbeats 400000

noncomputable section

namespace Cert.Proof.Reference

open Cert.ReferenceIdeal Cert.ReferenceIdeal.Gen Cert.ReferenceIdeal.Value
open Idealize.ShloMosaic Idealize.ShloMosaic.TcCoe Idealize.SL.Sem

variable (V : Valuation τ sig (Elt Ideal))

abbrev slotsR : IVec S20000 32 := V (Proc.devRef .tc main_v18_0)
abbrev imagesR : IVec S4 32 := V (Proc.devRef .tc main_v18_1)
abbrev rectsR : FVec Ideal S4x20000x5 .f32 := V (Proc.devRef .tc main_v18_2)
abbrev boxesR : FVec Ideal S4x20000x4 .f32 := V (Proc.devRef .tc main_v18_3)
abbrev areasR : FVec Ideal S4x20000 .f32 := V (Proc.devRef .tc main_v18_4)
abbrev countR : IVec S_ 32 := V (Proc.devRef .tc main_v18_5)
abbrev scoresR : FVec Ideal S4x20000 .f32 := V (Proc.devRef .tc main_v18_6)
abbrev rowsR : FVec Ideal S100x4x5 .f32 := V (Proc.devRef .tc main_v18_8)
abbrev bestR : FVec Ideal S4 .f32 := res_main_while0b_v102 V
abbrev idxR : IVec S4 32 := res_main_while0b_v108 V
abbrev validR : IVec S4 1 := res_main_while0b_v110 V
abbrev chosenR : FVec Ideal S4x5 .f32 := res_main_while0b_v114 V
abbrev interR : FVec Ideal S4x20000 .f32 := res_main_while0b_v141 V
abbrev rowR : FVec Ideal S4x5 .f32 := res_main_while0b_v168 V

theorem valid_at (b : Fin 4) : validR V (ix1 b) = Ideal.cmp .ogt (bestR V (ix1 b)) (Ideal.ofBits .f32 0xFF800000#32) := by
  show res_main_while0b_v110 V (ix1 b) = _
  unfold res_main_while0b_v110
  pointwise

theorem row_at (b : Fin 4) (q : Fin 5) : rowR V (ix2 b q) = Scalar.select (validR V (ix1 b)) (chosenR V (ix2 b q)) (0 : EReal) := by
  show res_main_while0b_v168 V (ix2 b q) = _
  unfold res_main_while0b_v168
  simp only [id]
  pointwise

/-- The overlap with the chosen box. -/
theorem inter_at (b : Fin 4) (n : Fin 20000) : interR V (ix2 b n) =
    (max (min (chosenR V (ix2 b 2)) (boxesR V (ix3 b n 2)) - max (chosenR V (ix2 b 0)) (boxesR V (ix3 b n 0))) 0
      * max (min (chosenR V (ix2 b 3)) (boxesR V (ix3 b n 3)) - max (chosenR V (ix2 b 1)) (boxesR V (ix3 b n 1))) 0 : EReal) := by
  show res_main_while0b_v141 V (ix2 b n) = _
  unfold res_main_while0b_v141
  pointwise

/-- The scores handed on. -/
theorem score_at (b : Fin 4) (n : Fin 20000) : (step_main_v18_6 V : FVec Ideal S4x20000 .f32) (ix2 b n) =
    (min (scoresR V (ix2 b n))
      (Scalar.select
        (IntOp.ori
          (IntOp.andi
            (Ideal.cmp .ogt
              (Ideal.div (interR V (ix2 b n))
                ((chosenR V (ix2 b 2) - chosenR V (ix2 b 0)) * (chosenR V (ix2 b 3) - chosenR V (ix2 b 1)) + areasR V (ix2 b n)
                  - interR V (ix2 b n)))
              (Ideal.ofBits .f32 0x3F333333#32))
            (validR V (ix1 b)))
          (IntOp.cmpi .eq (slotsR V (ix1 n)) (idxR V (ix1 b))))
        (Ideal.ofBits .f32 0xFF800000#32) (Ideal.ofBits .f32 0x7F800000#32)) : EReal) := by
  unfold step_main_v18_6
  simp only [id]
  pointwise

/-- The rows after a trip: one more row written, at the counter. -/
theorem rows_at (k : Fin 100) (b : Fin 4) (q : Fin 5) (i : ℕ) (hi : i < 100) (hc : countR V ix0 = BitVec.ofNat 32 i) :
    (step_main_v18_8 V : FVec Ideal S100x4x5 .f32) (ix3 k b q) = if k.val = i then rowR V (ix2 b q) else rowsR V (ix3 k b q) := by
  have hk : S100x4x5.Slices ![i, 0, 0] S1x4x5 := ⟨rfl, fun a => by
    fin_cases a
    · show i + 1 ≤ 100; omega
    · exact Nat.le_refl 4
    · exact Nat.le_refl 5⟩
  unfold step_main_v18_8
  simp only [id]
  rw [WordCmp.dynamicUpdateSlice_eq_update _ _ _ _ ![i, 0, 0] hk (fun a => by
    fin_cases a
    · show (countR V (Shape.Idx.first h_S_)).toInt = (i : Int)
      have e : Shape.Idx.first h_S_ = ix0 := funext fun d => d.elim0
      rw [e, hc, BitVec.toInt_eq_toNat_of_lt (by rw [BitVec.toNat_ofNat]; omega), BitVec.toNat_ofNat]
      omega
    · rfl
    · rfl)]
  pointwise
  have hb := b.isLt
  have hq := q.isLt
  by_cases e : k.val = i
  · rw [dif_pos, if_pos e]
    intro a
    match a with
    | ⟨0, _⟩ => exact ⟨show i ≤ k.val by omega, show k.val < i + 1 by omega⟩
    | ⟨1, _⟩ => exact ⟨Nat.zero_le _, show b.val < 0 + 4 by omega⟩
    | ⟨2, _⟩ => exact ⟨Nat.zero_le _, show q.val < 0 + 5 by omega⟩
  · rw [dif_neg, if_neg e]
    intro h
    have h0 : i ≤ k.val ∧ k.val < i + 1 := h (0 : Fin 3)
    omega

/-- What reduces to image `b`. -/
theorem drop_at (i : S4x20000.Idx) : reducesTo_S4x20000_S4_d1.drop i = ix1 (i 0) := by
  funext d
  match d with
  | ⟨0, _⟩ => rfl

theorem mem_drop (b : Fin 4) (n : Fin 20000) : reducesTo_S4x20000_S4_d1.drop (ix2 b n) = ix1 b := drop_at (ix2 b n)

theorem of_drop {i : S4x20000.Idx} {b : Fin 4} (h : reducesTo_S4x20000_S4_d1.drop i = ix1 b) : ∃ n : Fin 20000, i = ix2 b n := by
  have h0 : i 0 = b := congrFun ((drop_at i).symm.trans h) 0
  refine ⟨i 1, funext fun d => ?_⟩
  match d with
  | ⟨0, _⟩ => exact h0
  | ⟨1, _⟩ => rfl

theorem neg_inf : Ideal.ofBits .f32 0xFF800000#32 = (⊥ : EReal) := by simp [Ideal.ofBits, Ideal.ieee]
theorem pos_inf : Ideal.ofBits .f32 0x7F800000#32 = (⊤ : EReal) := by simp [Ideal.ofBits, Ideal.ieee]

theorem reduce_max_at (x : FVec Ideal S4x20000 .f32) (b : Fin 4) :
    Host.reduce FloatOps.maximumf x (constant S_ .f32 0xFF800000#32) reducesTo_S4x20000_S4_d1 h_S_ (ix1 b)
      = Finset.fold (max : EReal → EReal → EReal) ⊥ (fun n : Fin 20000 => x (ix2 b n)) Finset.univ := by
  pointwise
  rw [neg_inf]

theorem best_fold (b : Fin 4) : bestR V (ix1 b) = Finset.fold (max : EReal → EReal → EReal) ⊥ (fun n : Fin 20000 => scoresR V (ix2 b n)) Finset.univ :=
  reduce_max_at (scoresR V) b

theorem le_bestR (b : Fin 4) (n : Fin 20000) : (scoresR V (ix2 b n) : EReal) ≤ bestR V (ix1 b) := by
  rw [best_fold]
  exact (Finset.le_fold_max _).2 (Or.inr ⟨n, Finset.mem_univ _, le_rfl⟩)

theorem bestR_le (b : Fin 4) (M : EReal) (h : ∀ n : Fin 20000, (scoresR V (ix2 b n) : EReal) ≤ M) : (bestR V (ix1 b) : EReal) ≤ M := by
  rw [best_fold]
  exact (Finset.fold_max_le _).2 ⟨bot_le, fun i _ => h i⟩

/-- A fold by signed minimum that starts at or above `W`, meets `W` and nothing below it, ends at `W`. -/
theorem foldl_minsi {ι : Type} (f : ι → BitVec 32) (W : BitVec 32) : ∀ (l : List ι) (init : BitVec 32), (∀ i ∈ l, W.toInt ≤ (f i).toInt) →
    W.toInt ≤ init.toInt → (init = W ∨ ∃ i ∈ l, f i = W) → l.foldl (fun r i => IntOp.minsi r (f i)) init = W
  | [], init, _, _, h => by
    rcases h with h | ⟨i, hi, _⟩
    · exact h
    · exact absurd hi List.not_mem_nil
  | a :: l, init, ha, hi, h => by
    have hfa := ha a List.mem_cons_self
    refine foldl_minsi f W l (IntOp.minsi init (f a)) (fun i hi => ha i (List.mem_cons_of_mem _ hi)) ?_ ?_
    · unfold IntOp.minsi
      split <;> assumption
    · have key : init = W ∨ f a = W → IntOp.minsi init (f a) = W := by
        intro h
        unfold IntOp.minsi
        rcases h with h | h
        · by_cases hlt : init.slt (f a) = true
          · rw [if_pos hlt]; exact h
          · rw [if_neg hlt]
            rw [BitVec.slt_iff_toInt_lt] at hlt
            exact BitVec.eq_of_toInt_eq (le_antisymm (h ▸ not_lt.1 hlt) hfa)
        · by_cases hlt : init.slt (f a) = true
          · rw [BitVec.slt_iff_toInt_lt] at hlt
            exact absurd (h ▸ hlt) (not_lt.2 hi)
          · rw [if_neg hlt]; exact h
      rcases h with h | ⟨i, hm, h⟩
      · exact Or.inl (key (Or.inl h))
      · rcases List.mem_cons.1 hm with rfl | hm
        · exact Or.inl (key (Or.inr h))
        · exact Or.inr ⟨i, hm, h⟩

/-- One candidate for the chosen slot. -/
theorem candidate_at (b : Fin 4) (n : Fin 20000) :
    (select (cmpf .oeq (scoresR V) (broadcastInDim S4x20000 ![0, 1] bcast_S4x1_S4x20000_0_1 (broadcastInDim S4x1 ![0] bcast_S4_S4x1_0 (bestR V))))
      (broadcastInDim S4x20000 ![0, 1] bcast_S1x20000_S4x20000_0_1 (broadcastInDim S1x20000 ![1] bcast_S20000_S1x20000_1 (slotsR V)))
      (broadcastInDim S4x20000 ![] bcast_S_S4x20000 (constantI S_ 32 19999#32))) (ix2 b n)
    = Scalar.select (Ideal.cmp .oeq (scoresR V (ix2 b n)) (bestR V (ix1 b))) (slotsR V (ix1 n)) 19999#32 := by
  pointwise

/-- The chosen slot, when exactly one slot has the best score. -/
theorem idx_at (b : Fin 4) (w : Fin 20000) (hs : ∀ n : Fin 20000, slotsR V (ix1 n) = BitVec.ofNat 32 n.val)
    (hw : scoresR V (ix2 b w) = bestR V (ix1 b)) (hu : ∀ n : Fin 20000, scoresR V (ix2 b n) = bestR V (ix1 b) → n = w) :
    idxR V (ix1 b) = BitVec.ofNat 32 w.val := by
  have hint : ∀ k : ℕ, k < 20000 → (BitVec.ofNat 32 k).toInt = (k : Int) := fun k hk => by
    rw [BitVec.toInt_eq_toNat_of_lt (by rw [BitVec.toNat_ofNat]; omega), BitVec.toNat_ofNat]
    omega
  have hb := w.isLt
  show res_main_while0b_v108 V (ix1 b) = _
  unfold res_main_while0b_v108
  simp only [id]
  rw [Host.reduce_eq_foldl]
  refine foldl_minsi _ _ _ _ (fun i hi => ?_) ?_ (Or.inr ⟨ix2 b w, ?_, ?_⟩)
  · obtain ⟨n, rfl⟩ := of_drop (of_decide_eq_true (List.mem_filter.1 hi).2)
    refine le_of_le_of_eq ?_ (congrArg BitVec.toInt (candidate_at V b n).symm)
    rw [hint _ hb]
    by_cases e : scoresR V (ix2 b n) = bestR V (ix1 b)
    · have hn := hu n e
      subst hn
      rw [show Ideal.cmp .oeq (scoresR V (ix2 b n)) (bestR V (ix1 b)) = 1#1 by simp [Ideal.cmp, e]]
      show _ ≤ (slotsR V (ix1 n)).toInt
      rw [hs, hint _ hb]
    · rw [show Ideal.cmp .oeq (scoresR V (ix2 b n)) (bestR V (ix1 b)) = 0#1 by simp [Ideal.cmp, e]]
      show _ ≤ (19999#32).toInt
      rw [hint 19999 (by decide)]
      omega
  · rw [hint _ hb]
    show _ ≤ (2147483647#32).toInt
    rw [show (2147483647#32).toInt = 2147483647 by decide]
    omega
  · rw [List.mem_filter]
    exact ⟨List.mem_map.2 ⟨S4x20000.rowMajor (ix2 b w), List.mem_finRange _, Equiv.symm_apply_apply _ _⟩, by simp [mem_drop]⟩
  · refine (candidate_at V b w).trans ?_
    rw [show Ideal.cmp .oeq (scoresR V (ix2 b w)) (bestR V (ix1 b)) = 1#1 by simp [Ideal.cmp, hw]]
    exact hs w

/-- The gather of one row per image, at start indices `(image, slot)`. -/
theorem gather_at (x : S4x20000x5.Idx → Ideal .f32) (idx : IVec S4x2 32) (b : Fin 4) (q : Fin 5) :
    Host.gather gather_S4x20000x5_S4x2_S4x5_1_01_n_n_01_1_115 x idx (ix2 b q)
      = x (ix3 ⟨min (idx (ix2 b 0)).toInt.toNat 3, by omega⟩ ⟨min (idx (ix2 b 1)).toInt.toNat 19999, by omega⟩ q) := by
  unfold Host.gather
  congr 1
  funext a
  refine Fin.ext ?_
  match a with
  | ⟨0, _⟩ =>
    show _ = min (idx (ix2 b 0)).toInt.toNat 3
    rw [show (idx (ix2 b 0)) = idx (gather_S4x20000x5_S4x2_S4x5_1_01_n_n_01_1_115.siIdx (ix2 b q) ⟨0, by decide⟩) from
      congrArg idx (funext fun d => by match d with
        | ⟨0, _⟩ => rfl
        | ⟨1, _⟩ => rfl)]
    rfl
  | ⟨1, _⟩ =>
    show _ = min (idx (ix2 b 1)).toInt.toNat 19999
    rw [show (idx (ix2 b 1)) = idx (gather_S4x20000x5_S4x2_S4x5_1_01_n_n_01_1_115.siIdx (ix2 b q) ⟨1, by decide⟩) from
      congrArg idx (funext fun d => by match d with
        | ⟨0, _⟩ => rfl
        | ⟨1, _⟩ => rfl)]
    rfl
  | ⟨2, _⟩ => exact Nat.zero_add _

theorem start_at (b : Fin 4) (x y : IVec S4 32) :
    let z := concatenate S4x2 1 [⟨S4x1, broadcastInDim S4x1 ![0] bcast_S4_S4x1_0 x⟩, ⟨S4x1, broadcastInDim S4x1 ![0] bcast_S4_S4x1_0 y⟩]
      concatenates_S4x1_S4x1_S4x2_d1
    z (ix2 b 0) = x (ix1 b) ∧ z (ix2 b 1) = y (ix1 b) := by
  refine ⟨?_, ?_⟩
  · pointwise
  · pointwise

/-- The chosen box, when the slot is known. -/
theorem chosen_at (b : Fin 4) (q : Fin 5) (w : Fin 20000) (hi : ∀ b : Fin 4, imagesR V (ix1 b) = BitVec.ofNat 32 b.val)
    (hw : idxR V (ix1 b) = BitVec.ofNat 32 w.val) : chosenR V (ix2 b q) = rectsR V (ix3 b w q) := by
  show res_main_while0b_v114 V (ix2 b q) = _
  unfold res_main_while0b_v114
  rw [gather_at]
  obtain ⟨h0, h1⟩ := start_at b (imagesR V) (idxR V)
  have hint : ∀ k : ℕ, k < 20000 → (BitVec.ofNat 32 k).toInt.toNat = k := fun k hk => by
    rw [BitVec.toInt_eq_toNat_of_lt (by rw [BitVec.toNat_ofNat]; omega), BitVec.toNat_ofNat]
    omega
  have hb := b.isLt
  have hwl := w.isLt
  refine congrArg (rectsR V) (funext fun a => Fin.ext ?_)
  match a with
  | ⟨0, _⟩ =>
    refine (congrArg (fun v : BitVec 32 => min v.toInt.toNat 3) (h0.trans (hi b))).trans ?_
    show min (BitVec.ofNat 32 b.val).toInt.toNat 3 = b.val
    rw [hint _ (by omega)]
    omega
  | ⟨1, _⟩ =>
    refine (congrArg (fun v : BitVec 32 => min v.toInt.toNat 19999) (h1.trans hw)).trans ?_
    show min (BitVec.ofNat 32 w.val).toInt.toNat 19999 = w.val
    rw [hint _ (by omega)]
    omega
  | ⟨2, _⟩ => rfl

end Cert.Proof.Reference
-- ==== Proof.V.Join.lean ====
module

public import proofs.«01_k».proof.Proof.V.Cover
public import proofs.«01_k».proof.Proof.V.Prep
public import proofs.«01_k».proof.Proof.V.Twice
public import proofs.«01_k».proof.Proof.V.RefStep

/-! One trip of the kernel's selection beside one trip of the reference's: from scores that agree, the same box is chosen, the
same row is written, and the scores handed on agree again. -/

@[expose] public section

set_option maxRecDepth 16384
set_option maxHeartbeats 400000

noncomputable section

namespace Cert.Proof.Join

open Idealize.ShloMosaic Idealize.ShloMosaic.TcCoe Idealize.SL.Sem
open Cert.Proof.KernelIdeal Cert.Proof.Reference

/-- The boxes and scores of all images. -/
abbrev Rects := (⟨3, ![4, 20000, 5]⟩ : Shape).Idx → EReal

/-- Every box is finite and has its corners in order, and scores other than minus infinity are told apart. -/
structure Proper (R : Rects) : Prop where
  x0 : ∀ b n, ⊥ < R (ix3 b n 0)
  x : ∀ b n, R (ix3 b n 0) < R (ix3 b n 2)
  x2 : ∀ b n, R (ix3 b n 2) < ⊤
  y0 : ∀ b n, ⊥ < R (ix3 b n 1)
  y : ∀ b n, R (ix3 b n 1) < R (ix3 b n 3)
  y2 : ∀ b n, R (ix3 b n 3) < ⊤
  apart : ∀ b n k, R (ix3 b n 4) = R (ix3 b k 4) → R (ix3 b n 4) ≠ ⊥ → n = k

/-- What the reference carries unchanged. -/
structure Fixed (R : Rects) (V : Valuation Cert.ReferenceIdeal.τ Cert.ReferenceIdeal.sig (Elt Ideal)) : Prop where
  slots : ∀ n : Fin 20000, slotsR V (ix1 n) = BitVec.ofNat 32 n.val
  images : ∀ b : Fin 4, imagesR V (ix1 b) = BitVec.ofNat 32 b.val
  rects : rectsR V = R
  boxes : ∀ (b : Fin 4) (n : Fin 20000) (q : Fin 4), boxesR V (ix3 b n q) = R (ix3 b n q.castSucc)
  areas : ∀ (b : Fin 4) (n : Fin 20000), areasR V (ix2 b n) = (R (ix3 b n 2) - R (ix3 b n 0)) * (R (ix3 b n 3) - R (ix3 b n 1))

/-- The scores of image `b` agree: the kernel's field holds the reference's scores, then minus infinity; and a score is the
box's own or minus infinity. -/
structure Agrees (R : Rects) (b : Fin 4) (a : FVec Ideal Cert.KernelIdeal.S160x128 .f32) (s : Fin 20000 → EReal) : Prop where
  low : ∀ n : Fin 20000, flat a n.val = s n
  high : ∀ n, 20000 ≤ n → n < 20480 → flat a n = (⊥ : EReal)
  own : ∀ n : Fin 20000, s n = R (ix3 b n 4) ∨ s n = ⊥

variable {R : Rects} {b : Fin 4} {a : FVec Ideal Cert.KernelIdeal.S160x128 .f32}
  {V : Valuation Cert.ReferenceIdeal.τ Cert.ReferenceIdeal.sig (Elt Ideal)}

/-- The two bests agree. -/
theorem best_eq (h : Agrees R b a (fun n => scoresR V (ix2 b n))) : bestR V (ix1 b) = bestVal a := by
  refine le_antisymm (bestR_le V b _ fun n => ?_) ?_
  · exact (h.low n).symm.trans_le (le_best a n.val (by omega))
  · obtain ⟨w, hw, -, e⟩ := best_at a
    rw [e]
    by_cases hl : w < 20000
    · exact (h.low ⟨w, hl⟩).trans_le (le_bestR V b ⟨w, hl⟩)
    · rw [h.high w (by omega) hw]
      exact bot_le

theorem valid_cmp : valid a = Ideal.cmp .ogt (bestVal a) (Ideal.ofBits .f32 0xFF800000#32) := by
  unfold valid
  generalize bestVal a = M
  rfl

theorem cmp_ne {M : EReal} (h : M ≠ ⊥) : Ideal.cmp .ogt M (Ideal.ofBits .f32 0xFF800000#32) = 1#1 := by
  show BitVec.ofBool (decide (Ideal.ofBits .f32 0xFF800000#32 < M)) = 1#1
  rw [Reference.neg_inf, decide_eq_true (bot_lt_iff_ne_bot.2 h)]
  rfl

theorem cmp_bot : Ideal.cmp .ogt (⊥ : EReal) (Ideal.ofBits .f32 0xFF800000#32) = 0#1 := by
  show BitVec.ofBool (decide (Ideal.ofBits .f32 0xFF800000#32 < (⊥ : EReal))) = 0#1
  rw [Reference.neg_inf, decide_eq_false (lt_irrefl _)]
  rfl

theorem valid_eq (h : Agrees R b a (fun n => scoresR V (ix2 b n))) : validR V (ix1 b) = valid a := by
  rw [valid_at, best_eq h, valid_cmp]

theorem valid_of_ne (h : bestVal a ≠ (⊥ : EReal)) : valid a = 1#1 := valid_cmp.trans (cmp_ne h)
theorem valid_of_bot (h : bestVal a = (⊥ : EReal)) : valid a = 0#1 := by rw [valid_cmp, h, cmp_bot]

/-- A box is left: the one both programs choose. -/
theorem chosen (hR : Proper R) (hV : Fixed R V) (h : Agrees R b a (fun n => scoresR V (ix2 b n))) (hb : bestVal a ≠ (⊥ : EReal)) :
    ∃ w : Fin 20000, idxR V (ix1 b) = BitVec.ofNat 32 w.val ∧ (∀ q, chosenR V (ix2 b q) = R (ix3 b w q))
      ∧ (∀ q : Fin 4, cornerS (coordsH R) b q a = R (ix3 b w q.castSucc)) ∧ bestVal a = R (ix3 b w 4) := by
  obtain ⟨w, hw, ei, e⟩ := best_at a
  have hl : w < 20000 := by
    by_contra hl
    exact hb (e.trans (h.high w (by omega) hw))
  have es : scoresR V (ix2 b ⟨w, hl⟩) = bestVal a := (h.low ⟨w, hl⟩).symm.trans e.symm
  have own : ∀ n : Fin 20000, scoresR V (ix2 b n) = bestVal a → bestVal a = R (ix3 b n 4) := fun n hn => by
    rcases h.own n with o | o
    · exact hn.symm.trans o
    · exact absurd (hn.symm.trans o) hb
  have ew := own ⟨w, hl⟩ es
  have ix : idxR V (ix1 b) = BitVec.ofNat 32 w := idx_at V b ⟨w, hl⟩ hV.slots (es.trans (best_eq h).symm) fun n hn => by
    have en := own n (hn.trans (best_eq h))
    exact hR.apart b n ⟨w, hl⟩ (en.symm.trans ew) (en ▸ hb)
  refine ⟨⟨w, hl⟩, ix, fun q => ?_, fun q => ?_, ew⟩
  · rw [chosen_at V b q ⟨w, hl⟩ hV.images ix, hV.rects]
  · rw [corner_at (coordsH R) b q a w hw ei, coordsH_at R b q _ _ (by show w / 8 * 8 + w % 8 < 20000; omega)]
    refine congrArg R (congrArg (fun n => ix3 b n q.castSucc) (Fin.ext ?_))
    show w / 8 * 8 + w % 8 = w
    omega

/-- Coordinate `q` of the box at place `n`, as the kernel reads it. -/
theorem plane_low (q : Fin 5) (n : Fin 20000) :
    planeS (planesH R) b q (ix2 ⟨n.val / 128 % 160, by omega⟩ ⟨n.val % 128, by omega⟩) = R (ix3 b n q) := by
  have e : n.val / 128 % 160 * 128 + n.val % 128 = n.val := by omega
  rw [plane_at, planesH_at, dif_pos (by show n.val / 128 % 160 * 128 + n.val % 128 < 20000; omega)]
  exact congrArg R (congrArg (fun n => ix3 b n q) (Fin.ext e))

theorem plane_high (q : Fin 5) (n : ℕ) (h0 : 20000 ≤ n) (h1 : n < 20480) :
    planeS (planesH R) b q (ix2 ⟨n / 128 % 160, by omega⟩ ⟨n % 128, by omega⟩) = (⊥ : EReal) := by
  rw [plane_at, planesH_at, dif_neg (by show ¬ n / 128 % 160 * 128 + n % 128 < 20000; omega), Reference.neg_inf]

/-- Minimum with plus or minus infinity is the choice between the score and minus infinity. -/
theorem min_select (p : BitVec 1) (s : EReal) : min s (Scalar.select p (⊥ : EReal) ⊤) = Scalar.select p ⊥ s := by
  rcases BitVec.eq_zero_or_eq_one p with rfl | rfl
  · exact min_eq_left le_top
  · exact min_eq_right bot_le

theorem select_same (p : BitVec 1) (s : EReal) : Scalar.select p s s = s := by
  rcases BitVec.eq_zero_or_eq_one p with rfl | rfl <;> rfl

/-- The reference's next score, from the box chosen. -/
theorem next_score (hV : Fixed R V) (n : Fin 20000) :
    (Cert.ReferenceIdeal.Value.step_main_v18_6 V : FVec Ideal Cert.ReferenceIdeal.S4x20000 .f32) (ix2 b n)
    = Scalar.select (IntOp.ori (IntOp.andi (over (chosenR V (ix2 b 0)) (chosenR V (ix2 b 1)) (chosenR V (ix2 b 2)) (chosenR V (ix2 b 3))
        (R (ix3 b n 0)) (R (ix3 b n 1)) (R (ix3 b n 2)) (R (ix3 b n 3))) (validR V (ix1 b)))
        (IntOp.cmpi .eq (slotsR V (ix1 n)) (idxR V (ix1 b)))) (⊥ : EReal) (scoresR V (ix2 b n)) := by
  rw [score_at, inter_at, hV.areas, hV.boxes, hV.boxes, hV.boxes, hV.boxes, Reference.neg_inf, pos_inf, min_select]
  rfl

/-- The scores handed on agree. -/
theorem next_agrees (hR : Proper R) (hV : Fixed R V) (h : Agrees R b a (fun n => scoresR V (ix2 b n))) :
    Agrees R b (nextS (planesH R) (coordsH R) b a)
      (fun n => (Cert.ReferenceIdeal.Value.step_main_v18_6 V : FVec Ideal Cert.ReferenceIdeal.S4x20000 .f32) (ix2 b n)) where
  low n := by
    show nextS (planesH R) (coordsH R) b a (ix2 _ _) = _
    rw [next_at, plane_low 0 n, plane_low 1 n, plane_low 2 n, plane_low 3 n, next_score hV, valid_eq h, Reference.neg_inf]
    have hs : a (ix2 ⟨n.val / 128 % 160, by omega⟩ ⟨n.val % 128, by omega⟩) = scoresR V (ix2 b n) := h.low n
    rw [hs]
    by_cases hb : bestVal a = (⊥ : EReal)
    · have hs0 : scoresR V (ix2 b n) = (⊥ : EReal) := le_bot_iff.1 ((le_bestR V b n).trans ((best_eq h).trans hb).le)
      rw [hs0]
      exact (select_same _ _).trans (select_same _ _).symm
    · obtain ⟨w, ei, ec, ek, -⟩ := chosen hR hV h hb
      rw [valid_of_ne hb, ei, hV.slots, ec, ec, ec, ec, ek, ek, ek, ek]
      refine congrArg (fun p => Scalar.select p (⊥ : EReal) (scoresR V (ix2 b n))) ?_
      by_cases hn : n = w
      · subst hn
        have := over_self _ _ _ _ (hR.x0 b n) (hR.x b n) (hR.x2 b n) (hR.y0 b n) (hR.y b n) (hR.y2 b n)
        show IntOp.andi (over (R (ix3 b n 0)) (R (ix3 b n 1)) (R (ix3 b n 2)) (R (ix3 b n 3)) (R (ix3 b n 0)) (R (ix3 b n 1)) (R (ix3 b n 2)) (R (ix3 b n 3))) 1#1
          = IntOp.ori (IntOp.andi (over (R (ix3 b n 0)) (R (ix3 b n 1)) (R (ix3 b n 2)) (R (ix3 b n 3)) (R (ix3 b n 0)) (R (ix3 b n 1)) (R (ix3 b n 2)) (R (ix3 b n 3))) 1#1) _
        rw [this]
        generalize IntOp.cmpi .eq _ _ = p
        revert p
        decide
      · have : IntOp.cmpi .eq (BitVec.ofNat 32 n.val) (BitVec.ofNat 32 w.val) = 0#1 := by
          have hne : BitVec.ofNat 32 n.val ≠ BitVec.ofNat 32 w.val := fun e => hn (Fin.ext (by
            have e := congrArg BitVec.toNat e
            simp only [BitVec.toNat_ofNat] at e
            omega))
          show BitVec.ofBool (BitVec.ofNat 32 n.val == BitVec.ofNat 32 w.val) = 0#1
          rw [beq_eq_false_iff_ne.2 hne]
          rfl
        rw [this]
        show IntOp.andi (over (R (ix3 b w 0)) (R (ix3 b w 1)) (R (ix3 b w 2)) (R (ix3 b w 3)) (R (ix3 b n 0)) (R (ix3 b n 1)) (R (ix3 b n 2)) (R (ix3 b n 3))) 1#1
          = IntOp.ori (IntOp.andi (over (R (ix3 b w 0)) (R (ix3 b w 1)) (R (ix3 b w 2)) (R (ix3 b w 3)) (R (ix3 b n 0)) (R (ix3 b n 1)) (R (ix3 b n 2)) (R (ix3 b n 3))) 1#1) 0#1
        generalize over _ _ _ _ _ _ _ _ = p
        revert p
        decide
  high n h0 h1 := by
    show nextS (planesH R) (coordsH R) b a (ix2 _ _) = _
    have hs : a (ix2 ⟨n / 128 % 160, by omega⟩ ⟨n % 128, by omega⟩) = (⊥ : EReal) := h.high n h0 h1
    rw [next_at, hs, Reference.neg_inf]
    exact select_same _ _
  own n := by
    rw [next_score hV]
    generalize IntOp.ori _ _ = p
    rcases BitVec.eq_zero_or_eq_one p with rfl | rfl
    · exact h.own n
    · exact Or.inr rfl

theorem zero_eq : (zeroF (F := Ideal) : EReal) = 0 := Ideal.ofBits_zero_f32
theorem kept_none {x2 : Vec Ideal Cert.KernelIdeal.S4x4x2560x8 .f32} (h : valid a = 0#1) (q : Fin 4) : keptS x2 b a q = (0 : EReal) := by
  unfold keptS
  generalize cornerS x2 b q a = z
  rw [h]
  exact zero_eq
theorem kept_some {x2 : Vec Ideal Cert.KernelIdeal.S4x4x2560x8 .f32} (h : valid a = 1#1) (q : Fin 4) : keptS x2 b a q = cornerS x2 b q a := by
  unfold keptS
  generalize cornerS x2 b q a = z
  rw [h]
  rfl
theorem score_none (h : valid a = 0#1) : keptScore a = (0 : EReal) := by
  unfold keptScore
  generalize bestVal a = z
  rw [h]
  exact zero_eq
theorem score_some (h : valid a = 1#1) : keptScore a = bestVal a := by
  unfold keptScore
  generalize bestVal a = z
  rw [h]
  rfl

/-- The row written agrees. -/
theorem row_agrees (hR : Proper R) (hV : Fixed R V) (h : Agrees R b a (fun n => scoresR V (ix2 b n))) (q : Fin 5) :
    rowOfKept (keptS (coordsH R) b a) (keptScore a) (ValueIdx.ix3 0 0 q) = rowR V (ix2 b q) := by
  rw [Reference.row_at, valid_eq h]
  have key : (∀ q : Fin 4, keptS (coordsH R) b a q = Scalar.select (valid a) (chosenR V (ix2 b q.castSucc)) (0 : EReal))
      ∧ keptScore a = Scalar.select (valid a) (chosenR V (ix2 b 4)) (0 : EReal) := by
    by_cases hb : bestVal a = (⊥ : EReal)
    · rw [valid_of_bot hb]
      exact ⟨fun q => kept_none (valid_of_bot hb) q, score_none (valid_of_bot hb)⟩
    · obtain ⟨w, -, ec, ek, eb⟩ := chosen hR hV h hb
      rw [valid_of_ne hb]
      refine ⟨fun q => ?_, ?_⟩
      · rw [kept_some (valid_of_ne hb), ek, ec]; rfl
      · rw [score_some (valid_of_ne hb), eb, ec]; rfl
  obtain ⟨r0, r1⟩ := KernelIdeal.row_at (keptS (coordsH R) b a) (keptScore a)
  refine Fin.lastCases ?_ (fun q => ?_) q
  · exact r1.trans key.2
  · exact (r0 q).trans (key.1 q)

end Cert.Proof.Join
-- ==== Proof.V.Entry.lean ====
module

public import proofs.«01_k».proof.Proof.V.RefStep

/-! What the reference carries as its selection starts, and what each trip leaves alone. -/

@[expose] public section

set_option maxRecDepth 65536
set_option maxHeartbeats 400000

noncomputable section

namespace Cert.Proof.Reference

open Cert.ReferenceIdeal Cert.ReferenceIdeal.Gen Cert.ReferenceIdeal.Value
open Idealize.ShloMosaic Idealize.ShloMosaic.TcCoe Idealize.SL.Sem Idealize.ShloMosaic.StableHlo

variable (m : (ℓ : Loc nD τ sig) → Buf (Elt Ideal) ℓ) (c : Dev nD)

abbrev rectsArg : FVec Ideal S4x20000x5 .f32 := m ((c.tc : Thread nD τ).loc main_arg0)

/-- The contents as the selection starts. -/
abbrev start : Valuation τ sig (Elt Ideal) := entryContents preI m c

theorem start_slots (n : Fin 20000) : slotsR (start m c) (ix1 n) = BitVec.ofNat 32 n.val := by
  have e : slotsR (start m c) = iotaInDim S20000 32 0 := by
    simp only [slotsR, start, entryContents, afterL_cons, afterL_nil]; after_reads_simp; rfl
  rw [e]; rfl

theorem start_images (b : Fin 4) : imagesR (start m c) (ix1 b) = BitVec.ofNat 32 b.val := by
  have e : imagesR (start m c) = iotaInDim S4 32 0 := by
    simp only [imagesR, start, entryContents, afterL_cons, afterL_nil]; after_reads_simp; rfl
  rw [e]; rfl

theorem start_rects : rectsR (start m c) = rectsArg m c := by
  simp only [rectsR, start, entryContents, afterL_cons, afterL_nil]; after_reads_simp; rfl

theorem start_boxes (b : Fin 4) (n : Fin 20000) (q : Fin 4) : boxesR (start m c) (ix3 b n q) = rectsArg m c (ix3 b n q.castSucc) := by
  have e : boxesR (start m c) = extractStridedSlice S4x20000x4 ![0, 0, 0] (rectsArg m c) slices_S4x20000x5_S4x20000x4_0_0_0 := by
    simp only [boxesR, start, entryContents, afterL_cons, afterL_nil]; after_reads_simp; rfl
  rw [e]
  generalize rectsArg m c = R
  pointwise
  rfl

/-- The areas of the boxes of an array. -/
def areasOf (R : FVec Ideal S4x20000x5 .f32) : FVec Ideal S4x20000 .f32 :=
  let B := extractStridedSlice S4x20000x4 ![0, 0, 0] R slices_S4x20000x5_S4x20000x4_0_0_0
  mulf (subf (shapeCast S4x20000 (extractStridedSlice S4x20000x1 ![0, 0, 2] B slices_S4x20000x4_S4x20000x1_0_0_2) shapeCasts_S4x20000x1_S4x20000)
      (shapeCast S4x20000 (extractStridedSlice S4x20000x1 ![0, 0, 0] B slices_S4x20000x4_S4x20000x1_0_0_0) shapeCasts_S4x20000x1_S4x20000))
    (subf (shapeCast S4x20000 (extractStridedSlice S4x20000x1 ![0, 0, 3] B slices_S4x20000x4_S4x20000x1_0_0_3) shapeCasts_S4x20000x1_S4x20000)
      (shapeCast S4x20000 (extractStridedSlice S4x20000x1 ![0, 0, 1] B slices_S4x20000x4_S4x20000x1_0_0_1) shapeCasts_S4x20000x1_S4x20000))

theorem areasOf_at (R : FVec Ideal S4x20000x5 .f32) (b : Fin 4) (n : Fin 20000) :
    areasOf R (ix2 b n) = (R (ix3 b n 2) - R (ix3 b n 0)) * (R (ix3 b n 3) - R (ix3 b n 1)) := by
  unfold areasOf
  pointwise

theorem start_areas (b : Fin 4) (n : Fin 20000) : areasR (start m c) (ix2 b n)
    = (rectsArg m c (ix3 b n 2) - rectsArg m c (ix3 b n 0)) * (rectsArg m c (ix3 b n 3) - rectsArg m c (ix3 b n 1)) := by
  have e : areasR (start m c) = areasOf (rectsArg m c) := by
    simp only [areasR, start, entryContents, afterL_cons, afterL_nil]; after_reads_simp; rfl
  rw [e, areasOf_at]

theorem start_count : countR (start m c) ix0 = BitVec.ofNat 32 0 := by
  have e : countR (start m c) = constantI S_ 32 0#32 := by
    simp only [countR, start, entryContents, afterL_cons, afterL_nil]; after_reads_simp; rfl
  rw [e]; rfl

theorem start_scores (b : Fin 4) (n : Fin 20000) : scoresR (start m c) (ix2 b n) = rectsArg m c (ix3 b n 4) := by
  have e : scoresR (start m c) = shapeCast S4x20000 (extractStridedSlice S4x20000x1 ![0, 0, 4] (rectsArg m c) slices_S4x20000x5_S4x20000x1_0_0_4) shapeCasts_S4x20000x1_S4x20000 := by
    simp only [scoresR, start, entryContents, afterL_cons, afterL_nil]; after_reads_simp; rfl
  rw [e]
  generalize rectsArg m c = R
  pointwise

end Cert.Proof.Reference
-- ==== Proof.V.Rows.lean ====
module

public import proofs.«01_k».proof.Proof.V.Join
public import proofs.«01_k».proof.Proof.V.Entry

/-! The hundred trips: the reference's rows are the kernel's. -/

@[expose] public section

set_option maxRecDepth 16384
set_option maxHeartbeats 400000

noncomputable section

namespace Cert.Proof.Join

open Idealize.ShloMosaic Idealize.ShloMosaic.TcCoe Idealize.SL.Sem
open Cert.Proof.KernelIdeal Cert.Proof.Reference
open Cert.ReferenceIdeal Cert.ReferenceIdeal.Value

/-- What holds of the reference's contents after `k` trips. -/
structure Inv (R : Rects) (k : ℕ) (V : Valuation τ sig (Elt Ideal)) : Prop where
  fixed : Fixed R V
  scores : ∀ b, Agrees R b (fieldS (planesH R) (coordsH R) b k) (fun n => scoresR V (ix2 b n))
  count : countR V ix0 = BitVec.ofNat 32 k
  rows : ∀ j : Fin 100, j.val < k → ∀ b q, rowsR V (ix3 j b q) = rowS (planesH R) (coordsH R) (ix3 b j q)

theorem Fixed.step {R : Rects} {V : Valuation τ sig (Elt Ideal)} (h : Fixed R V) : Fixed R (STEP V) where
  slots n := (congrFun (STEP_main_v18_0 V) (ix1 n)).trans (h.slots n)
  images b := (congrFun (STEP_main_v18_1 V) (ix1 b)).trans (h.images b)
  rects := (STEP_main_v18_2 V).trans h.rects
  boxes b n q := (congrFun (STEP_main_v18_3 V) (ix3 b n q)).trans (h.boxes b n q)
  areas b n := (congrFun (STEP_main_v18_4 V) (ix2 b n)).trans (h.areas b n)

theorem count_step (V : Valuation τ sig (Elt Ideal)) (k : ℕ) (h : countR V ix0 = BitVec.ofNat 32 k) :
    countR (STEP V) ix0 = BitVec.ofNat 32 (k + 1) := by
  refine (congrFun (STEP_main_v18_5 V) ix0).trans ?_
  show IntOp.addi (countR V ix0) 1#32 = _
  rw [h]
  show BitVec.ofNat 32 k + 1#32 = _
  rw [BitVec.ofNat_add]

theorem Inv.step {R : Rects} (hR : Proper R) {k : ℕ} (hk : k < 100) {V : Valuation τ sig (Elt Ideal)} (h : Inv R k V) : Inv R (k + 1) (STEP V) where
  fixed := h.fixed.step
  scores b := by
    have e : (fun n => scoresR (STEP V) (ix2 b n)) = fun n => (step_main_v18_6 V : FVec Ideal S4x20000 .f32) (ix2 b n) :=
      funext fun n => congrFun (STEP_main_v18_6 V) (ix2 b n)
    rw [e]
    exact next_agrees hR h.fixed (h.scores b)
  count := count_step V k h.count
  rows j hj b q := by
    refine (congrFun (STEP_main_v18_8 V) (ix3 j b q)).trans ((rows_at V j b q k hk h.count).trans ?_)
    by_cases e : j.val = k
    · rw [if_pos e, ← row_agrees hR h.fixed (h.scores b) q]
      subst e
      rfl
    · rw [if_neg e]
      exact h.rows j (by omega) b q

theorem inv_zero (m : (ℓ : Loc nD τ sig) → Buf (Elt Ideal) ℓ) (c : Dev nD) : Inv (rectsArg m c) 0 (start m c) where
  fixed := {
    slots := start_slots m c
    images := start_images m c
    rects := start_rects m c
    boxes := start_boxes m c
    areas := start_areas m c }
  scores b := {
    low := fun n => by
      rw [start_scores]
      exact plane_low 4 n
    high := fun n h0 h1 => plane_high 4 n h0 h1
    own := fun n => Or.inl (start_scores m c b n) }
  count := start_count m c
  rows j hj := absurd hj (Nat.not_lt_zero _)

theorem inv_all (m : (ℓ : Loc nD τ sig) → Buf (Elt Ideal) ℓ) (c : Dev nD) (hR : Proper (rectsArg m c)) :
    ∀ k, k ≤ 100 → Inv (rectsArg m c) k (STEP^[k] (start m c))
  | 0, _ => inv_zero m c
  | k + 1, h => by
    rw [Function.iterate_succ_apply']
    exact (inv_all m c hR k (by omega)).step hR (by omega)

/-- The reference's rows are the kernel's. -/
theorem rows_same (m : (ℓ : Loc nD τ sig) → Buf (Elt Ideal) ℓ) (c : Dev nD) (hR : Proper (rectsArg m c)) :
    out_main_v19 (STEP^[100] (start m c)) = rowS (planesH (rectsArg m c)) (coordsH (rectsArg m c)) := by
  have h := (inv_all m c hR 100 le_rfl).rows
  generalize STEP^[100] (start m c) = V at h
  have e : ∀ (x : FVec Ideal S100x4x5 .f32) (b : Fin 4) (j : Fin 100) (q : Fin 5),
      transpose S4x100x5 [1, 0, 2] x Gen.transposes_S100x4x5_S4x100x5_1_0_2 (ix3 b j q) = x (ix3 j b q) := fun x b j q => by
    pointwise
  have key : ∀ (b : Fin 4) (j : Fin 100) (q : Fin 5), (out_main_v19 V : FVec Ideal S4x100x5 .f32) (ix3 b j q)
      = rowS (planesH (rectsArg m c)) (coordsH (rectsArg m c)) (ix3 b j q) := fun b j q =>
    (e (rowsR V) b j q).trans (h j j.isLt b q)
  have split : ∀ y : S4x100x5.Idx, y = ix3 (y 0) (y 1) (y 2) := fun y => funext fun a => by
    match a with
    | ⟨0, _⟩ => rfl
    | ⟨1, _⟩ => rfl
    | ⟨2, _⟩ => rfl
  exact funext fun y => (split y) ▸ key (y 0) (y 1) (y 2)

end Cert.Proof.Join
-- ==== Proof.V.Pre.lean ====
module

public import proofs.«01_k».proof.Pre_boxes_proper_scores_apart
public import Idealize.ShloMosaic.PureOps.Ideal.Laws
public import Idealize.ShloMosaic.Lib.ReduceAll
public import Idealize.ShloMosaic.Lib.ValueIdxCore
public import Idealize.ShloMosaic.Lib.Pointwise
public import Idealize.ShloMosaic.Lib.Pointwise.Reshape
public import Idealize.ShloMosaic.Lib.WordCmp

/-! The precondition, read box by box: every box has finite corners in order, and two boxes of one image with the same score
are one box unless that score is minus infinity. -/

@[expose] public section

set_option maxRecDepth 16384
set_option maxHeartbeats 400000

noncomputable section

namespace Cert.Pre_boxes_proper_scores_apart

open Idealize.ShloMosaic

/-- The shapes the condition's operations meet are as they should be. -/
theorem facts_hold : Facts where
  slices_S4x20000x5_S4x20000x1_0_0_0 := by decide
  shapeCasts_S4x20000x1_S4x20000 := by decide
  slices_S4x20000x5_S4x20000x1_0_0_1 := by decide
  slices_S4x20000x5_S4x20000x1_0_0_2 := by decide
  slices_S4x20000x5_S4x20000x1_0_0_3 := by decide
  slices_S4x20000x5_S4x20000x1_0_0_4 := by decide
  bcast_S_S4x20000 := by decide
  bcast_S4x20000_S4x20000x1_0_1 := by decide
  bcast_S4x20000_S4x1x20000_0_2 := by decide
  bcast_S20000_S20000x1_0 := by decide
  bcast_S20000_S1x20000_1 := by decide
  bcast_S20000x1_S20000x20000_0_1 := by decide
  bcast_S1x20000_S20000x20000_0_1 := by decide
  bcast_S20000x20000_S1x20000x20000_1_2 := by decide
  bcast_S4x20000x1_S4x20000x20000_0_1_2 := by decide
  bcast_S4x1x20000_S4x20000x20000_0_1_2 := by decide
  bcast_S_S4x20000x1 := by decide
  bcast_S1x20000x20000_S4x20000x20000_0_1_2 := by decide
  reducesTo_S4x20000_S_d0_1 := by decide
  h_S_ := by decide
  reducesTo_S4x20000x20000_S_d0_1_2 := by decide

variable [Facts]
open Facts

instance : Subsingleton S_.Idx := ⟨fun a b => funext fun x => x.elim0⟩

theorem ofBool_one (p : Bool) : BitVec.ofBool p = 1#1 ↔ p = true := by cases p <;> decide

/-- The two conditions under the one word. -/
theorem parts (R : FVec Ideal S4x20000x5 .f32) (I : FVec Ideal S4x512x512x3 .f32) (h : fn (F := Ideal) R I ix0 = 1#1) :
    (∀ (b : Fin 4) (n : Fin 20000), (Ideal.ofBits .f32 0xFF800000#32 < R (ix3 b n 0) ∧ R (ix3 b n 0) < R (ix3 b n 2)
        ∧ R (ix3 b n 2) < Ideal.ofBits .f32 0x7F800000#32)
      ∧ Ideal.ofBits .f32 0xFF800000#32 < R (ix3 b n 1) ∧ R (ix3 b n 1) < R (ix3 b n 3) ∧ R (ix3 b n 3) < Ideal.ofBits .f32 0x7F800000#32)
    ∧ ∀ (b : Fin 4) (n k : Fin 20000), R (ix3 b n 4) = R (ix3 b k 4) → R (ix3 b n 4) ≠ Ideal.ofBits .f32 0xFF800000#32 → n = k := by
  unfold fn fn_part1 fn_part2 at h
  have h' := IntOp.andi_eq_one.1 h
  refine ⟨fun b n => ?_, fun b n k => ?_⟩
  · have e := Host.reduce_andi_all _ _ _ _ _ h'.1 (ix2 b n)
    revert e
    pointwise
    simp only [IntOp.andi_eq_one, ofBool_one, decide_eq_true_eq, and_assoc]
    exact fun e => e
  · have e := Host.reduce_andi_all _ _ _ _ _ h'.2 (ix3 b n k)
    revert e
    pointwise
    simp only [IntOp.ori_eq_one, ofBool_one, decide_eq_true_eq, IntOp.cmpi_eq]
    rintro ((e | e) | e) e' e''
    · exact absurd e' e
    · exact absurd e e''
    · have := congrArg BitVec.toNat e
      simp only [BitVec.toNat_ofNat] at this
      have := n.isLt
      have := k.isLt
      exact Fin.ext (by omega)

end Cert.Pre_boxes_proper_scores_apart
-- ==== Proof.K.Frames.lean ====
module

public import proofs.«01_k».proof.Proof.K.Run
public import proofs.«01_k».proof.Proof.Gen.Kernel
public import proofs.«01_k».proof.Proof.Gen.ReferenceIdeal.Run
public import proofs.«01_k».proof.Defs

/-!
# The frames

The kernel's run ends with both arguments as they were and every semaphore counter at zero: read off the run of
the whole program (`run_main`), which holds of every float type. The printed program before the idealizing
rewrite is the same term, so its frame is the same run at machine floats. The reference is straight host code
around one loop; its generated run says what its arguments end at, and it declares no semaphore.
-/

@[expose] public section

noncomputable section

namespace Cert.Proof

open Idealize.ShloMosaic Idealize.ShloMosaic.TcCoe Idealize.SL.Sem

variable {F : FTy → Type} [FloatOps F]

/-- The kernel's program, of any float type: both arguments end unchanged, every counter at zero. -/
theorem kernel_quiet (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F)))
      ⟨m, fun _ => 0, g⟩ (fun r =>
        (∀ c : Dev Cert.KernelIdeal.nD,
          r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
              = m ((c.tc : Thread Cert.KernelIdeal.nD Cert.KernelIdeal.τ).loc Cert.KernelIdeal.main_arg1))
        ∧ r.2.sem = fun _ => 0) :=
  (θ_run Cert.KernelIdeal.defs _ _).mono
    (fun _ h => ⟨fun c =>
      ⟨((h.1 c).2 Cert.KernelIdeal.main_arg0 (Pipeline.mem_restRefs_of Cert.KernelIdeal.main_arg0 (by decide) (by decide))).trans
          (Cert.KernelIdeal.Gen.W_main_arg0 m (Cert.Proof.KernelIdeal.dats m) c),
        ((h.1 c).2 Cert.KernelIdeal.main_arg1 (Pipeline.mem_restRefs_of Cert.KernelIdeal.main_arg1 (by decide) (by decide))).trans
          (Cert.KernelIdeal.Gen.W_main_arg1 m (Cert.Proof.KernelIdeal.dats m) c)⟩, h.2⟩)
    (Cert.Proof.KernelIdeal.run_main m g)

/-- The reference, of any float type: both arguments end unchanged, every counter at zero. -/
theorem reference_quiet (m : (ℓ : Loc Cert.ReferenceIdeal.nD Cert.ReferenceIdeal.τ Cert.ReferenceIdeal.sig) → Buf (Elt F) ℓ)
    (g : Dev Cert.ReferenceIdeal.nD → PrngReg) :
    θ_run (Cert.ReferenceIdeal.defs (F := F)) (onTc (τ := Cert.ReferenceIdeal.τ) (Cert.ReferenceIdeal.main (F := F)))
      ⟨m, fun _ => 0, g⟩ (fun r =>
        (∀ c : Dev Cert.ReferenceIdeal.nD,
          r.2.mem ((c.tc : Thread Cert.ReferenceIdeal.nD Cert.ReferenceIdeal.τ).loc Cert.ReferenceIdeal.main_arg0)
              = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
              = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2.2, Idealize.ShloMosaic.sem_eq_zero_of_no_sems (by decide) r.2⟩)
    (Cert.ReferenceIdeal.Value.run m g)

/-- The two printed programs are one term: the body, the pipeline's configuration, the host code. -/
theorem main_same : @Cert.Kernel.main F _ Cert.Kernel.Gen.facts = @Cert.KernelIdeal.main F _ Cert.KernelIdeal.Gen.facts := rfl

set_option maxRecDepth 100000 in
theorem defs0_same : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l a
  match l, a with
  | 0, (t, s) => rfl

set_option maxRecDepth 100000 in
theorem defs_same : @Cert.Kernel.defs F _ Cert.Kernel.Gen.facts = @Cert.KernelIdeal.defs F _ Cert.KernelIdeal.Gen.facts :=
  congrArg (Pipeline.defs Cert.Kernel.pcfgs) defs0_same

theorem quiet_kernel : Cert.quiescent_Kernel := by
  intro m g _
  have h := kernel_quiet (F := Bits) m g
  rw [← defs_same, ← main_same] at h
  exact h

theorem quiet_kernelIdeal : Cert.quiescent_KernelIdeal :=
  fun m g _ => kernel_quiet m g

theorem quiet_referenceIdeal : Cert.quiescent_ReferenceIdeal :=
  fun m g _ => reference_quiet m g

end Cert.Proof

end
-- ==== Proof.V.Final.lean ====
module

public import proofs.«01_k».proof.Proof.V.Rows
public import proofs.«01_k».proof.Proof.V.Pre
public import proofs.«01_k».proof.Proof.K.Frames
public import proofs.«01_k».proof.On_rows_only
public import proofs.«01_k».proof.Defs

/-! The rows of the two programs are equal, and the frame claims under the precondition. -/

@[expose] public section

set_option maxRecDepth 16384
set_option maxHeartbeats 400000

noncomputable section

namespace Cert.On_rows_only

open Idealize.ShloMosaic

theorem facts_hold : Facts where
  bcast_S_S4x100x24x24x3 := by decide
  bcast_S_S4x100x5 := by decide

variable [Facts]

/-- The mask leaves the crops out. -/
theorem crops_out (R : FVec Ideal S4x20000x5 .f32) (I : FVec Ideal S4x512x512x3 .f32) (i : S4x100x24x24x3.Idx) :
    (fn (F := Ideal) R I).1 i ≠ 1#1 := by
  show (0#1 : BitVec 1) ≠ 1#1
  decide

end Cert.On_rows_only

namespace Cert.Proof

open Idealize.ShloMosaic Idealize.ShloMosaic.TcCoe Idealize.SL.Sem
open Cert.Proof.KernelIdeal Cert.Proof.Reference Cert.Proof.Join

/-- The precondition in words. -/
theorem proper_of_pre (hF : Cert.Pre_boxes_proper_scores_apart.Facts) (R : Rects) (I : FVec Ideal Cert.Pre_boxes_proper_scores_apart.S4x512x512x3 .f32)
    (h : Cert.Pre_boxes_proper_scores_apart.fn (F := Ideal) R I = fun _ => 1#1) : Proper R := by
  obtain ⟨hb, hs⟩ := Cert.Pre_boxes_proper_scores_apart.parts R I (congrFun h ix0)
  simp only [Reference.neg_inf, Reference.pos_inf] at hb hs
  exact {
    x0 := fun b n => (hb b n).1.1
    x := fun b n => (hb b n).1.2.1
    x2 := fun b n => (hb b n).1.2.2
    y0 := fun b n => (hb b n).2.1
    y := fun b n => (hb b n).2.2.1
    y2 := fun b n => (hb b n).2.2.2
    apart := hs }

section

open Cert.KernelIdeal Cert.KernelIdeal.Gen

/-- The kernel runs, ends with its rows as computed and its arguments as they were. -/
theorem kernel_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9_1) = rowsK m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 4).trans (final_rows m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩)
    (run_main m ρ)

end

theorem quiet_kernelIdeal_pre (hF : Cert.Pre_boxes_proper_scores_apart.Facts) :
    Cert.quiescent_KernelIdeal_pre_boxes_proper_scores_apart (hKernelIdeal := Cert.KernelIdeal.Gen.facts) (hPre_boxes_proper_scores_apart := hF) :=
  fun m g _ => kernel_quiet m g

theorem quiet_referenceIdeal_pre (hF : Cert.Pre_boxes_proper_scores_apart.Facts) :
    Cert.quiescent_ReferenceIdeal_pre_boxes_proper_scores_apart (hReferenceIdeal := Cert.ReferenceIdeal.Gen.facts) (hPre_boxes_proper_scores_apart := hF) :=
  fun m g _ => reference_quiet m g

/-- The rows agree, over the extended reals, under the precondition. -/
theorem rows_equal (hF : Cert.Pre_boxes_proper_scores_apart.Facts) (hO : Cert.On_rows_only.Facts) :
    Cert.algebraic_KernelIdeal_ReferenceIdeal_on_rows_only_pre_boxes_proper_scores_apart (hKernelIdeal := Cert.KernelIdeal.Gen.facts)
      (hReferenceIdeal := Cert.ReferenceIdeal.Gen.facts) (hPre_boxes_proper_scores_apart := hF) (hOn_rows_only := hO) := by
  intro m g m' g' hp ha
  refine ⟨fun c => m ((c.tc : Thread Cert.KernelIdeal.nD Cert.KernelIdeal.τ).loc Cert.KernelIdeal.main_v10), fun c => rowsK m c, ?_, ?_⟩
  · exact (θ_run Cert.KernelIdeal.defs _ _).mono
      (fun r h c => ⟨fun i hi => absurd hi (Cert.On_rows_only.crops_out _ _ i), fun i _ => congrFun (h c).1 i, (h c).2⟩) (kernel_rows m g)
  · refine (θ_run Cert.ReferenceIdeal.defs _ _).mono
      (fun r h c => ⟨fun i hi => absurd hi (Cert.On_rows_only.crops_out _ _ i), fun i _ => ?_, (h c).2.2⟩) (Cert.ReferenceIdeal.Value.run m' g')
    have hR : Proper (rectsK m c) := proper_of_pre hF _ _ (hp c)
    have e : rectsArg m' c = rectsK m c := (ha c).1
    have same := rows_same m' c (e ▸ hR)
    rw [e] at same
    exact congrFun ((h c).2.1.trans same) i

end Cert.Proof
-- ==== Proof.V.Hat.lean ====
module

public import Idealize.ShloMosaic.PureOps.Ideal.Laws
public import Idealize.ShloMosaic.Lib.ValueIdxCore

/-! A hat about a place, summed over the lines of an image, picks the two lines about the place and blends them. -/

@[expose] public section

set_option maxRecDepth 16384
set_option maxHeartbeats 400000

noncomputable section

namespace Cert.Proof.Hat

open Idealize.ShloMosaic

/-- The word of a line number, kept in the image. -/
def word (s : EReal) : BitVec 32 :=
  Ideal.fptosi 32 (min (((511#32 : BitVec 32).toInt : ℝ) : EReal) (max (((0#32 : BitVec 32).toInt : ℝ) : EReal) s))
/-- The line before a place. -/
def line0 (s : EReal) : Fin 512 := ⟨min (word (Ideal.liftRound Int.floor s)).toInt.toNat 511, by omega⟩
/-- The line after it. -/
def line1 (s : EReal) : Fin 512 := ⟨min (word (Ideal.liftRound Int.floor s + 1)).toInt.toNat 511, by omega⟩
/-- How far past the line before. -/
def past (s : EReal) : EReal := s - Ideal.liftRound Int.floor s
/-- The hat about a place, at a line. -/
def hat (r : ℕ) (s : EReal) : EReal :=
  max (1 - max ((((BitVec.ofNat 32 r).toInt : ℝ) : EReal) - s) (-((((BitVec.ofNat 32 r).toInt : ℝ) : EReal) - s))) 0

theorem toInt_small (r : ℕ) (h : r < 512) : (BitVec.ofNat 32 r).toInt = (r : ℤ) := by
  rw [BitVec.toInt_eq_toNat_of_lt (by rw [BitVec.toNat_ofNat]; omega), BitVec.toNat_ofNat]
  omega

theorem word_coe (z : ℤ) : (word ((z : ℝ) : EReal)).toInt = min 511 (max 0 z) := by
  have e0 : (0#32 : BitVec 32).toInt = 0 := by decide
  have e1 : (511#32 : BitVec 32).toInt = 511 := by decide
  have hc : min (((511#32 : BitVec 32).toInt : ℝ) : EReal) (max (((0#32 : BitVec 32).toInt : ℝ) : EReal) ((z : ℝ) : EReal))
      = (((min 511 (max 0 z) : ℤ) : ℝ) : EReal) := by
    rw [e0, e1, ← EReal.coe_strictMono.monotone.map_max, ← EReal.coe_strictMono.monotone.map_min]
    push_cast
    rfl
  unfold word
  rw [hc]
  generalize hz : min 511 (max 0 z) = y
  have h0 : 0 ≤ y := by omega
  have h1 : y ≤ 511 := by omega
  unfold Ideal.fptosi
  rw [Ideal.toIntClamped_coe, if_pos (by exact_mod_cast h0), Int.floor_intCast, BitVec.toInt_ofInt]
  have : max (-((2 ^ (32 - 1) : ℕ) : ℤ)) (min (((2 ^ (32 - 1) : ℕ) : ℤ) - 1) y) = y := by
    norm_num
    omega
  rw [this]
  unfold Int.bmod
  norm_num
  omega

theorem line0_coe (x : ℝ) : ((line0 (x : EReal)).val : ℤ) = min 511 (max 0 ⌊x⌋) := by
  show ((min (word (Ideal.liftRound Int.floor (x : EReal))).toInt.toNat 511 : ℕ) : ℤ) = _
  rw [Ideal.liftRound_coe]
  rw [word_coe]
  omega

theorem line1_coe (x : ℝ) : ((line1 (x : EReal)).val : ℤ) = min 511 (max 0 (⌊x⌋ + 1)) := by
  have e : ((⌊x⌋ : ℝ) : EReal) + 1 = (((⌊x⌋ + 1 : ℤ) : ℝ) : EReal) := by push_cast; rfl
  show ((min (word (Ideal.liftRound Int.floor (x : EReal) + 1)).toInt.toNat 511 : ℕ) : ℤ) = _
  rw [Ideal.liftRound_coe, e, word_coe]
  omega

theorem past_coe (x : ℝ) : past (x : EReal) = ((x - ⌊x⌋ : ℝ) : EReal) := by
  unfold past
  rw [Ideal.liftRound_coe, EReal.coe_sub]

theorem hat_coe (r : ℕ) (h : r < 512) (x : ℝ) : hat r (x : EReal) = ((max (1 - |(r : ℝ) - x|) 0 : ℝ) : EReal) := by
  unfold hat
  rw [toInt_small r h, abs_eq_max_neg, EReal.coe_strictMono.monotone.map_max, EReal.coe_sub, EReal.coe_strictMono.monotone.map_max,
    EReal.coe_neg, EReal.coe_sub]
  norm_cast

/-- A hat about a place no further than the last line, against any values. -/
theorem blend (x : ℝ) (hx : x ≤ 511) (f : Fin 512 → EReal) :
    ∑ r : Fin 512, f r * hat r.val (max (x : EReal) 0)
      = f (line0 (x : EReal)) * (1 - past (x : EReal)) + f (line1 (x : EReal)) * past (x : EReal) := by
  have hp0 : 0 ≤ x - ⌊x⌋ := sub_nonneg.2 (Int.floor_le x)
  have hp1 : x - ⌊x⌋ < 1 := by have := Int.lt_floor_add_one x; linarith
  have em : max (x : EReal) 0 = ((max x 0 : ℝ) : EReal) := by
    rw [EReal.coe_strictMono.monotone.map_max]; rfl
  have e1 : (1 : EReal) - past (x : EReal) = ((1 - (x - ⌊x⌋) : ℝ) : EReal) := by
    rw [past_coe, EReal.coe_sub]; rfl
  have same : line0 (x : EReal) = line1 (x : EReal) →
      f (line0 (x : EReal)) * (1 - past (x : EReal)) + f (line1 (x : EReal)) * past (x : EReal) = f (line0 (x : EReal)) := by
    intro h
    rw [← h, e1, past_coe, ← EReal.left_distrib_of_nonneg (by exact_mod_cast (by linarith : (0:ℝ) ≤ 1 - (x - ⌊x⌋))) (by exact_mod_cast hp0),
      ← EReal.coe_add]
    norm_num
  have l0 := line0_coe x
  have l1 := line1_coe x
  rw [em]
  by_cases hneg : x < 0
  · have hf : ⌊x⌋ < 0 := Int.floor_lt.2 (by simpa using hneg)
    have hl : line0 (x : EReal) = line1 (x : EReal) := Fin.ext (by omega)
    have hz : (line0 (x : EReal)) = 0 := Fin.ext (by show (line0 (x : EReal)).val = 0; omega)
    rw [same hl, max_eq_right hneg.le, Finset.sum_eq_single (0 : Fin 512), hz, hat_coe _ (by decide)]
    · norm_num
    · intro r _ hr
      have : (1 : ℝ) ≤ (r.val : ℝ) := by
        have : 1 ≤ r.val := Nat.one_le_iff_ne_zero.2 fun h => hr (Fin.ext h)
        exact_mod_cast this
      rw [hat_coe _ r.isLt, max_eq_right (by rw [sub_zero, abs_of_nonneg (by linarith)]; linarith), EReal.coe_zero, mul_zero]
    · intro h; exact absurd (Finset.mem_univ _) h
  · have hx0 : 0 ≤ x := not_lt.1 hneg
    have hf : 0 ≤ ⌊x⌋ := Int.floor_nonneg.2 hx0
    have hk : ⌊x⌋ ≤ 511 := Int.floor_le_iff.2 (by push_cast; linarith)
    have v0 : ((line0 (x : EReal)).val : ℝ) = (⌊x⌋ : ℝ) := by
      have : ((line0 (x : EReal)).val : ℤ) = ⌊x⌋ := by omega
      exact_mod_cast this
    have h0 : hat (line0 (x : EReal)).val (x : EReal) = 1 - past (x : EReal) := by
      rw [hat_coe _ (line0 (x : EReal)).isLt, e1, v0, abs_of_nonpos (by linarith), max_eq_left (by linarith)]
      congr 1; ring
    have far : ∀ r : Fin 512, (r.val : ℤ) ≠ ⌊x⌋ → (r.val : ℤ) ≠ ⌊x⌋ + 1 → f r * hat r.val (x : EReal) = 0 := by
      intro r hr0 hr1
      rw [hat_coe _ r.isLt, max_eq_right, EReal.coe_zero, mul_zero]
      rcases lt_or_gt_of_ne hr0 with h | h
      · have : (r.val : ℝ) + 1 ≤ (⌊x⌋ : ℝ) := by exact_mod_cast (by omega : (r.val : ℤ) + 1 ≤ ⌊x⌋)
        rw [abs_of_nonpos (by linarith)]; linarith
      · have : (⌊x⌋ : ℝ) + 2 ≤ (r.val : ℝ) := by exact_mod_cast (by omega : ⌊x⌋ + 2 ≤ (r.val : ℤ))
        rw [abs_of_nonneg (by linarith)]; linarith
    rw [max_eq_left hx0]
    by_cases hl : ⌊x⌋ = 511
    · have hl' : line0 (x : EReal) = line1 (x : EReal) := Fin.ext (by omega)
      have hx1 : x = 511 := le_antisymm hx (by have := Int.floor_le x; rw [hl] at this; exact_mod_cast this)
      have hp : past (x : EReal) = 0 := by rw [past_coe, hl, hx1]; norm_num
      rw [same hl', Finset.sum_eq_single (line0 (x : EReal)), h0, hp]
      · simp
      · intro r _ hr
        have : r.val ≠ (line0 (x : EReal)).val := fun h => hr (Fin.ext h)
        exact far r (by omega) (by omega)
      · intro h; exact absurd (Finset.mem_univ _) h
    · have hne : line0 (x : EReal) ≠ line1 (x : EReal) := fun h => by
        have := congrArg Fin.val h
        omega
      have v1 : ((line1 (x : EReal)).val : ℝ) = (⌊x⌋ : ℝ) + 1 := by
        have : ((line1 (x : EReal)).val : ℤ) = ⌊x⌋ + 1 := by omega
        exact_mod_cast this
      have h1 : hat (line1 (x : EReal)).val (x : EReal) = past (x : EReal) := by
        rw [hat_coe _ (line1 (x : EReal)).isLt, past_coe, v1, abs_of_nonneg (by linarith), max_eq_left (by linarith)]
        congr 1; ring
      rw [Finset.sum_eq_add (line0 (x : EReal)) (line1 (x : EReal)) hne, h0, h1]
      · intro r _ hr
        have n0 : r.val ≠ (line0 (x : EReal)).val := fun h => hr.1 (Fin.ext h)
        have n1 : r.val ≠ (line1 (x : EReal)).val := fun h => hr.2 (Fin.ext h)
        exact far r (by omega) (by omega)
      · intro h; exact absurd (Finset.mem_univ _) h
      · intro h; exact absurd (Finset.mem_univ _) h

/-- The place sampled, from the two ends of a box's side. -/
def placeE (lo hi : EReal) (i : ℕ) : EReal :=
  (((IntOp.subi (Ideal.fptosi 32 lo) 1#32).toInt : ℝ) : EReal)
    + Ideal.div ((((BitVec.ofNat 32 i).toInt : ℝ) : EReal) * (((IntOp.subi (Ideal.fptosi 32 hi) (Ideal.fptosi 32 lo)).toInt : ℝ) : EReal))
      (Ideal.ofBits .f32 0x41C00000#32)

end Cert.Proof.Hat
-- ==== Proof.V.RefCrop.lean ====
module

public import proofs.«01_k».proof.Proof.V.RefStep
public import proofs.«01_k».proof.Proof.V.Hat

/-! The reference's crops, read element by element: four pixels about the place sampled, blended. -/

@[expose] public section

set_option maxRecDepth 16384
set_option maxHeartbeats 400000

noncomputable section

namespace Cert.Proof.Reference

open Cert.ReferenceIdeal Cert.ReferenceIdeal.Gen Cert.ReferenceIdeal.Value
open Idealize.ShloMosaic Idealize.ShloMosaic.TcCoe Idealize.SL.Sem
open Cert.Proof.Hat

/-- The gather of one pixel, at start indices `(image, row, column)`. -/
theorem pixel_at (x : S4x512x512x3.Idx → Ideal .f32) (idx : IVec S4x100x24x24x3 32) (b : Fin 4) (n : Fin 100) (i j : Fin 24) (c : Fin 3) :
    Host.gather gather_S4x512x512x3_S4x100x24x24x3_S4x100x24x24x3_4_012_n_n_012_4_1113 x idx (ix5 b n i j c)
      = x (ix4 ⟨min (idx (ix5 b n i j 0)).toInt.toNat 3, by omega⟩ ⟨min (idx (ix5 b n i j 1)).toInt.toNat 511, by omega⟩
          ⟨min (idx (ix5 b n i j 2)).toInt.toNat 511, by omega⟩ c) := by
  unfold Host.gather
  congr 1
  funext a
  refine Fin.ext ?_
  have e : ∀ q : Fin 3, idx (ix5 b n i j q) = idx (gather_S4x512x512x3_S4x100x24x24x3_S4x100x24x24x3_4_012_n_n_012_4_1113.siIdx (ix5 b n i j c) q) :=
    fun q => congrArg idx (funext fun d => by match d with
        | ⟨0, _⟩ => rfl
        | ⟨1, _⟩ => rfl
        | ⟨2, _⟩ => rfl
        | ⟨3, _⟩ => rfl
        | ⟨4, _⟩ => rfl)
  match a with
  | ⟨0, _⟩ =>
    show _ = min (idx (ix5 b n i j 0)).toInt.toNat 3
    rw [e 0]
    rfl
  | ⟨1, _⟩ =>
    show _ = min (idx (ix5 b n i j 1)).toInt.toNat 511
    rw [e 1]
    rfl
  | ⟨2, _⟩ =>
    show _ = min (idx (ix5 b n i j 2)).toInt.toNat 511
    rw [e 2]
    rfl
  | ⟨3, _⟩ => exact Nat.zero_add _

variable (V : Valuation τ sig (Elt Ideal))

abbrev imgR : FVec Ideal S4x512x512x3 .f32 := V (Proc.devRef .tc main_arg1)
abbrev placesR : FVec Ideal S100x4x2x24 .f32 := V (Proc.devRef .tc main_v18_7)

/-- Four pixels about a place, blended. -/
def blended (g : Fin 512 → Fin 512 → EReal) (sy sx : EReal) : EReal :=
  (g (line0 sy) (line0 sx) * (1 - past sx) + g (line0 sy) (line1 sx) * past sx) * (1 - past sy)
    + (g (line1 sy) (line0 sx) * (1 - past sx) + g (line1 sy) (line1 sx) * past sx) * past sy

theorem image_no (b : Fin 4) (h : min (BitVec.ofNat 32 b.val).toInt.toNat 3 < 4) :
    (⟨min (BitVec.ofNat 32 b.val).toInt.toNat 3, h⟩ : Fin 4) = b := by
  refine Fin.ext ?_
  show min (BitVec.ofNat 32 b.val).toInt.toNat 3 = b.val
  rw [toInt_small _ (by omega)]
  omega

theorem crop_at (b : Fin 4) (n : Fin 100) (i j : Fin 24) (c : Fin 3) :
    (out_main_v101 V : FVec Ideal S4x100x24x24x3 .f32) (ix5 b n i j c)
      = blended (fun y x => imgR V (ix4 b y x c)) (placesR V (ix4 n b 1 i)) (placesR V (ix4 n b 0 j)) := by
  show _ = blended (fun y x => (V (Proc.devRef .tc main_arg1) : FVec Ideal S4x512x512x3 .f32) (ix4 b y x c))
    ((V (Proc.devRef .tc main_v18_7) : FVec Ideal S100x4x2x24 .f32) (ix4 n b 1 i)) ((V (Proc.devRef .tc main_v18_7) : FVec Ideal S100x4x2x24 .f32) (ix4 n b 0 j))
  unfold out_main_v101
  generalize V (Proc.devRef .tc main_arg1) = img
  generalize V (Proc.devRef .tc main_v18_7) = x
  pointwise
  simp only [pixel_at]
  pointwise
  simp only [image_no]
  rfl

theorem places_at (k : Fin 100) (b : Fin 4) (q : Fin 2) (l : Fin 24) (i : ℕ) (hi : i < 100) (hc : countR V ix0 = BitVec.ofNat 32 i) :
    (step_main_v18_7 V : FVec Ideal S100x4x2x24 .f32) (ix4 k b q l) = if k.val = i then
      placeE (rowR V (ix2 b ⟨q.val, by omega⟩)) (rowR V (ix2 b ⟨2 + q.val, by omega⟩)) l.val else placesR V (ix4 k b q l) := by
  have hk : S100x4x2x24.Slices ![i, 0, 0, 0] S1x4x2x24 := ⟨rfl, fun a => by
    fin_cases a
    · show i + 1 ≤ 100; omega
    · exact Nat.le_refl 4
    · exact Nat.le_refl 2
    · exact Nat.le_refl 24⟩
  unfold step_main_v18_7
  simp only [id]
  rw [WordCmp.dynamicUpdateSlice_eq_update _ _ _ _ ![i, 0, 0, 0] hk (fun a => by
    fin_cases a
    · show (countR V (Shape.Idx.first h_S_)).toInt = (i : Int)
      have e : Shape.Idx.first h_S_ = ix0 := funext fun d => d.elim0
      rw [e, hc, BitVec.toInt_eq_toNat_of_lt (by rw [BitVec.toNat_ofNat]; omega), BitVec.toNat_ofNat]
      omega
    · rfl
    · rfl
    · rfl)]
  unfold res_main_while0b_v172 res_main_while0b_v171
  pointwise
  have hb := b.isLt
  have hq := q.isLt
  have hl := l.isLt
  by_cases e : k.val = i
  · rw [dif_pos, if_pos e]
    · rfl
    · intro a
      match a with
      | ⟨0, _⟩ => exact ⟨show i ≤ k.val by omega, show k.val < i + 1 by omega⟩
      | ⟨1, _⟩ => exact ⟨Nat.zero_le _, show b.val < 0 + 4 by omega⟩
      | ⟨2, _⟩ => exact ⟨Nat.zero_le _, show q.val < 0 + 2 by omega⟩
      | ⟨3, _⟩ => exact ⟨Nat.zero_le _, show l.val < 0 + 24 by omega⟩
  · rw [dif_neg, if_neg e]
    intro h
    have h0 : i ≤ k.val ∧ k.val < i + 1 := h (0 : Fin 4)
    omega

end Cert.Proof.Reference
-- ==== Proof.V.KerCrop.lean ====
module

public import proofs.«01_k».proof.Proof.V.KerStep
public import proofs.«01_k».proof.Proof.V.Hat

/-! The kernel's crops, read element by element: two sums over the image's lines, weighted by hats about the place sampled. -/

@[expose] public section

set_option maxRecDepth 16384
set_option maxHeartbeats 400000

noncomputable section

namespace Cert.Proof.KernelIdeal

open Cert.KernelIdeal Cert.KernelIdeal.Gen
open Idealize.ShloMosaic Idealize.ShloMosaic.TcCoe Idealize.SL.Sem
open Cert.Proof.Hat

theorem pay743_at (i : Fin 24) : (k0_pay743 (F := Ideal)) (ix2 i 0) = (((BitVec.ofNat 32 i.val).toInt : ℝ) : EReal) := by
  unfold k0_pay743
  pointwise
  rfl

theorem pay744_at (p : Fin 240) (r : Fin 512) : (k0_pay744 (F := Ideal)) (ix2 p r) = (((BitVec.ofNat 32 r.val).toInt : ℝ) : EReal) := by
  unfold k0_pay744
  pointwise
  rfl

theorem pay1_at (p : Fin 240) (r : Fin 512) : (k0_pay1 (F := Ideal)) (ix2 p r) = (((BitVec.ofNat 32 r.val).toInt : ℝ) : EReal) := by
  unfold k0_pay1
  pointwise
  rfl

theorem places_at (v : FVec Ideal S24x1 .f32) (lo hi : Ideal .f32) (i : Fin 24) (h : v (ix2 i 0) = (((BitVec.ofNat 32 i.val).toInt : ℝ) : EReal)) :
    places v lo hi (ix2 i 0) = (max (placeE lo hi i.val) (Ideal.ofBits .f32 0x00000000#32) : EReal) := by
  unfold places placeE
  rw [← h]
  pointwise
  rfl

theorem stack_at0 (col : Fin 10 → FVec Ideal S24x1 .f32) (i : Fin 24) (h : i.val < 240) :
    stack col (ix2 ⟨i.val, h⟩ 0) = col 0 (ix2 i 0) := by
  have hi := i.isLt
  unfold stack
  pointwise

theorem stack_at1 (col : Fin 10 → FVec Ideal S24x1 .f32) (i : Fin 24) (h : 24 + i.val < 240) :
    stack col (ix2 ⟨24 + i.val, h⟩ 0) = col 1 (ix2 i 0) := by
  have hi := i.isLt
  unfold stack
  pointwise

theorem stack_at2 (col : Fin 10 → FVec Ideal S24x1 .f32) (i : Fin 24) (h : 48 + i.val < 240) :
    stack col (ix2 ⟨48 + i.val, h⟩ 0) = col 2 (ix2 i 0) := by
  have hi := i.isLt
  unfold stack
  pointwise
  rw [dif_neg (show ¬ 48 + i.val < 24 by omega)]
  rw [dif_neg (show ¬ 48 + i.val - 24 < 24 by omega)]
  rw [dif_pos (show 48 + i.val - 24 - 24 < 24 by omega)]
  exact congrArg (fun t => col 2 (ix2 t 0)) (Fin.ext (show 48 + i.val - 24 - 24 = i.val by omega))

theorem stack_at3 (col : Fin 10 → FVec Ideal S24x1 .f32) (i : Fin 24) (h : 72 + i.val < 240) :
    stack col (ix2 ⟨72 + i.val, h⟩ 0) = col 3 (ix2 i 0) := by
  have hi := i.isLt
  unfold stack
  pointwise
  rw [dif_neg (show ¬ 72 + i.val < 24 by omega)]
  rw [dif_neg (show ¬ 72 + i.val - 24 < 24 by omega)]
  rw [dif_neg (show ¬ 72 + i.val - 24 - 24 < 24 by omega)]
  rw [dif_pos (show 72 + i.val - 24 - 24 - 24 < 24 by omega)]
  exact congrArg (fun t => col 3 (ix2 t 0)) (Fin.ext (show 72 + i.val - 24 - 24 - 24 = i.val by omega))

theorem stack_at4 (col : Fin 10 → FVec Ideal S24x1 .f32) (i : Fin 24) (h : 96 + i.val < 240) :
    stack col (ix2 ⟨96 + i.val, h⟩ 0) = col 4 (ix2 i 0) := by
  have hi := i.isLt
  unfold stack
  pointwise
  rw [dif_neg (show ¬ 96 + i.val < 24 by omega)]
  rw [dif_neg (show ¬ 96 + i.val - 24 < 24 by omega)]
  rw [dif_neg (show ¬ 96 + i.val - 24 - 24 < 24 by omega)]
  rw [dif_neg (show ¬ 96 + i.val - 24 - 24 - 24 < 24 by omega)]
  rw [dif_pos (show 96 + i.val - 24 - 24 - 24 - 24 < 24 by omega)]
  exact congrArg (fun t => col 4 (ix2 t 0)) (Fin.ext (show 96 + i.val - 24 - 24 - 24 - 24 = i.val by omega))

theorem stack_at5 (col : Fin 10 → FVec Ideal S24x1 .f32) (i : Fin 24) (h : 120 + i.val < 240) :
    stack col (ix2 ⟨120 + i.val, h⟩ 0) = col 5 (ix2 i 0) := by
  have hi := i.isLt
  unfold stack
  pointwise
  rw [dif_neg (show ¬ 120 + i.val < 24 by omega)]
  rw [dif_neg (show ¬ 120 + i.val - 24 < 24 by omega)]
  rw [dif_neg (show ¬ 120 + i.val - 24 - 24 < 24 by omega)]
  rw [dif_neg (show ¬ 120 + i.val - 24 - 24 - 24 < 24 by omega)]
  rw [dif_neg (show ¬ 120 + i.val - 24 - 24 - 24 - 24 < 24 by omega)]
  rw [dif_pos (show 120 + i.val - 24 - 24 - 24 - 24 - 24 < 24 by omega)]
  exact congrArg (fun t => col 5 (ix2 t 0)) (Fin.ext (show 120 + i.val - 24 - 24 - 24 - 24 - 24 = i.val by omega))

theorem stack_at6 (col : Fin 10 → FVec Ideal S24x1 .f32) (i : Fin 24) (h : 144 + i.val < 240) :
    stack col (ix2 ⟨144 + i.val, h⟩ 0) = col 6 (ix2 i 0) := by
  have hi := i.isLt
  unfold stack
  pointwise
  rw [dif_neg (show ¬ 144 + i.val < 24 by omega)]
  rw [dif_neg (show ¬ 144 + i.val - 24 < 24 by omega)]
  rw [dif_neg (show ¬ 144 + i.val - 24 - 24 < 24 by omega)]
  rw [dif_neg (show ¬ 144 + i.val - 24 - 24 - 24 < 24 by omega)]
  rw [dif_neg (show ¬ 144 + i.val - 24 - 24 - 24 - 24 < 24 by omega)]
  rw [dif_neg (show ¬ 144 + i.val - 24 - 24 - 24 - 24 - 24 < 24 by omega)]
  rw [dif_pos (show 144 + i.val - 24 - 24 - 24 - 24 - 24 - 24 < 24 by omega)]
  exact congrArg (fun t => col 6 (ix2 t 0)) (Fin.ext (show 144 + i.val - 24 - 24 - 24 - 24 - 24 - 24 = i.val by omega))

theorem stack_at7 (col : Fin 10 → FVec Ideal S24x1 .f32) (i : Fin 24) (h : 168 + i.val < 240) :
    stack col (ix2 ⟨168 + i.val, h⟩ 0) = col 7 (ix2 i 0) := by
  have hi := i.isLt
  unfold stack
  pointwise
  rw [dif_neg (show ¬ 168 + i.val < 24 by omega)]
  rw [dif_neg (show ¬ 168 + i.val - 24 < 24 by omega)]
  rw [dif_neg (show ¬ 168 + i.val - 24 - 24 < 24 by omega)]
  rw [dif_neg (show ¬ 168 + i.val - 24 - 24 - 24 < 24 by omega)]
  rw [dif_neg (show ¬ 168 + i.val - 24 - 24 - 24 - 24 < 24 by omega)]
  rw [dif_neg (show ¬ 168 + i.val - 24 - 24 - 24 - 24 - 24 < 24 by omega)]
  rw [dif_neg (show ¬ 168 + i.val - 24 - 24 - 24 - 24 - 24 - 24 < 24 by omega)]
  rw [dif_pos (show 168 + i.val - 24 - 24 - 24 - 24 - 24 - 24 - 24 < 24 by omega)]
  exact congrArg (fun t => col 7 (ix2 t 0)) (Fin.ext (show 168 + i.val - 24 - 24 - 24 - 24 - 24 - 24 - 24 = i.val by omega))

theorem stack_at8 (col : Fin 10 → FVec Ideal S24x1 .f32) (i : Fin 24) (h : 192 + i.val < 240) :
    stack col (ix2 ⟨192 + i.val, h⟩ 0) = col 8 (ix2 i 0) := by
  have hi := i.isLt
  unfold stack
  pointwise
  rw [dif_neg (show ¬ 192 + i.val < 24 by omega)]
  rw [dif_neg (show ¬ 192 + i.val - 24 < 24 by omega)]
  rw [dif_neg (show ¬ 192 + i.val - 24 - 24 < 24 by omega)]
  rw [dif_neg (show ¬ 192 + i.val - 24 - 24 - 24 < 24 by omega)]
  rw [dif_neg (show ¬ 192 + i.val - 24 - 24 - 24 - 24 < 24 by omega)]
  rw [dif_neg (show ¬ 192 + i.val - 24 - 24 - 24 - 24 - 24 < 24 by omega)]
  rw [dif_neg (show ¬ 192 + i.val - 24 - 24 - 24 - 24 - 24 - 24 < 24 by omega)]
  rw [dif_neg (show ¬ 192 + i.val - 24 - 24 - 24 - 24 - 24 - 24 - 24 < 24 by omega)]
  rw [dif_pos (show 192 + i.val - 24 - 24 - 24 - 24 - 24 - 24 - 24 - 24 < 24 by omega)]
  exact congrArg (fun t => col 8 (ix2 t 0)) (Fin.ext (show 192 + i.val - 24 - 24 - 24 - 24 - 24 - 24 - 24 - 24 = i.val by omega))

theorem stack_at9 (col : Fin 10 → FVec Ideal S24x1 .f32) (i : Fin 24) (h : 216 + i.val < 240) :
    stack col (ix2 ⟨216 + i.val, h⟩ 0) = col 9 (ix2 i 0) := by
  have hi := i.isLt
  unfold stack
  pointwise
  rw [dif_neg (show ¬ 216 + i.val < 24 by omega)]
  rw [dif_neg (show ¬ 216 + i.val - 24 < 24 by omega)]
  rw [dif_neg (show ¬ 216 + i.val - 24 - 24 < 24 by omega)]
  rw [dif_neg (show ¬ 216 + i.val - 24 - 24 - 24 < 24 by omega)]
  rw [dif_neg (show ¬ 216 + i.val - 24 - 24 - 24 - 24 < 24 by omega)]
  rw [dif_neg (show ¬ 216 + i.val - 24 - 24 - 24 - 24 - 24 < 24 by omega)]
  rw [dif_neg (show ¬ 216 + i.val - 24 - 24 - 24 - 24 - 24 - 24 < 24 by omega)]
  rw [dif_neg (show ¬ 216 + i.val - 24 - 24 - 24 - 24 - 24 - 24 - 24 < 24 by omega)]
  rw [dif_neg (show ¬ 216 + i.val - 24 - 24 - 24 - 24 - 24 - 24 - 24 - 24 < 24 by omega)]
  exact congrArg (fun t => col 9 (ix2 t 0)) (Fin.ext (show 216 + i.val - 24 - 24 - 24 - 24 - 24 - 24 - 24 - 24 - 24 = i.val by omega))

theorem stack_at (col : Fin 10 → FVec Ideal S24x1 .f32) (g : Fin 10) (i : Fin 24) (p : Fin 240) (h : p.val = 24 * g.val + i.val) :
    stack col (ix2 p 0) = col g (ix2 i 0) := by
  obtain ⟨p, hp⟩ := p
  have h : p = 24 * g.val + i.val := h
  subst h
  match g, hp with
  | ⟨0, _⟩, hp =>
    have e : (⟨24 * 0 + i.val, hp⟩ : Fin 240) = ⟨i.val, Nat.lt_trans i.isLt (by decide)⟩ := Fin.ext (by show 24 * 0 + i.val = i.val; omega)
    exact (congrArg (fun t => stack col (ix2 t 0)) e).trans (stack_at0 col i _)
  | ⟨1, _⟩, hp => exact stack_at1 col i hp
  | ⟨2, _⟩, hp => exact stack_at2 col i hp
  | ⟨3, _⟩, hp => exact stack_at3 col i hp
  | ⟨4, _⟩, hp => exact stack_at4 col i hp
  | ⟨5, _⟩, hp => exact stack_at5 col i hp
  | ⟨6, _⟩, hp => exact stack_at6 col i hp
  | ⟨7, _⟩, hp => exact stack_at7 col i hp
  | ⟨8, _⟩, hp => exact stack_at8 col i hp
  | ⟨9, _⟩, hp => exact stack_at9 col i hp

theorem hats_at (v : FVec Ideal S240x512 .f32) (col : Fin 10 → FVec Ideal S24x1 .f32) (p : Fin 240) (r : Fin 512) :
    hats v col (ix2 p r) = (max (Ideal.ofBits .f32 0x3F800000#32 - FloatOps.absf (F := Ideal) (v (ix2 p r) - stack col (ix2 p 0))) (Ideal.ofBits .f32 0x00000000#32) : EReal) := by
  unfold hats
  pointwise
  done

theorem across_at (im : Vec Ideal S1x1x512x512 .bf16) (w : FVec Ideal S240x512 .bf16) (r : Fin 512) (p : Fin 240) :
    across im w (ix2 r p) = (∑ k : Fin 512, im (ix4 0 0 r k) * w (ix2 p k) : EReal) := by
  unfold across
  pointwise
  done

theorem both_at (w : FVec Ideal S240x512 .bf16) (p : FVec Ideal S512x240 .bf16) (i j : Fin 240) :
    both w p (ix2 i j) = (∑ k : Fin 512, w (ix2 i k) * p (ix2 k j) : EReal) := by
  unfold both
  pointwise
  done

theorem cropBlock_at (m : FVec Ideal S240x240 .f32) (g : Fin 10) (i j : Fin 24) :
    cropBlock m g (ValueIdx.ix5 0 0 0 i j) = m (ix2 ⟨24 * g.val + i.val, by omega⟩ ⟨24 * g.val + j.val, by omega⟩) := by
  unfold cropBlock
  pointwise
  done

/-- A hat, as the kernel computes it. -/
theorem hat_of (col : Fin 10 → FVec Ideal S24x1 .f32) (v : FVec Ideal S240x512 .f32) (g : Fin 10) (i : Fin 24) (p : Fin 240) (hp : p.val = 24 * g.val + i.val)
    (r : Fin 512) (s : EReal) (hv : v (ix2 p r) = (((BitVec.ofNat 32 r.val).toInt : ℝ) : EReal)) (hs : col g (ix2 i 0) = s) :
    hats v col (ix2 p r) = hat r.val s := by
  rw [hats_at, stack_at col g i p hp, hs, hv, Ideal.ofBits_one_f32, Ideal.ofBits_zero_f32]
  rfl

/-- The block of a box, at a row and a column sampled. -/
theorem cropOf_at (im : Vec Ideal S1x1x512x512 .bf16) (w : Fin 4 → Fin 10 → Ideal .f32) (g : Fin 10) (i j : Fin 24) :
    cropOf k0_pay743 k0_pay744 im w g (ValueIdx.ix5 0 0 0 i j)
      = (∑ r : Fin 512, hat r.val (max (placeE (w 1 g) (w 3 g) i.val) 0)
          * ∑ k : Fin 512, im (ix4 0 0 r k) * hat k.val (max (placeE (w 0 g) (w 2 g) j.val) 0) : EReal) := by
  unfold cropOf
  rw [cropBlock_at, both_at]
  refine Finset.sum_congr rfl fun r _ => ?_
  rw [across_at]
  refine congrArg₂ (fun x y : EReal => x * y) ?_ (Finset.sum_congr rfl fun k _ => congrArg (fun y : EReal => im (ix4 0 0 r k) * y) ?_)
  · refine hat_of _ _ g i _ rfl r _ (pay744_at _ _) ?_
    exact (places_at _ _ _ i (pay743_at i)).trans (by rw [Ideal.ofBits_zero_f32])
  · refine hat_of _ _ g j _ rfl k _ (pay1_at _ _) ?_
    exact (places_at _ _ _ j (pay743_at j)).trans (by rw [Ideal.ofBits_zero_f32])

theorem image_at (x3 : S4x3x512x512.Idx → Ideal .bf16) (b : Fin 4) (c : Fin 3) (r k : Fin 512) :
    imageS x3 b c (ix4 0 0 r k) = x3 (ix4 b c r k) := by
  unfold imageS
  refine congrArg x3 (funext fun a => Fin.ext ?_)
  match a with
  | ⟨0, _⟩ => show b.val + 1 * 0 = b.val; omega
  | ⟨1, _⟩ => show c.val + 1 * 0 = c.val; omega
  | ⟨2, _⟩ => show 0 + 1 * r.val = r.val; omega
  | ⟨3, _⟩ => show 0 + 1 * k.val = k.val; omega

/-- The crops, place by place. -/
theorem crop_at (x1 : S4x5x160x128.Idx → Ideal .f32) (x2 : S4x4x2560x8.Idx → Ideal .f32) (x3 : S4x3x512x512.Idx → Ideal .bf16)
    (b : Fin 4) (c : Fin 3) (n : Fin 100) (i j : Fin 24) : cropS x1 x2 x3 (ValueIdx.ix5 b c n i j)
      = (∑ r : Fin 512, hat r.val (max (placeE (wordS x1 x2 b 1 n.val) (wordS x1 x2 b 3 n.val) i.val) 0)
          * ∑ k : Fin 512, x3 (ix4 b c r k) * hat k.val (max (placeE (wordS x1 x2 b 0 n.val) (wordS x1 x2 b 2 n.val) j.val) 0) : EReal) := by
  have e : 10 * (n.val / 10) + n.val % 10 = n.val := by omega
  have h := cropOf_at (imageS x3 b c) (fun q k => wordS x1 x2 b q (10 * (n.val / 10) + k.val)) ⟨n.val % 10, Nat.mod_lt _ (by decide)⟩ i j
  simp only [image_at, e] at h
  exact h

end Cert.Proof.KernelIdeal
-- ==== Proof.V.CropsK.lean ====
module

public import proofs.«01_k».proof.Proof.V.Prep

/-! The crops the kernel leaves: its image transposed going in, its blocks transposed going out. -/

@[expose] public section

set_option maxRecDepth 16384
set_option maxHeartbeats 400000

noncomputable section

namespace Cert.Proof.KernelIdeal

open Cert.KernelIdeal Cert.KernelIdeal.Gen
open Idealize.ShloMosaic Idealize.ShloMosaic.TcCoe Idealize.SL.Sem

/-- The image as the kernel is handed it. -/
def imageH (I : FVec Ideal S4x512x512x3 .f32) : FVec Ideal S4x3x512x512 .bf16 :=
  truncf .bf16 (transpose S4x3x512x512 [0, 3, 1, 2] I transposes_S4x512x512x3_S4x3x512x512_0_3_1_2) bitsLt_bf16_f32

theorem imageH_at (I : FVec Ideal S4x512x512x3 .f32) (b : Fin 4) (c : Fin 3) (y x : Fin 512) : imageH I (ix4 b c y x) = I (ix4 b y x c) := by
  unfold imageH
  pointwise

variable (m : (ℓ : Loc nD τ sig) → Buf (Elt Ideal) ℓ) (c : Dev nD)

abbrev imgK : FVec Ideal S4x512x512x3 .f32 := m ((c.tc : Thread nD τ).loc main_arg1)

theorem image_eqH : V m c main_v8 = imageH (imgK m c) := by
  show StableHlo.after (hostOps0 ++ hostOps0_1 ++ hostOps0_2 ++ hostOps0_3 ++ hostOps0_4) _ _ = _
  simp only [hostOps0, hostOps0_1, hostOps0_2, hostOps0_3, hostOps0_4, List.cons_append, List.nil_append, List.append_assoc]
  after_results
  rfl

theorem blk3_eq (t : Fin cfg0.N) : blk3 m c t = imageH (imgK m c) := by
  obtain rfl : t = t0_0 := fin_N0 t
  have hz : (fun a => win0_2.index t0_0 a * main_v8.ty.shape.size a) = fun _ => 0 := funext fun a => by fin_cases a <;> decide
  exact (Memref.read_access_unit_zero (Elt Ideal) main_v8 hz (fun a => by rw [congrFun hz a]; simp) (V m c main_v8)).trans (image_eqH m c)

/-- The blocks the kernel leaves. -/
def blocksK : FVec Ideal S4x3x100x24x24 .f32 := cropS (planesH (rectsK m c)) (coordsH (rectsK m c)) (imageH (imgK m c))

theorem flushed_crops (t : Fin cfg0.N) (hf : (cfg0.win 3).flush t = true) :
    (dats m 0 c).flushed 3 t = ((cfg0.win 3).blk t).view.read (Elt Ideal) (blocksK m c) := by
  have e : (dats m 0 c).after 3 t = blocksK m c := by
    show cropS (blk1 m c t) (blk2 m c t) (blk3 m c t) = _
    rw [blk1_eq, blk2_eq, blk3_eq]
    rfl
  obtain rfl : t = t0_0 := fin_N0 t
  show (cfg0.win 3).cut (grid0.coords t0_0) ((dats m 0 c).after 3 t0_0) = _
  rw [e]
  have hz : (fun a => win0_3.index t0_0 a * main_v9_0.ty.shape.size a) = fun _ => 0 := funext fun a => by fin_cases a <;> decide
  exact (Memref.read_access_unit_zero (Elt Ideal) main_v9_0 hz (fun a => by rw [congrFun hz a]; simp) (blocksK m c)).symm

theorem final_blocks : (dats m 0 c).arrAt 3 cfg0.N = blocksK m c :=
  (dats m 0 c).arrAt_eq_of_cover 3 (blocksK m c) (flushed_crops m c) fun i =>
    ⟨t0_0, flush0_3 t0_0, by
      show i ∈ ((View.whole main_v9_0).slice (win0_3.rect t0_0)).set
      rw [View.set_slice_whole, Rect.mem_set_unit]
      intro a
      have h0 : (i 0 : Nat) < 4 := (i 0).isLt
      have h1 : (i 1 : Nat) < 3 := (i 1).isLt
      have h2 : (i 2 : Nat) < 100 := (i 2).isLt
      have h3 : (i 3 : Nat) < 24 := (i 3).isLt
      have h4 : (i 4 : Nat) < 24 := (i 4).isLt
      match a with
      | ⟨0, _⟩ => show win0_3.index t0_0 0 * win0_3.size 0 ≤ (i 0 : Nat) ∧ (i 0 : Nat) < win0_3.index t0_0 0 * win0_3.size 0 + win0_3.xsize (grid0.coords t0_0) 0
                  rw [show win0_3.index t0_0 0 * win0_3.size 0 = 0 from by decide +kernel, show win0_3.xsize (grid0.coords t0_0) 0 = 4 from by decide +kernel]; omega
      | ⟨1, _⟩ => show win0_3.index t0_0 1 * win0_3.size 1 ≤ (i 1 : Nat) ∧ (i 1 : Nat) < win0_3.index t0_0 1 * win0_3.size 1 + win0_3.xsize (grid0.coords t0_0) 1
                  rw [show win0_3.index t0_0 1 * win0_3.size 1 = 0 from by decide +kernel, show win0_3.xsize (grid0.coords t0_0) 1 = 3 from by decide +kernel]; omega
      | ⟨2, _⟩ => show win0_3.index t0_0 2 * win0_3.size 2 ≤ (i 2 : Nat) ∧ (i 2 : Nat) < win0_3.index t0_0 2 * win0_3.size 2 + win0_3.xsize (grid0.coords t0_0) 2
                  rw [show win0_3.index t0_0 2 * win0_3.size 2 = 0 from by decide +kernel, show win0_3.xsize (grid0.coords t0_0) 2 = 100 from by decide +kernel]; omega
      | ⟨3, _⟩ => show win0_3.index t0_0 3 * win0_3.size 3 ≤ (i 3 : Nat) ∧ (i 3 : Nat) < win0_3.index t0_0 3 * win0_3.size 3 + win0_3.xsize (grid0.coords t0_0) 3
                  rw [show win0_3.index t0_0 3 * win0_3.size 3 = 0 from by decide +kernel, show win0_3.xsize (grid0.coords t0_0) 3 = 24 from by decide +kernel]; omega
      | ⟨4, _⟩ => show win0_3.index t0_0 4 * win0_3.size 4 ≤ (i 4 : Nat) ∧ (i 4 : Nat) < win0_3.index t0_0 4 * win0_3.size 4 + win0_3.xsize (grid0.coords t0_0) 4
                  rw [show win0_3.index t0_0 4 * win0_3.size 4 = 0 from by decide +kernel, show win0_3.xsize (grid0.coords t0_0) 4 = 24 from by decide +kernel]; omega⟩

/-- The crops the kernel leaves. -/
def cropsK : FVec Ideal S4x100x24x24x3 .f32 := transpose S4x100x24x24x3 [0, 2, 3, 4, 1] (blocksK m c) transposes_S4x3x100x24x24_S4x100x24x24x3_0_2_3_4_1

theorem cropsK_at (b : Fin 4) (n : Fin 100) (i j : Fin 24) (k : Fin 3) : cropsK m c (ix5 b n i j k) = blocksK m c (ix5 b k n i j) := by
  unfold cropsK
  generalize blocksK m c = x
  pointwise

theorem final_crops : Pipeline.afterTail₀ cfgs (dats m) 0 (V0 m) [hostOps1] c main_v10 = cropsK m c := by
  unfold Pipeline.afterTail₀
  have h := Pipeline.withArrays_arr spec0 (by decide) c (V0 m c) (fun w => (dats m 0 c).arrAt w cfg0.N) 3
  simp only [List.flatten_cons, List.flatten_nil, List.append_nil, hostOps1]
  after_results
  unfold cropsK
  rw [← final_blocks m c]
  exact congrArg (fun x => transpose S4x100x24x24x3 [0, 2, 3, 4, 1] x transposes_S4x3x100x24x24_S4x100x24x24x3_0_2_3_4_1) h

end Cert.Proof.KernelIdeal
-- ==== Proof.V.Place.lean ====
module

public import proofs.«01_k».proof.Proof.V.Hat

/-! The places sampled between the ends of a side lie on the reals, none past the last line, when the side ends by 512. -/

@[expose] public section

set_option maxRecDepth 16384
set_option maxHeartbeats 400000

noncomputable section

namespace Cert.Proof.Hat

open Idealize.ShloMosaic

theorem twenty_four : Ideal.ofBits .f32 0x41C00000#32 = ((24 : ℝ) : EReal) := by
  simp [Ideal.ofBits, Ideal.ieee]
  rw [← EReal.coe_mul]
  norm_num

theorem five_twelve : Ideal.ofBits .f32 0x44000000#32 = ((512 : ℝ) : EReal) := by
  simp [Ideal.ofBits, Ideal.ieee]
  rw [← EReal.coe_mul]
  norm_num

theorem far_before : Ideal.ofBits .f32 0xCE800000#32 = ((-1073741824 : ℝ) : EReal) := by
  simp [Ideal.ofBits, Ideal.ieee]
  rw [← EReal.coe_pow, ← EReal.coe_mul]
  norm_num

/-- Toward zero. -/
def chop (r : ℝ) : ℤ := if 0 ≤ r then ⌊r⌋ else ⌈r⌉

theorem chop_mono {r s : ℝ} (h : r ≤ s) : chop r ≤ chop s := by
  unfold chop
  split_ifs with h0 h1 h1
  · exact Int.floor_le_floor h
  · linarith
  · have a : ⌈r⌉ ≤ 0 := Int.ceil_le.2 (by push_cast; linarith)
    have b : 0 ≤ ⌊s⌋ := Int.floor_nonneg.2 h1
    omega
  · exact Int.ceil_le_ceil h

theorem chop_int (z : ℤ) : chop (z : ℝ) = z := by
  unfold chop
  split_ifs
  · exact Int.floor_intCast z
  · exact Int.ceil_intCast z

theorem bmod_small (z : ℤ) (h0 : -2147483648 ≤ z) (h1 : z < 2147483648) : z.bmod 4294967296 = z := by
  unfold Int.bmod
  norm_num
  omega

theorem fptosi_coe (r : ℝ) (h0 : -1073741824 ≤ r) (h1 : r ≤ 512) : (Ideal.fptosi 32 (r : EReal)).toInt = chop r := by
  have c0 : -1073741824 ≤ chop r := by
    have := chop_mono (r := ((-1073741824 : ℤ) : ℝ)) (s := r) (by push_cast; linarith)
    rwa [chop_int] at this
  have c1 : chop r ≤ 512 := by
    have := chop_mono (r := r) (s := ((512 : ℤ) : ℝ)) (by push_cast; linarith)
    rwa [chop_int] at this
  unfold Ideal.fptosi
  rw [Ideal.toIntClamped_coe, BitVec.toInt_ofInt]
  change (max (-((2 ^ (32 - 1) : ℕ) : ℤ)) (min (((2 ^ (32 - 1) : ℕ) : ℤ) - 1) (chop r))).bmod (2 ^ 32) = chop r
  have e : max (-((2 ^ (32 - 1) : ℕ) : ℤ)) (min (((2 ^ (32 - 1) : ℕ) : ℤ) - 1) (chop r)) = chop r := by
    norm_num
    omega
  rw [e]
  exact bmod_small _ (by omega) (by omega)

theorem place_real (lo hi : EReal) (h0 : ((-1073741824 : ℝ) : EReal) ≤ lo) (h : lo ≤ hi) (h1 : hi ≤ ((512 : ℝ) : EReal)) (i : ℕ) (hi24 : i < 24) :
    ∃ x : ℝ, placeE lo hi i = (x : EReal) ∧ x ≤ 511 := by
  have lb : lo ≠ ⊥ := fun e => absurd (e ▸ h0) (not_le.2 (EReal.bot_lt_coe _))
  have ht : hi ≠ ⊤ := fun e => absurd (e ▸ h1) (not_le.2 (EReal.coe_lt_top _))
  have lt : lo ≠ ⊤ := fun e => ht (top_le_iff.1 (e ▸ h))
  have hb : hi ≠ ⊥ := fun e => lb (le_bot_iff.1 (e ▸ h))
  lift lo to ℝ using ⟨lt, lb⟩
  lift hi to ℝ using ⟨ht, hb⟩
  have h0 : -1073741824 ≤ lo := EReal.coe_le_coe_iff.1 h0
  have h : lo ≤ hi := EReal.coe_le_coe_iff.1 h
  have h1 : hi ≤ 512 := EReal.coe_le_coe_iff.1 h1
  have eL := fptosi_coe lo h0 (by linarith)
  have eH := fptosi_coe hi (by linarith) h1
  have c0 : -1073741824 ≤ chop lo := by
    have := chop_mono (r := ((-1073741824 : ℤ) : ℝ)) (s := lo) (by push_cast; linarith)
    rwa [chop_int] at this
  have c1 : chop hi ≤ 512 := by
    have := chop_mono (r := hi) (s := ((512 : ℤ) : ℝ)) (by push_cast; linarith)
    rwa [chop_int] at this
  have c2 := chop_mono h
  have s0 : (IntOp.subi (Ideal.fptosi 32 (lo : EReal)) 1#32).toInt = chop lo - 1 := by
    show (Ideal.fptosi 32 (lo : EReal) - 1#32).toInt = _
    rw [BitVec.toInt_sub, eL]
    exact bmod_small _ (by show -2147483648 ≤ chop lo - 1; omega) (by show chop lo - 1 < 2147483648; omega)
  have s1 : (IntOp.subi (Ideal.fptosi 32 (hi : EReal)) (Ideal.fptosi 32 (lo : EReal))).toInt = chop hi - chop lo := by
    show (Ideal.fptosi 32 (hi : EReal) - Ideal.fptosi 32 (lo : EReal)).toInt = _
    rw [BitVec.toInt_sub, eL, eH]
    exact bmod_small _ (by omega) (by omega)
  refine ⟨((chop lo - 1 : ℤ) : ℝ) + ((i : ℤ) : ℝ) * ((chop hi - chop lo : ℤ) : ℝ) * (1 / 24), ?_, ?_⟩
  · unfold placeE
    rw [s0, s1, toInt_small i (by omega), twenty_four, Ideal.div_coe (by norm_num), EReal.coe_add, EReal.coe_mul, EReal.coe_mul]
  · have a : (i : ℝ) ≤ 24 := by exact_mod_cast hi24.le
    have b : (chop lo : ℝ) ≤ (chop hi : ℝ) := by exact_mod_cast c2
    have d : (chop hi : ℝ) ≤ 512 := by exact_mod_cast c1
    push_cast
    nlinarith

end Cert.Proof.Hat
-- ==== Proof.V.CropRows.lean ====
module

public import proofs.«01_k».proof.Proof.V.Rows
public import proofs.«01_k».proof.Proof.V.RefCrop
public import proofs.«01_k».proof.Proof.V.KerCrop
public import proofs.«01_k».proof.Proof.V.CropsK
public import proofs.«01_k».proof.Proof.V.Place

/-! The reference samples at the kernel's places, and its crops are the kernel's. -/

@[expose] public section

set_option maxRecDepth 16384
set_option maxHeartbeats 400000

noncomputable section

namespace Cert.Proof.Join

open Idealize.ShloMosaic Idealize.ShloMosaic.TcCoe Idealize.SL.Sem
open Cert.Proof.KernelIdeal Cert.Proof.Reference Cert.Proof.Hat
open Cert.ReferenceIdeal Cert.ReferenceIdeal.Value

/-- Every box ends within the image and starts no further than `2^30` before it. -/
structure Near (R : Rects) : Prop where
  x0 : ∀ b n, ((-1073741824 : ℝ) : EReal) ≤ R (ix3 b n 0)
  x2 : ∀ b n, R (ix3 b n 2) ≤ ((512 : ℝ) : EReal)
  y0 : ∀ b n, ((-1073741824 : ℝ) : EReal) ≤ R (ix3 b n 1)
  y2 : ∀ b n, R (ix3 b n 3) ≤ ((512 : ℝ) : EReal)

/-- The words the kernel keeps of trip `k`. -/
abbrev words (R : Rects) (b q : Fin 4) (k : ℕ) : EReal := wordS (planesH R) (coordsH R) b q k

/-- A row of the reference is the words kept. -/
theorem row_word {R : Rects} (hR : Proper R) {k : ℕ} {V : Valuation τ sig (Elt Ideal)} (h : Inv R k V) (b q : Fin 4) :
    rowR V (ix2 b q.castSucc) = words R b q k :=
  (row_agrees hR h.fixed (h.scores b) q.castSucc).symm.trans ((KernelIdeal.row_at _ _).1 q)

/-- The words kept are a box's corners, or all zero. -/
theorem word_ends {R : Rects} (hR : Proper R) {k : ℕ} {V : Valuation τ sig (Elt Ideal)} (h : Inv R k V) (b : Fin 4) :
    (∀ q, words R b q k = 0) ∨ ∃ w : Fin 20000, ∀ q : Fin 4, words R b q k = R (ix3 b w q.castSucc) := by
  by_cases hb : bestVal (fieldS (planesH R) (coordsH R) b k) = (⊥ : EReal)
  · exact Or.inl fun q => kept_none (valid_of_bot hb) q
  · obtain ⟨w, -, -, ek, -⟩ := chosen hR h.fixed (h.scores b) hb
    exact Or.inr ⟨w, fun q => (kept_some (valid_of_ne hb) q).trans (ek q)⟩

/-- The places sampled along either side lie on the reals, none past the last line. -/
theorem word_place {R : Rects} (hR : Proper R) (hN : Near R) {k : ℕ} {V : Valuation τ sig (Elt Ideal)} (h : Inv R k V) (b : Fin 4) (i : Fin 24) :
    (∃ x : ℝ, placeE (words R b 0 k) (words R b 2 k) i.val = (x : EReal) ∧ x ≤ 511)
      ∧ ∃ y : ℝ, placeE (words R b 1 k) (words R b 3 k) i.val = (y : EReal) ∧ y ≤ 511 := by
  rcases word_ends hR h b with e | ⟨w, e⟩
  · have z0 : ((-1073741824 : ℝ) : EReal) ≤ 0 := by
      rw [← EReal.coe_zero]; exact EReal.coe_le_coe_iff.2 (by norm_num)
    have z1 : (0 : EReal) ≤ ((512 : ℝ) : EReal) := by
      rw [← EReal.coe_zero]; exact EReal.coe_le_coe_iff.2 (by norm_num)
    rw [e, e, e, e]
    exact ⟨place_real 0 0 z0 le_rfl z1 _ i.isLt, place_real 0 0 z0 le_rfl z1 _ i.isLt⟩
  · rw [e, e, e, e]
    exact ⟨place_real _ _ (hN.x0 b w) (hR.x b w).le (hN.x2 b w) _ i.isLt, place_real _ _ (hN.y0 b w) (hR.y b w).le (hN.y2 b w) _ i.isLt⟩

/-- What holds of the places after `k` trips. -/
structure Sampled (R : Rects) (k : ℕ) (V : Valuation τ sig (Elt Ideal)) : Prop where
  at_x : ∀ j : Fin 100, j.val < k → ∀ (b : Fin 4) (l : Fin 24), placesR V (ix4 j b 0 l) = placeE (words R b 0 j.val) (words R b 2 j.val) l.val
  at_y : ∀ j : Fin 100, j.val < k → ∀ (b : Fin 4) (l : Fin 24), placesR V (ix4 j b 1 l) = placeE (words R b 1 j.val) (words R b 3 j.val) l.val
  near : Near R → ∀ j : Fin 100, j.val < k → ∀ (b : Fin 4) (l : Fin 24),
    (∃ x : ℝ, placeE (words R b 0 j.val) (words R b 2 j.val) l.val = (x : EReal) ∧ x ≤ 511)
      ∧ ∃ y : ℝ, placeE (words R b 1 j.val) (words R b 3 j.val) l.val = (y : EReal) ∧ y ≤ 511

theorem Sampled.step {R : Rects} (hR : Proper R) {k : ℕ} (hk : k < 100) {V : Valuation τ sig (Elt Ideal)} (h : Inv R k V) (s : Sampled R k V) :
    Sampled R (k + 1) (STEP V) where
  at_x j hj b l := by
    refine (congrFun (STEP_main_v18_7 V) (ix4 j b 0 l)).trans ((Reference.places_at V j b 0 l k hk h.count).trans ?_)
    by_cases e : j.val = k
    · rw [if_pos e, e]
      exact congrArg₂ (fun lo hi => placeE lo hi l.val) (row_word hR h b 0) (row_word hR h b 2)
    · rw [if_neg e]
      exact s.at_x j (by omega) b l
  at_y j hj b l := by
    refine (congrFun (STEP_main_v18_7 V) (ix4 j b 1 l)).trans ((Reference.places_at V j b 1 l k hk h.count).trans ?_)
    by_cases e : j.val = k
    · rw [if_pos e, e]
      exact congrArg₂ (fun lo hi => placeE lo hi l.val) (row_word hR h b 1) (row_word hR h b 3)
    · rw [if_neg e]
      exact s.at_y j (by omega) b l
  near hN j hj b l := by
    by_cases e : j.val = k
    · rw [e]
      exact word_place hR hN h b l
    · exact s.near hN j (by omega) b l

theorem sampled_all (m : (ℓ : Loc nD τ sig) → Buf (Elt Ideal) ℓ) (c : Dev nD) (hR : Proper (rectsArg m c)) :
    ∀ k, k ≤ 100 → Sampled (rectsArg m c) k (STEP^[k] (start m c))
  | 0, _ => ⟨fun j hj => absurd hj (Nat.not_lt_zero _), fun j hj => absurd hj (Nat.not_lt_zero _), fun _ j hj => absurd hj (Nat.not_lt_zero _)⟩
  | k + 1, h => by
    rw [Function.iterate_succ_apply']
    exact (sampled_all m c hR k (by omega)).step hR (by omega) (inv_all m c hR k (by omega))

/-- Two hats, one down and one across, pick the four pixels about the place and blend them. -/
theorem hats_blend (g : Fin 512 → Fin 512 → EReal) (sy sx : EReal) (hy : ∃ y : ℝ, sy = (y : EReal) ∧ y ≤ 511) (hx : ∃ x : ℝ, sx = (x : EReal) ∧ x ≤ 511) :
    (∑ r : Fin 512, hat r.val (max sy 0) * ∑ k : Fin 512, g r k * hat k.val (max sx 0)) = blended g sy sx := by
  obtain ⟨y, rfl, hy⟩ := hy
  obtain ⟨x, rfl, hx⟩ := hx
  simp only [blend x hx]
  simp only [mul_comm (hat _ _)]
  exact blend y hy _

abbrev imgArg (m : (ℓ : Loc nD τ sig) → Buf (Elt Ideal) ℓ) (c : Dev nD) : FVec Ideal S4x512x512x3 .f32 := m ((c.tc : Thread nD τ).loc main_arg1)

/-- The reference's crops are the kernel's. -/
theorem crops_same (m : (ℓ : Loc nD τ sig) → Buf (Elt Ideal) ℓ) (c : Dev nD) (hR : Proper (rectsArg m c)) (hN : Near (rectsArg m c))
    (b : Fin 4) (n : Fin 100) (i j : Fin 24) (k : Fin 3) :
    (out_main_v101 (STEP^[100] (start m c)) : FVec Ideal S4x100x24x24x3 .f32) (ix5 b n i j k)
      = cropS (planesH (rectsArg m c)) (coordsH (rectsArg m c)) (imageH (imgArg m c)) (ValueIdx.ix5 b k n i j) := by
  have h := sampled_all m c hR 100 le_rfl
  have hi : imgR (STEP^[100] (start m c)) = imgArg m c := iter_main_arg1 m c 100
  rw [Reference.crop_at, KernelIdeal.crop_at, hi, h.at_x n n.isLt, h.at_y n n.isLt,
    ← hats_blend _ _ _ (h.near hN n n.isLt b i).2 (h.near hN n n.isLt b j).1]
  simp only [imageH_at]

end Cert.Proof.Join
-- ==== Proof.V.Inside.lean ====
module

public import proofs.«01_k».proof.Pre_boxes_end_inside
public import Idealize.ShloMosaic.PureOps.Ideal.Laws
public import Idealize.ShloMosaic.Lib.ReduceAll
public import Idealize.ShloMosaic.Lib.ValueIdxCore
public import Idealize.ShloMosaic.Lib.Pointwise
public import Idealize.ShloMosaic.Lib.Pointwise.Reshape
public import Idealize.ShloMosaic.Lib.WordCmp

/-! The second precondition, read box by box: the first one's parts, and every box ends by 512 and starts no further than
`2^30` before the image. -/

@[expose] public section

set_option maxRecDepth 16384
set_option maxHeartbeats 400000

noncomputable section

namespace Cert.Pre_boxes_end_inside

open Idealize.ShloMosaic

/-- The shapes the condition's operations meet are as they should be. -/
theorem facts_hold : Facts where
  slices_S4x20000x5_S4x20000x1_0_0_0 := by decide
  shapeCasts_S4x20000x1_S4x20000 := by decide
  slices_S4x20000x5_S4x20000x1_0_0_1 := by decide
  slices_S4x20000x5_S4x20000x1_0_0_2 := by decide
  slices_S4x20000x5_S4x20000x1_0_0_3 := by decide
  slices_S4x20000x5_S4x20000x1_0_0_4 := by decide
  bcast_S_S4x20000 := by decide
  bcast_S4x20000_S4x20000x1_0_1 := by decide
  bcast_S4x20000_S4x1x20000_0_2 := by decide
  bcast_S20000_S20000x1_0 := by decide
  bcast_S20000_S1x20000_1 := by decide
  bcast_S20000x1_S20000x20000_0_1 := by decide
  bcast_S1x20000_S20000x20000_0_1 := by decide
  bcast_S20000x20000_S1x20000x20000_1_2 := by decide
  bcast_S4x20000x1_S4x20000x20000_0_1_2 := by decide
  bcast_S4x1x20000_S4x20000x20000_0_1_2 := by decide
  bcast_S_S4x20000x1 := by decide
  bcast_S1x20000x20000_S4x20000x20000_0_1_2 := by decide
  reducesTo_S4x20000_S_d0_1 := by decide
  h_S_ := by decide
  reducesTo_S4x20000x20000_S_d0_1_2 := by decide

variable [Facts]
open Facts

instance : Subsingleton S_.Idx := ⟨fun a b => funext fun x => x.elim0⟩

theorem ofBool_one (p : Bool) : BitVec.ofBool p = 1#1 ↔ p = true := by cases p <;> decide

/-- The three conditions under the one word. -/
theorem parts (R : FVec Ideal S4x20000x5 .f32) (I : FVec Ideal S4x512x512x3 .f32) (h : fn (F := Ideal) R I ix0 = 1#1) :
    ((∀ (b : Fin 4) (n : Fin 20000), (Ideal.ofBits .f32 0xFF800000#32 < R (ix3 b n 0) ∧ R (ix3 b n 0) < R (ix3 b n 2)
        ∧ R (ix3 b n 2) < Ideal.ofBits .f32 0x7F800000#32)
      ∧ Ideal.ofBits .f32 0xFF800000#32 < R (ix3 b n 1) ∧ R (ix3 b n 1) < R (ix3 b n 3) ∧ R (ix3 b n 3) < Ideal.ofBits .f32 0x7F800000#32)
    ∧ ∀ (b : Fin 4) (n k : Fin 20000), R (ix3 b n 4) = R (ix3 b k 4) → R (ix3 b n 4) ≠ Ideal.ofBits .f32 0xFF800000#32 → n = k)
    ∧ ∀ (b : Fin 4) (n : Fin 20000), Ideal.ofBits .f32 0xCE800000#32 ≤ R (ix3 b n 0) ∧ Ideal.ofBits .f32 0xCE800000#32 ≤ R (ix3 b n 1)
        ∧ R (ix3 b n 2) ≤ Ideal.ofBits .f32 0x44000000#32 ∧ R (ix3 b n 3) ≤ Ideal.ofBits .f32 0x44000000#32 := by
  unfold fn fn_part1 fn_part2 fn_part3 at h
  have h'' := IntOp.andi_eq_one.1 h
  have h' := IntOp.andi_eq_one.1 h''.1
  refine ⟨⟨fun b n => ?_, fun b n k => ?_⟩, fun b n => ?_⟩
  · have e := Host.reduce_andi_all _ _ _ _ _ h'.1 (ix2 b n)
    revert e
    pointwise
    simp only [IntOp.andi_eq_one, ofBool_one, decide_eq_true_eq, and_assoc]
    exact fun e => e
  · have e := Host.reduce_andi_all _ _ _ _ _ h'.2 (ix3 b n k)
    revert e
    pointwise
    simp only [IntOp.ori_eq_one, ofBool_one, decide_eq_true_eq, IntOp.cmpi_eq]
    rintro ((e | e) | e) e' e''
    · exact absurd e' e
    · exact absurd e e''
    · have := congrArg BitVec.toNat e
      simp only [BitVec.toNat_ofNat] at this
      have := n.isLt
      have := k.isLt
      exact Fin.ext (by omega)
  · have e := Host.reduce_andi_all _ _ _ _ _ h''.2 (ix2 b n)
    revert e
    pointwise
    simp only [IntOp.andi_eq_one, ofBool_one, decide_eq_true_eq, and_assoc]
    exact fun e => e

end Cert.Pre_boxes_end_inside
-- ==== Proof.V.Whole.lean ====
module

public import proofs.«01_k».proof.Proof.V.Final
public import proofs.«01_k».proof.Proof.V.CropRows
public import proofs.«01_k».proof.Proof.V.Inside

/-! Rows and crops of the two programs are equal when the boxes end inside the image. -/

@[expose] public section

set_option maxRecDepth 16384
set_option maxHeartbeats 400000

noncomputable section

namespace Cert.Proof

open Idealize.ShloMosaic Idealize.ShloMosaic.TcCoe Idealize.SL.Sem
open Cert.Proof.KernelIdeal Cert.Proof.Reference Cert.Proof.Join

/-- The second precondition in words. -/
theorem inside_of_pre (hF : Cert.Pre_boxes_end_inside.Facts) (R : Rects) (I : FVec Ideal Cert.Pre_boxes_end_inside.S4x512x512x3 .f32)
    (h : Cert.Pre_boxes_end_inside.fn (F := Ideal) R I = fun _ => 1#1) : Proper R ∧ Near R := by
  obtain ⟨⟨hb, hs⟩, hn⟩ := Cert.Pre_boxes_end_inside.parts R I (congrFun h ix0)
  simp only [Reference.neg_inf, Reference.pos_inf] at hb hs
  simp only [Hat.far_before, Hat.five_twelve] at hn
  exact ⟨{
    x0 := fun b n => (hb b n).1.1
    x := fun b n => (hb b n).1.2.1
    x2 := fun b n => (hb b n).1.2.2
    y0 := fun b n => (hb b n).2.1
    y := fun b n => (hb b n).2.2.1
    y2 := fun b n => (hb b n).2.2.2
    apart := hs }, {
    x0 := fun b n => (hn b n).1
    y0 := fun b n => (hn b n).2.1
    x2 := fun b n => (hn b n).2.2.1
    y2 := fun b n => (hn b n).2.2.2 }⟩

section

open Cert.KernelIdeal Cert.KernelIdeal.Gen

/-- The kernel runs, ends with its crops and rows as computed and its arguments as they were. -/
theorem kernel_both (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = cropsK m c
      ∧ r.2.mem ((c.tc : Thread nD τ).loc main_v9_1) = rowsK m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).2 main_v10 (Pipeline.mem_restRefs_of main_v10 (by decide) (by decide))).trans (final_crops m c),
      ((h.1 c).1 4).trans (final_rows m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩)
    (run_main m ρ)

end

theorem quiet_kernelIdeal_inside (hF : Cert.Pre_boxes_end_inside.Facts) :
    Cert.quiescent_KernelIdeal_pre_boxes_end_inside (hKernelIdeal := Cert.KernelIdeal.Gen.facts) (hPre_boxes_end_inside := hF) :=
  fun m g _ => kernel_quiet m g

theorem quiet_referenceIdeal_inside (hF : Cert.Pre_boxes_end_inside.Facts) :
    Cert.quiescent_ReferenceIdeal_pre_boxes_end_inside (hReferenceIdeal := Cert.ReferenceIdeal.Gen.facts) (hPre_boxes_end_inside := hF) :=
  fun m g _ => reference_quiet m g

/-- Crops and rows agree, over the extended reals, under the second precondition. -/
theorem both_equal (hF : Cert.Pre_boxes_end_inside.Facts) :
    Cert.algebraic_KernelIdeal_ReferenceIdeal_pre_boxes_end_inside (hKernelIdeal := Cert.KernelIdeal.Gen.facts)
      (hReferenceIdeal := Cert.ReferenceIdeal.Gen.facts) (hPre_boxes_end_inside := hF) := by
  intro m g m' g' hp ha
  refine ⟨fun c => cropsK m c, fun c => rowsK m c, kernel_both m g, ?_⟩
  refine (θ_run Cert.ReferenceIdeal.defs _ _).mono
    (fun r h c => ⟨(h c).1.trans ?_, (h c).2.1.trans ?_, (h c).2.2⟩) (Cert.ReferenceIdeal.Value.run m' g')
  · obtain ⟨hR, hN⟩ := inside_of_pre hF (rectsK m c) _ (hp c)
    have e : rectsArg m' c = rectsK m c := (ha c).1
    have e' : imgArg m' c = imgK m c := (ha c).2
    have same := crops_same m' c (e ▸ hR) (e ▸ hN)
    rw [e, e'] at same
    have split : ∀ y : Cert.ReferenceIdeal.S4x100x24x24x3.Idx, y = ix5 (y 0) (y 1) (y 2) (y 3) (y 4) := fun y => funext fun a => by
      match a with
      | ⟨0, _⟩ => rfl
      | ⟨1, _⟩ => rfl
      | ⟨2, _⟩ => rfl
      | ⟨3, _⟩ => rfl
      | ⟨4, _⟩ => rfl
    have key : ∀ (b : Fin 4) (n : Fin 100) (i j : Fin 24) (k : Fin 3),
        (Cert.ReferenceIdeal.Value.out_main_v101 (Nat.iterate Cert.ReferenceIdeal.Value.STEP 100 (start m' c)) : FVec Ideal Cert.ReferenceIdeal.S4x100x24x24x3 .f32)
          (ix5 b n i j k) = cropsK m c (ix5 b n i j k) := fun b n i j k =>
      (same b n i j k).trans (cropsK_at m c b n i j k).symm
    exact funext fun y => (split y) ▸ key (y 0) (y 1) (y 2) (y 3) (y 4)
  · obtain ⟨hR, hN⟩ := inside_of_pre hF (rectsK m c) _ (hp c)
    have e : rectsArg m' c = rectsK m c := (ha c).1
    have same := rows_same m' c (e ▸ hR)
    rw [e] at same
    exact same

end Cert.Proof
-- ==== Proof.lean ====
module

public import proofs.«01_k».proof.Proof.V.Whole
public import proofs.«01_k».proof.Proof.Gen.ReferenceIdeal

/-!
# The certificate
-/

@[expose] public section

namespace Cert.Proof

theorem claim : Cert.Claim :=
  ⟨Cert.Kernel.Gen.facts, Cert.KernelIdeal.Gen.facts, Cert.ReferenceIdeal.Gen.facts,
    Cert.Pre_boxes_proper_scores_apart.facts_hold, Cert.Pre_boxes_end_inside.facts_hold, Cert.On_rows_only.facts_hold,
    quiet_kernel, quiet_kernelIdeal, quiet_kernelIdeal_pre _, quiet_kernelIdeal_inside _,
    quiet_referenceIdeal, quiet_referenceIdeal_pre _, quiet_referenceIdeal_inside _, trivial,
    rows_equal _ _, both_equal _⟩

end Cert.Proof

end
